-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_depths_below_infinity [hPre_depths_below_infinity : Cert.Pre_depths_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_depths_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_depths_below_infinity [hPre_depths_below_infinity : Cert.Pre_depths_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_depths_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_depths_below_infinity [hKernelIdeal : Cert.KernelIdeal.Facts] [hPre_depths_below_infinity : Cert.Pre_depths_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_depths_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_depths_below_infinity [hReferenceIdeal : Cert.ReferenceIdeal.Facts] [hPre_depths_below_infinity : Cert.Pre_depths_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_depths_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_depths_below_infinity [hKernelIdeal : Cert.KernelIdeal.Facts] [hReferenceIdeal : Cert.ReferenceIdeal.Facts] [hPre_depths_below_infinity : Cert.Pre_depths_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_depths_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_depths_below_infinity : Cert.Pre_depths_below_infinity.Facts),
    quiescent_Kernel (hKernel := hKernel)
    ∧ quiescent_KernelIdeal (hKernelIdeal := hKernelIdeal)
    ∧ quiescent_KernelIdeal_pre_depths_below_infinity (hKernelIdeal := hKernelIdeal) (hPre_depths_below_infinity := hPre_depths_below_infinity)
    ∧ quiescent_ReferenceIdeal (hReferenceIdeal := hReferenceIdeal)
    ∧ quiescent_ReferenceIdeal_pre_depths_below_infinity (hReferenceIdeal := hReferenceIdeal) (hPre_depths_below_infinity := hPre_depths_below_infinity)
    ∧ preserves_Kernel_KernelIdeal
    ∧ algebraic_KernelIdeal_ReferenceIdeal_pre_depths_below_infinity (hKernelIdeal := hKernelIdeal) (hReferenceIdeal := hReferenceIdeal) (hPre_depths_below_infinity := hPre_depths_below_infinity)
-- ==== Pre_depths_below_infinity.lean ====
abbrev S32x512x261 : Shape := ⟨3, ![32, 512, 261]⟩
abbrev S256x4x64x64 : Shape := ⟨4, ![256, 4, 64, 64]⟩
abbrev S1x512x1 : Shape := ⟨3, ![1, 512, 1]⟩
abbrev S512 : Shape := ⟨1, ![512]⟩
abbrev S_ : Shape := ⟨0, ![]⟩

class Facts : Prop where
  slices_S32x512x261_S1x512x1_31_0_4 : S32x512x261.Slices ![31, 0, 4] S1x512x1
  shapeCasts_S1x512x1_S512 : S1x512x1.ShapeCasts S512
  bcast_S_S512 : S_.BroadcastsInDim S512 (![] : Fin 0 → Fin S512.rank)

variable [Facts]

def fn {F : FTy → Type} [FloatOps F] (main_arg0 : FVec F S32x512x261 .f32) (main_arg1 : FVec F S256x4x64x64 .f32) : IVec S512 1 :=
  let main_v0 : FVec F S1x512x1 .f32 := (extractStridedSlice S1x512x1 ![31, 0, 4] · slices_S32x512x261_S1x512x1_31_0_4) main_arg0
  let main_v1 : FVec F S512 .f32 := shapeCast S512 main_v0 shapeCasts_S1x512x1_S512
  let main_cst : FVec F S_ .f32 := constant S_ .f32 0x7F800000#32
  let main_v2 : FVec F S512 .f32 := broadcastInDim S512 ![] bcast_S_S512 main_cst
  let main_v3 : IVec S512 1 := cmpf .olt main_v1 main_v2
  main_v3
-- ==== Kernel.lean ====
abbrev S32x512x261 : Shape := ⟨3, ![32, 512, 261]⟩
abbrev S256x4x64x64 : Shape := ⟨4, ![256, 4, 64, 64]⟩
abbrev S1x512x261 : Shape := ⟨3, ![1, 512, 261]⟩
abbrev S512x261 : Shape := ⟨2, ![512, 261]⟩
abbrev S512x1 : Shape := ⟨2, ![512, 1]⟩
abbrev S512 : Shape := ⟨1, ![512]⟩
abbrev S_ : Shape := ⟨0, ![]⟩
abbrev S512x256 : Shape := ⟨2, ![512, 256]⟩
abbrev S1 : Shape := ⟨1, ![1]⟩
abbrev S32x3x512x512 : Shape := ⟨4, ![32, 3, 512, 512]⟩
abbrev S1x3x512x512 : Shape := ⟨4, ![1, 3, 512, 512]⟩
abbrev S4x512x512 : Shape := ⟨3, ![4, 512, 512]⟩
abbrev S4x64x64 : Shape := ⟨3, ![4, 64, 64]⟩
abbrev S1x4x64x64 : Shape := ⟨4, ![1, 4, 64, 64]⟩
abbrev S4x72x512 : Shape := ⟨3, ![4, 72, 512]⟩
abbrev S4x64x448 : Shape := ⟨3, ![4, 64, 448]⟩
abbrev S4x64x512 : Shape := ⟨3, ![4, 64, 512]⟩
abbrev S4x8x512 : Shape := ⟨3, ![4, 8, 512]⟩
abbrev S72x512 : Shape := ⟨2, ![72, 512]⟩
abbrev S1x72x512 : Shape := ⟨3, ![1, 72, 512]⟩
abbrev S3x72x512 : Shape := ⟨3, ![3, 72, 512]⟩
abbrev S3x512x512 : Shape := ⟨3, ![3, 512, 512]⟩

abbrev nBuf : Space → Nat
  | .hbm => 192
  | .vmem => 4
  | .smem => 4
  | _ => 0

abbrev hbmTy0_0 (i : Nat) : BufTy := match i % 128 with
  | 0 => ⟨S32x512x261, .f32⟩
  | 1 => ⟨S256x4x64x64, .f32⟩
  | 2 => ⟨S1x512x261, .f32⟩
  | 3 => ⟨S512x261, .f32⟩
  | 4 => ⟨S512x1, .f32⟩
  | 5 => ⟨S512, .f32⟩
  | 6 => ⟨S_, .f32⟩
  | 7 => ⟨S512, .f32⟩
  | 8 => ⟨S512, .f32⟩
  | 9 => ⟨S512, .f32⟩
  | 10 => ⟨S512, .i32⟩
  | 11 => ⟨S512x1, .f32⟩
  | 12 => ⟨S512, .f32⟩
  | 13 => ⟨S_, .f32⟩
  | 14 => ⟨S512, .f32⟩
  | 15 => ⟨S512, .f32⟩
  | 16 => ⟨S512, .f32⟩
  | 17 => ⟨S512, .i32⟩
  | 18 => ⟨S512x1, .f32⟩
  | 19 => ⟨S512, .f32⟩
  | 20 => ⟨S_, .f32⟩
  | 21 => ⟨S512, .f32⟩
  | 22 => ⟨S512, .f32⟩
  | 23 => ⟨S512, .f32⟩
  | 24 => ⟨S512, .i32⟩
  | 25 => ⟨S512x1, .f32⟩
  | 26 => ⟨S512, .f32⟩
  | 27 => ⟨S_, .f32⟩
  | 28 => ⟨S512, .f32⟩
  | 29 => ⟨S512, .f32⟩
  | 30 => ⟨S512, .f32⟩
  | 31 => ⟨S512, .i32⟩
  | 32 => ⟨S512x1, .f32⟩
  | 33 => ⟨S512, .f32⟩
  | 34 => ⟨S512x256, .f32⟩
  | 35 => ⟨S_, .i32⟩
  | 36 => ⟨S_, .i32⟩
  | 37 => ⟨S512, .i32⟩
  | 38 => ⟨S512, .i32⟩
  | 39 => ⟨S512, .i32⟩
  | 40 => ⟨S_, .i32⟩
  | 41 => ⟨S512, .i32⟩
  | 42 => ⟨S512, .i1⟩
  | 43 => ⟨S512, .i32⟩
  | 44 => ⟨S512, .i32⟩
  | 45 => ⟨S_, .i32⟩
  | 46 => ⟨S512, .i32⟩
  | 47 => ⟨S512, .i1⟩
  | 48 => ⟨S512, .i1⟩
  | 49 => ⟨S_, .i32⟩
  | 50 => ⟨S512, .i32⟩
  | 51 => ⟨S512, .i32⟩
  | 52 => ⟨S512, .i32⟩
  | 53 => ⟨S512, .i32⟩
  | 54 => ⟨S_, .i32⟩
  | 55 => ⟨S_, .i32⟩
  | 56 => ⟨S512, .i32⟩
  | 57 => ⟨S512, .i32⟩
  | 58 => ⟨S512, .i32⟩
  | 59 => ⟨S_, .i32⟩
  | 60 => ⟨S512, .i32⟩
  | 61 => ⟨S512, .i1⟩
  | 62 => ⟨S512, .i32⟩
  | 63 => ⟨S512, .i32⟩
  | 64 => ⟨S_, .i32⟩
  | 65 => ⟨S512, .i32⟩
  | 66 => ⟨S512, .i1⟩
  | 67 => ⟨S512, .i1⟩
  | 68 => ⟨S_, .i32⟩
  | 69 => ⟨S512, .i32⟩
  | 70 => ⟨S512, .i32⟩
  | 71 => ⟨S512, .i32⟩
  | 72 => ⟨S512, .i32⟩
  | 73 => ⟨S_, .i32⟩
  | 74 => ⟨S512, .i32⟩
  | 75 => ⟨S512, .i32⟩
  | 76 => ⟨S_, .i32⟩
  | 77 => ⟨S_, .i32⟩
  | 78 => ⟨S512, .i32⟩
  | 79 => ⟨S512, .i32⟩
  | 80 => ⟨S512, .i32⟩
  | 81 => ⟨S_, .i32⟩
  | 82 => ⟨S512, .i32⟩
  | 83 => ⟨S512, .i1⟩
  | 84 => ⟨S512, .i32⟩
  | 85 => ⟨S512, .i32⟩
  | 86 => ⟨S_, .i32⟩
  | 87 => ⟨S512, .i32⟩
  | 88 => ⟨S512, .i1⟩
  | 89 => ⟨S512, .i1⟩
  | 90 => ⟨S_, .i32⟩
  | 91 => ⟨S512, .i32⟩
  | 92 => ⟨S512, .i32⟩
  | 93 => ⟨S512, .i32⟩
  | 94 => ⟨S512, .i32⟩
  | 95 => ⟨S_, .i32⟩
  | 96 => ⟨S512, .i32⟩
  | 97 => ⟨S512, .i32⟩
  | 98 => ⟨S_, .i32⟩
  | 99 => ⟨S_, .i32⟩
  | 100 => ⟨S512, .i32⟩
  | 101 => ⟨S512, .i32⟩
  | 102 => ⟨S512, .i32⟩
  | 103 => ⟨S_, .i32⟩
  | 104 => ⟨S512, .i32⟩
  | 105 => ⟨S512, .i1⟩
  | 106 => ⟨S512, .i32⟩
  | 107 => ⟨S512, .i32⟩
  | 108 => ⟨S_, .i32⟩
  | 109 => ⟨S512, .i32⟩
  | 110 => ⟨S512, .i1⟩
  | 111 => ⟨S512, .i1⟩
  | 112 => ⟨S_, .i32⟩
  | 113 => ⟨S512, .i32⟩
  | 114 => ⟨S512, .i32⟩
  | 115 => ⟨S512, .i32⟩
  | 116 => ⟨S512, .i32⟩
  | 117 => ⟨S_, .i32⟩
  | 118 => ⟨S512, .i32⟩
  | 119 => ⟨S512, .i1⟩
  | 120 => ⟨S_, .i32⟩
  | 121 => ⟨S512, .i32⟩
  | 122 => ⟨S512, .i1⟩
  | 123 => ⟨S512, .i1⟩
  | 124 => ⟨S_, .i32⟩
  | 125 => ⟨S512, .i32⟩
  | 126 => ⟨S512, .i1⟩
  | 127 => ⟨S512, .i1⟩
  | _ => ⟨S32x512x261, .f32⟩

abbrev hbmTy0_1 (i : Nat) : BufTy := match i % 128 with
  | 0 => ⟨S_, .i32⟩
  | 1 => ⟨S512, .i32⟩
  | 2 => ⟨S512, .i1⟩
  | 3 => ⟨S512, .i1⟩
  | 4 => ⟨S512x256, .i32⟩
  | 5 => ⟨S_, .f32⟩
  | 6 => ⟨S_, .i32⟩
  | 7 => ⟨S512, .f32⟩
  | 8 => ⟨S512, .i32⟩
  | 9 => ⟨S_, .i32⟩
  | 10 => ⟨S_, .i32⟩
  | 11 => ⟨S_, .i32⟩
  | 12 => ⟨S512, .i32⟩
  | 13 => ⟨S512, .i32⟩
  | 14 => ⟨S_, .i32⟩
  | 15 => ⟨S512, .i32⟩
  | 16 => ⟨S512, .i32⟩
  | 17 => ⟨S_, .i32⟩
  | 18 => ⟨S_, .i32⟩
  | 19 => ⟨S_, .i32⟩
  | 20 => ⟨S512, .i32⟩
  | 21 => ⟨S512, .i32⟩
  | 22 => ⟨S_, .i32⟩
  | 23 => ⟨S512, .i32⟩
  | 24 => ⟨S512, .i32⟩
  | 25 => ⟨S_, .f32⟩
  | 26 => ⟨S_, .f32⟩
  | 27 => ⟨S512, .f32⟩
  | 28 => ⟨S512, .f32⟩
  | 29 => ⟨S512, .i32⟩
  | 30 => ⟨S512, .f32⟩
  | 31 => ⟨S512, .i32⟩
  | 32 => ⟨S512, .i32⟩
  | 33 => ⟨S_, .i32⟩
  | 34 => ⟨S_, .i32⟩
  | 35 => ⟨S1, .i32⟩
  | 36 => ⟨S_, .i32⟩
  | 37 => ⟨S512, .i32⟩
  | 38 => ⟨S512, .i1⟩
  | 39 => ⟨S_, .i32⟩
  | 40 => ⟨S512, .i32⟩
  | 41 => ⟨S512, .i32⟩
  | 42 => ⟨S512, .i32⟩
  | 43 => ⟨S512x1, .i32⟩
  | 44 => ⟨S512, .i32⟩
  | 45 => ⟨S_, .i32⟩
  | 46 => ⟨S512, .i32⟩
  | 47 => ⟨S512, .i1⟩
  | 48 => ⟨S_, .i32⟩
  | 49 => ⟨S512, .i32⟩
  | 50 => ⟨S512, .i32⟩
  | 51 => ⟨S512, .i32⟩
  | 52 => ⟨S512x1, .i32⟩
  | 53 => ⟨S512, .i32⟩
  | 54 => ⟨S_, .i32⟩
  | 55 => ⟨S512, .i32⟩
  | 56 => ⟨S512, .i1⟩
  | 57 => ⟨S_, .i32⟩
  | 58 => ⟨S512, .i32⟩
  | 59 => ⟨S512, .i32⟩
  | 60 => ⟨S512, .i32⟩
  | 61 => ⟨S512x1, .i32⟩
  | 62 => ⟨S512, .i32⟩
  | 63 => ⟨S32x3x512x512, .f32⟩
  | _ => ⟨S32x512x261, .f32⟩

abbrev hbmTy (i : Nat) : BufTy := match i / 128 with
  | 0 => hbmTy0_0 i
  | 1 => hbmTy0_1 i
  | _ => ⟨S32x512x261, .f32⟩

abbrev bufTy : (tb : Table) → Fin (tcTables nBuf tb) → BufTy
  | .hbm, ⟨i, _⟩ => hbmTy i
  | .local _ .vmem, ⟨0, _⟩ => ⟨S1x3x512x512, .f32⟩
  | .local _ .vmem, ⟨1, _⟩ => ⟨S1x3x512x512, .f32⟩
  | .local _ .vmem, ⟨2, _⟩ => ⟨S4x512x512, .f32⟩
  | .local _ .vmem, ⟨3, _⟩ => ⟨S4x64x64, .f32⟩
  | .local _ .smem, ⟨0, _⟩ => ⟨S1, .i32⟩
  | .local _ .smem, ⟨1, _⟩ => ⟨S512, .i32⟩
  | .local _ .smem, ⟨2, _⟩ => ⟨S512, .i32⟩
  | .local _ .smem, ⟨3, _⟩ => ⟨S512, .i32⟩
  | _, _ => ⟨S32x512x261, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c : Ref sig .tc := ⟨.hbm, 35, rfl⟩
abbrev main_call4_v0 : Ref sig .tc := ⟨.hbm, 36, rfl⟩
abbrev main_call4_v1 : Ref sig .tc := ⟨.hbm, 37, rfl⟩
abbrev main_call4_v2 : Ref sig .tc := ⟨.hbm, 38, rfl⟩
abbrev main_call4_v3 : Ref sig .tc := ⟨.hbm, 39, rfl⟩
abbrev main_call4_v4 : Ref sig .tc := ⟨.hbm, 40, rfl⟩
abbrev main_call4_v5 : Ref sig .tc := ⟨.hbm, 41, rfl⟩
abbrev main_call4_v6 : Ref sig .tc := ⟨.hbm, 42, rfl⟩
abbrev main_call4_v7 : Ref sig .tc := ⟨.hbm, 43, rfl⟩
abbrev main_call4_v8 : Ref sig .tc := ⟨.hbm, 44, rfl⟩
abbrev main_call4_c : Ref sig .tc := ⟨.hbm, 45, rfl⟩
abbrev main_call4_v9 : Ref sig .tc := ⟨.hbm, 46, rfl⟩
abbrev main_call4_v10 : Ref sig .tc := ⟨.hbm, 47, rfl⟩
abbrev main_call4_v11 : Ref sig .tc := ⟨.hbm, 48, rfl⟩
abbrev main_call4_c_0 : Ref sig .tc := ⟨.hbm, 49, rfl⟩
abbrev main_call4_v12 : Ref sig .tc := ⟨.hbm, 50, rfl⟩
abbrev main_call4_v13 : Ref sig .tc := ⟨.hbm, 51, rfl⟩
abbrev main_v29 : Ref sig .tc := ⟨.hbm, 52, rfl⟩
abbrev main_v30 : Ref sig .tc := ⟨.hbm, 53, rfl⟩
abbrev main_c_3 : Ref sig .tc := ⟨.hbm, 54, rfl⟩
abbrev main_call5_v0 : Ref sig .tc := ⟨.hbm, 55, rfl⟩
abbrev main_call5_v1 : Ref sig .tc := ⟨.hbm, 56, rfl⟩
abbrev main_call5_v2 : Ref sig .tc := ⟨.hbm, 57, rfl⟩
abbrev main_call5_v3 : Ref sig .tc := ⟨.hbm, 58, rfl⟩
abbrev main_call5_v4 : Ref sig .tc := ⟨.hbm, 59, rfl⟩
abbrev main_call5_v5 : Ref sig .tc := ⟨.hbm, 60, rfl⟩
abbrev main_call5_v6 : Ref sig .tc := ⟨.hbm, 61, rfl⟩
abbrev main_call5_v7 : Ref sig .tc := ⟨.hbm, 62, rfl⟩
abbrev main_call5_v8 : Ref sig .tc := ⟨.hbm, 63, rfl⟩
abbrev main_call5_c : Ref sig .tc := ⟨.hbm, 64, rfl⟩
abbrev main_call5_v9 : Ref sig .tc := ⟨.hbm, 65, rfl⟩
abbrev main_call5_v10 : Ref sig .tc := ⟨.hbm, 66, rfl⟩
abbrev main_call5_v11 : Ref sig .tc := ⟨.hbm, 67, rfl⟩
abbrev main_call5_c_0 : Ref sig .tc := ⟨.hbm, 68, rfl⟩
abbrev main_call5_v12 : Ref sig .tc := ⟨.hbm, 69, rfl⟩
abbrev main_call5_v13 : Ref sig .tc := ⟨.hbm, 70, rfl⟩
abbrev main_v31 : Ref sig .tc := ⟨.hbm, 71, rfl⟩
abbrev main_v32 : Ref sig .tc := ⟨.hbm, 72, rfl⟩
abbrev main_c_4 : Ref sig .tc := ⟨.hbm, 73, rfl⟩
abbrev main_v33 : Ref sig .tc := ⟨.hbm, 74, rfl⟩
abbrev main_v34 : Ref sig .tc := ⟨.hbm, 75, rfl⟩
abbrev main_c_5 : Ref sig .tc := ⟨.hbm, 76, rfl⟩
abbrev main_call6_v0 : Ref sig .tc := ⟨.hbm, 77, rfl⟩
abbrev main_call6_v1 : Ref sig .tc := ⟨.hbm, 78, rfl⟩
abbrev main_call6_v2 : Ref sig .tc := ⟨.hbm, 79, rfl⟩
abbrev main_call6_v3 : Ref sig .tc := ⟨.hbm, 80, rfl⟩
abbrev main_call6_v4 : Ref sig .tc := ⟨.hbm, 81, rfl⟩
abbrev main_call6_v5 : Ref sig .tc := ⟨.hbm, 82, rfl⟩
abbrev main_call6_v6 : Ref sig .tc := ⟨.hbm, 83, rfl⟩
abbrev main_call6_v7 : Ref sig .tc := ⟨.hbm, 84, rfl⟩
abbrev main_call6_v8 : Ref sig .tc := ⟨.hbm, 85, rfl⟩
abbrev main_call6_c : Ref sig .tc := ⟨.hbm, 86, rfl⟩
abbrev main_call6_v9 : Ref sig .tc := ⟨.hbm, 87, rfl⟩
abbrev main_call6_v10 : Ref sig .tc := ⟨.hbm, 88, rfl⟩
abbrev main_call6_v11 : Ref sig .tc := ⟨.hbm, 89, rfl⟩
abbrev main_call6_c_0 : Ref sig .tc := ⟨.hbm, 90, rfl⟩
abbrev main_call6_v12 : Ref sig .tc := ⟨.hbm, 91, rfl⟩
abbrev main_call6_v13 : Ref sig .tc := ⟨.hbm, 92, rfl⟩
abbrev main_v35 : Ref sig .tc := ⟨.hbm, 93, rfl⟩
abbrev main_v36 : Ref sig .tc := ⟨.hbm, 94, rfl⟩
abbrev main_c_6 : Ref sig .tc := ⟨.hbm, 95, rfl⟩
abbrev main_v37 : Ref sig .tc := ⟨.hbm, 96, rfl⟩
abbrev main_v38 : Ref sig .tc := ⟨.hbm, 97, rfl⟩
abbrev main_c_7 : Ref sig .tc := ⟨.hbm, 98, rfl⟩
abbrev main_call7_v0 : Ref sig .tc := ⟨.hbm, 99, rfl⟩
abbrev main_call7_v1 : Ref sig .tc := ⟨.hbm, 100, rfl⟩
abbrev main_call7_v2 : Ref sig .tc := ⟨.hbm, 101, rfl⟩
abbrev main_call7_v3 : Ref sig .tc := ⟨.hbm, 102, rfl⟩
abbrev main_call7_v4 : Ref sig .tc := ⟨.hbm, 103, rfl⟩
abbrev main_call7_v5 : Ref sig .tc := ⟨.hbm, 104, rfl⟩
abbrev main_call7_v6 : Ref sig .tc := ⟨.hbm, 105, rfl⟩
abbrev main_call7_v7 : Ref sig .tc := ⟨.hbm, 106, rfl⟩
abbrev main_call7_v8 : Ref sig .tc := ⟨.hbm, 107, rfl⟩
abbrev main_call7_c : Ref sig .tc := ⟨.hbm, 108, rfl⟩
abbrev main_call7_v9 : Ref sig .tc := ⟨.hbm, 109, rfl⟩
abbrev main_call7_v10 : Ref sig .tc := ⟨.hbm, 110, rfl⟩
abbrev main_call7_v11 : Ref sig .tc := ⟨.hbm, 111, rfl⟩
abbrev main_call7_c_0 : Ref sig .tc := ⟨.hbm, 112, rfl⟩
abbrev main_call7_v12 : Ref sig .tc := ⟨.hbm, 113, rfl⟩
abbrev main_call7_v13 : Ref sig .tc := ⟨.hbm, 114, rfl⟩
abbrev main_v39 : Ref sig .tc := ⟨.hbm, 115, rfl⟩
abbrev main_v40 : Ref sig .tc := ⟨.hbm, 116, rfl⟩
abbrev main_c_8 : Ref sig .tc := ⟨.hbm, 117, rfl⟩
abbrev main_v41 : Ref sig .tc := ⟨.hbm, 118, rfl⟩
abbrev main_v42 : Ref sig .tc := ⟨.hbm, 119, rfl⟩
abbrev main_c_9 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_c_10 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_c_11 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_call8_v0 : Ref sig .tc := ⟨.hbm, 132, rfl⟩
abbrev main_call8_cst : Ref sig .tc := ⟨.hbm, 133, rfl⟩
abbrev main_call8_c : Ref sig .tc := ⟨.hbm, 134, rfl⟩
abbrev main_call8_v1_0 : Ref sig .tc := ⟨.hbm, 135, rfl⟩
abbrev main_v52 : Ref sig .tc := ⟨.hbm, 136, rfl⟩
abbrev main_c_12 : Ref sig .tc := ⟨.hbm, 137, rfl⟩
abbrev main_c_13 : Ref sig .tc := ⟨.hbm, 138, rfl⟩
abbrev main_call9_v0 : Ref sig .tc := ⟨.hbm, 139, rfl⟩
abbrev main_call9_v1 : Ref sig .tc := ⟨.hbm, 140, rfl⟩
abbrev main_call9_v2 : Ref sig .tc := ⟨.hbm, 141, rfl⟩
abbrev main_call9_v3 : Ref sig .tc := ⟨.hbm, 142, rfl⟩
abbrev main_call9_v4 : Ref sig .tc := ⟨.hbm, 143, rfl⟩
abbrev main_v53 : Ref sig .tc := ⟨.hbm, 144, rfl⟩
abbrev main_c_14 : Ref sig .tc := ⟨.hbm, 145, rfl⟩
abbrev main_c_15 : Ref sig .tc := ⟨.hbm, 146, rfl⟩
abbrev main_call10_v0 : Ref sig .tc := ⟨.hbm, 147, rfl⟩
abbrev main_call10_v1 : Ref sig .tc := ⟨.hbm, 148, rfl⟩
abbrev main_call10_v2 : Ref sig .tc := ⟨.hbm, 149, rfl⟩
abbrev main_call10_v3 : Ref sig .tc := ⟨.hbm, 150, rfl⟩
abbrev main_call10_v4 : Ref sig .tc := ⟨.hbm, 151, rfl⟩
abbrev main_v54 : Ref sig .tc := ⟨.hbm, 152, rfl⟩
abbrev main_cst_16 : Ref sig .tc := ⟨.hbm, 153, rfl⟩
abbrev main_call11_v0 : Ref sig .tc := ⟨.hbm, 154, rfl⟩
abbrev main_call11_v1 : Ref sig .tc := ⟨.hbm, 155, rfl⟩
abbrev main_v55 : Ref sig .tc := ⟨.hbm, 156, rfl⟩
abbrev main_call12_v0 : Ref sig .tc := ⟨.hbm, 157, rfl⟩
abbrev main_call12_v1_0 : Ref sig .tc := ⟨.hbm, 158, rfl⟩
abbrev main_v56 : Ref sig .tc := ⟨.hbm, 159, rfl⟩
abbrev main_v57 : Ref sig .tc := ⟨.hbm, 160, rfl⟩
abbrev main_c_17 : Ref sig .tc := ⟨.hbm, 161, rfl⟩
abbrev main_v58 : Ref sig .tc := ⟨.hbm, 162, rfl⟩
abbrev main_v59 : Ref sig .tc := ⟨.hbm, 163, rfl⟩
abbrev main_c_18 : Ref sig .tc := ⟨.hbm, 164, rfl⟩
abbrev main_v60 : Ref sig .tc := ⟨.hbm, 165, rfl⟩
abbrev main_v61 : Ref sig .tc := ⟨.hbm, 166, rfl⟩
abbrev main_c_19 : Ref sig .tc := ⟨.hbm, 167, rfl⟩
abbrev main_v62 : Ref sig .tc := ⟨.hbm, 168, rfl⟩
abbrev main_v63 : Ref sig .tc := ⟨.hbm, 169, rfl⟩
abbrev main_v64 : Ref sig .tc := ⟨.hbm, 170, rfl⟩
abbrev main_v65 : Ref sig .tc := ⟨.hbm, 171, rfl⟩
abbrev main_v66 : Ref sig .tc := ⟨.hbm, 172, rfl⟩
abbrev main_c_20 : Ref sig .tc := ⟨.hbm, 173, rfl⟩
abbrev main_v67 : Ref sig .tc := ⟨.hbm, 174, rfl⟩
abbrev main_v68 : Ref sig .tc := ⟨.hbm, 175, rfl⟩
abbrev main_c_21 : Ref sig .tc := ⟨.hbm, 176, rfl⟩
abbrev main_v69 : Ref sig .tc := ⟨.hbm, 177, rfl⟩
abbrev main_v70 : Ref sig .tc := ⟨.hbm, 178, rfl⟩
abbrev main_v71 : Ref sig .tc := ⟨.hbm, 179, rfl⟩
abbrev main_v72 : Ref sig .tc := ⟨.hbm, 180, rfl⟩
abbrev main_v73 : Ref sig .tc := ⟨.hbm, 181, rfl⟩
abbrev main_c_22 : Ref sig .tc := ⟨.hbm, 182, rfl⟩
abbrev main_v74 : Ref sig .tc := ⟨.hbm, 183, rfl⟩
abbrev main_v75 : Ref sig .tc := ⟨.hbm, 184, rfl⟩
abbrev main_c_23 : Ref sig .tc := ⟨.hbm, 185, rfl⟩
abbrev main_v76 : Ref sig .tc := ⟨.hbm, 186, rfl⟩
abbrev main_v77 : Ref sig .tc := ⟨.hbm, 187, rfl⟩
abbrev main_v78 : Ref sig .tc := ⟨.hbm, 188, rfl⟩
abbrev main_v79 : Ref sig .tc := ⟨.hbm, 189, rfl⟩
abbrev main_v80 : Ref sig .tc := ⟨.hbm, 190, rfl⟩
abbrev main_v81 : Ref sig .tc := ⟨.hbm, 191, rfl⟩
abbrev cc0_stg4_0 : Ref sig .tc := ⟨.vmem, 0, rfl⟩
abbrev cc0_stg4_1 : Ref sig .tc := ⟨.vmem, 1, rfl⟩
abbrev cc0_scratch0 : Ref sig .tc := ⟨.vmem, 2, rfl⟩
abbrev cc0_scratch1 : Ref sig .tc := ⟨.vmem, 3, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32_0 : BitVec 32 := 31#32
  let v3 : BitVec 1 := Scalar.cmpi .eq arg0 c31_i32_0
  let v4 : BitVec 32 := Scalar.extui v3
  let c0_i32_1 : BitVec 32 := 0#32
  let v5 : BitVec 1 := Scalar.cmpi .ne v4 c0_i32_1
  v5

@[reducible] def k0_t1_loop (v10 : BitVec 32) : Scf.Loop 32 :=
  let c0_i32_6 : BitVec 32 := 0#32
  let v11 : BitVec 32 := Scalar.subi v10 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let c1_i32_7 : BitVec 32 := 1#32
  ⟨c0_i32_6, v15, c1_i32_7⟩

def k0_off1 (v10 : BitVec 32) (k0_t1 : Fin (k0_t1_loop v10).trips) : Fin 1 → Nat :=
  let c0_i32_6 : BitVec 32 := 0#32
  let c1_i32_7 : BitVec 32 := 1#32
  let arg10 : BitVec 32 := Scf.iv c0_i32_6 c1_i32_7 k0_t1
  let v20 : Index := Scalar.indexCast arg10
  ![v20.toNat]
def k0_off2 (v25 : BitVec 32) : Fin 4 → Nat :=
  let c0_i32_16 : BitVec 32 := 0#32
  let c0_i32_17 : BitVec 32 := 0#32
  let c0_i32_18 : BitVec 32 := 0#32
  ![v25.toNat, 0, 0, 0]

def k0_chk2 (i : grid0.Coords) (v25 : BitVec 32) : Prop :=
  (∀ (k0_h2 : k0_cond2 i = 1#1), ∀ a, (k0_off2 v25) a + S1x4x64x64.size a ≤ S256x4x64x64.size a)
theorem k0_off2_inb : ∀ (i : grid0.Coords) (v25 : BitVec 32) (k0_hw2 : k0_chk2 i v25), ∀ (k0_h2 : k0_cond2 i = 1#1), ∀ a, (k0_off2 v25) a + S1x4x64x64.size a ≤ S256x4x64x64.size a := fun i v25 k0_hw2 k0_h2 => k0_hw2 k0_h2

def k0_mult1 (v21 : BitVec 32) : BitVec 32 :=
  let c0_i32_22 : BitVec 32 := 0#32
  let v31 : BitVec 1 := Scalar.cmpi .sgt v21 c0_i32_22
  let v32 : BitVec 32 := Scalar.extui v31
  let c0_i32_23 : BitVec 32 := 0#32
  let v33 : BitVec 1 := Scalar.cmpi .slt v21 c0_i32_23
  let v34 : BitVec 32 := Scalar.extui v33
  let v35 : BitVec 32 := Scalar.subi v32 v34
  let c8_i32 : BitVec 32 := 8#32
  let c0_i32_24 : BitVec 32 := 0#32
  let v36 : BitVec 1 := Scalar.cmpi .sgt c8_i32 c0_i32_24
  let v37 : BitVec 32 := Scalar.extui v36
  let c0_i32_25 : BitVec 32 := 0#32
  let v38 : BitVec 1 := Scalar.cmpi .slt c8_i32 c0_i32_25
  let v39 : BitVec 32 := Scalar.extui v38
  let v40 : BitVec 32 := Scalar.subi v37 v39
  let v41 : BitVec 1 := Scalar.cmpi .ne v35 v40
  let v42 : BitVec 32 := Scalar.remsi v21 c8_i32
  let c0_i32_26 : BitVec 32 := 0#32
  let v43 : BitVec 1 := Scalar.cmpi .ne v42 c0_i32_26
  let v44 : BitVec 1 := Scalar.andi v41 v43
  let v30 : BitVec 32 := Scalar.divsi v21 c8_i32
  let c1_i32_27 : BitVec 32 := 1#32
  let v45 : BitVec 32 := Scalar.subi v30 c1_i32_27
  let v46 : BitVec 32 := Scalar.select v44 v45 v30
  let c8_i32_28 : BitVec 32 := 8#32
  let v47 : BitVec 32 := Scalar.muli v46 c8_i32_28
  let c440_i32 : BitVec 32 := 440#32
  let v48 : BitVec 32 := Scalar.minsi v47 c440_i32
  v48

def k0_off3 (v21 : BitVec 32) : Fin 3 → Nat :=
  let c0_29 : Index := 0#32
  let c0_i32_22 : BitVec 32 := 0#32
  let v31 : BitVec 1 := Scalar.cmpi .sgt v21 c0_i32_22
  let v32 : BitVec 32 := Scalar.extui v31
  let c0_i32_23 : BitVec 32 := 0#32
  let v33 : BitVec 1 := Scalar.cmpi .slt v21 c0_i32_23
  let v34 : BitVec 32 := Scalar.extui v33
  let v35 : BitVec 32 := Scalar.subi v32 v34
  let c8_i32 : BitVec 32 := 8#32
  let c0_i32_24 : BitVec 32 := 0#32
  let v36 : BitVec 1 := Scalar.cmpi .sgt c8_i32 c0_i32_24
  let v37 : BitVec 32 := Scalar.extui v36
  let c0_i32_25 : BitVec 32 := 0#32
  let v38 : BitVec 1 := Scalar.cmpi .slt c8_i32 c0_i32_25
  let v39 : BitVec 32 := Scalar.extui v38
  let v40 : BitVec 32 := Scalar.subi v37 v39
  let v41 : BitVec 1 := Scalar.cmpi .ne v35 v40
  let v42 : BitVec 32 := Scalar.remsi v21 c8_i32
  let c0_i32_26 : BitVec 32 := 0#32
  let v43 : BitVec 1 := Scalar.cmpi .ne v42 c0_i32_26
  let v44 : BitVec 1 := Scalar.andi v41 v43
  let v30 : BitVec 32 := Scalar.divsi v21 c8_i32
  let c1_i32_27 : BitVec 32 := 1#32
  let v45 : BitVec 32 := Scalar.subi v30 c1_i32_27
  let v46 : BitVec 32 := Scalar.select v44 v45 v30
  let c8_i32_28 : BitVec 32 := 8#32
  let v47 : BitVec 32 := Scalar.muli v46 c8_i32_28
  let c440_i32 : BitVec 32 := 440#32
  let v48 : BitVec 32 := Scalar.minsi v47 c440_i32
  let v49 : BitVec 32 := v48
  let v51 : Index := Scalar.indexCast v49
  let c0_30 : Index := 0#32
  ![0, v51.toNat, 0]

def k0_chk3 (i : grid0.Coords) (v21 : BitVec 32) : Prop :=
  (∀ (k0_h2 : k0_cond2 i = 1#1), 8 ∣ (k0_mult1 v21).toNat) ∧
  (∀ (k0_h2 : k0_cond2 i = 1#1), ∀ a, (k0_off3 v21) a + S4x72x512.size a ≤ S4x512x512.size a)
theorem k0_mult1_dvd : ∀ (i : grid0.Coords) (v21 : BitVec 32) (k0_hw3 : k0_chk3 i v21), ∀ (k0_h2 : k0_cond2 i = 1#1), 8 ∣ (k0_mult1 v21).toNat := fun i v21 k0_hw3 k0_h2 => k0_hw3.1 k0_h2
theorem k0_off3_inb : ∀ (i : grid0.Coords) (v21 : BitVec 32) (k0_hw3 : k0_chk3 i v21), ∀ (k0_h2 : k0_cond2 i = 1#1), ∀ a, (k0_off3 v21) a + S4x72x512.size a ≤ S4x512x512.size a := fun i v21 k0_hw3 k0_h2 => k0_hw3.2 k0_h2

@[reducible] def k0_t2_loop (v10 : BitVec 32) : Scf.Loop 32 :=
  let c0_i32_6 : BitVec 32 := 0#32
  let v11 : BitVec 32 := Scalar.subi v10 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let v12 : BitVec 32 := Scalar.addi c0_i32_6 v11
  let c1_i32_8 : BitVec 32 := 1#32
  ⟨v15, v12, c1_i32_8⟩
def k0_off4 (v10 : BitVec 32) (k0_t2 : Fin (k0_t2_loop v10).trips) : Fin 1 → Nat :=
  let c0_i32_6 : BitVec 32 := 0#32
  let v11 : BitVec 32 := Scalar.subi v10 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let c1_i32_8 : BitVec 32 := 1#32
  let arg10 : BitVec 32 := Scf.iv v15 c1_i32_8 k0_t2
  let v20 : Index := Scalar.indexCast arg10
  ![v20.toNat]

def k0_chk1 (i : grid0.Coords) (v10 : BitVec 32) : Prop :=
  (∀ (k0_h2 : k0_cond2 i = 1#1), (k0_t1_loop v10).OK) ∧
  (∀ k0_t1 : Fin (k0_t1_loop v10).trips, ∀ (k0_h2 : k0_cond2 i = 1#1), ∀ a, (k0_off1 v10 k0_t1) a + S1.size a ≤ S512.size a) ∧
  (∀ (k0_h2 : k0_cond2 i = 1#1), (k0_t2_loop v10).OK) ∧
  (∀ k0_t2 : Fin (k0_t2_loop v10).trips, ∀ (k0_h2 : k0_cond2 i = 1#1), ∀ a, (k0_off4 v10 k0_t2) a + S1.size a ≤ S512.size a)
theorem k0_t1_ok : ∀ (i : grid0.Coords) (v10 : BitVec 32) (k0_hw1 : k0_chk1 i v10), ∀ (k0_h2 : k0_cond2 i = 1#1), (k0_t1_loop v10).OK := fun i v10 k0_hw1 k0_h2 => k0_hw1.1 k0_h2
theorem k0_off1_inb : ∀ (i : grid0.Coords) (v10 : BitVec 32) (k0_hw1 : k0_chk1 i v10) (k0_t1 : Fin (k0_t1_loop v10).trips), ∀ (k0_h2 : k0_cond2 i = 1#1), ∀ a, (k0_off1 v10 k0_t1) a + S1.size a ≤ S512.size a := fun i v10 k0_hw1 k0_t1 k0_h2 => k0_hw1.2.1 k0_t1 k0_h2
theorem k0_t2_ok : ∀ (i : grid0.Coords) (v10 : BitVec 32) (k0_hw1 : k0_chk1 i v10), ∀ (k0_h2 : k0_cond2 i = 1#1), (k0_t2_loop v10).OK := fun i v10 k0_hw1 k0_h2 => k0_hw1.2.2.1 k0_h2
theorem k0_off4_inb : ∀ (i : grid0.Coords) (v10 : BitVec 32) (k0_hw1 : k0_chk1 i v10) (k0_t2 : Fin (k0_t2_loop v10).trips), ∀ (k0_h2 : k0_cond2 i = 1#1), ∀ a, (k0_off4 v10 k0_t2) a + S1.size a ≤ S512.size a := fun i v10 k0_hw1 k0_t2 k0_h2 => k0_hw1.2.2.2 k0_t2 k0_h2

def k0_off5 (v25 : BitVec 32) : Fin 4 → Nat :=
  let c0_i32_16 : BitVec 32 := 0#32
  let c0_i32_17 : BitVec 32 := 0#32
  let c0_i32_18 : BitVec 32 := 0#32
  ![v25.toNat, 0, 0, 0]

def k0_chk4 (i : grid0.Coords) (v25 : BitVec 32) : Prop :=
  (∀ (k0_h2 : k0_cond2 i = 1#1), ∀ a, (k0_off5 v25) a + S1x4x64x64.size a ≤ S256x4x64x64.size a)
theorem k0_off5_inb : ∀ (i : grid0.Coords) (v25 : BitVec 32) (k0_hw4 : k0_chk4 i v25), ∀ (k0_h2 : k0_cond2 i = 1#1), ∀ a, (k0_off5 v25) a + S1x4x64x64.size a ≤ S256x4x64x64.size a := fun i v25 k0_hw4 k0_h2 => k0_hw4 k0_h2

def k0_mult2 (v21 : BitVec 32) : BitVec 32 :=
  let c0_i32_22 : BitVec 32 := 0#32
  let v31 : BitVec 1 := Scalar.cmpi .sgt v21 c0_i32_22
  let v32 : BitVec 32 := Scalar.extui v31
  let c0_i32_23 : BitVec 32 := 0#32
  let v33 : BitVec 1 := Scalar.cmpi .slt v21 c0_i32_23
  let v34 : BitVec 32 := Scalar.extui v33
  let v35 : BitVec 32 := Scalar.subi v32 v34
  let c8_i32 : BitVec 32 := 8#32
  let c0_i32_24 : BitVec 32 := 0#32
  let v36 : BitVec 1 := Scalar.cmpi .sgt c8_i32 c0_i32_24
  let v37 : BitVec 32 := Scalar.extui v36
  let c0_i32_25 : BitVec 32 := 0#32
  let v38 : BitVec 1 := Scalar.cmpi .slt c8_i32 c0_i32_25
  let v39 : BitVec 32 := Scalar.extui v38
  let v40 : BitVec 32 := Scalar.subi v37 v39
  let v41 : BitVec 1 := Scalar.cmpi .ne v35 v40
  let v42 : BitVec 32 := Scalar.remsi v21 c8_i32
  let c0_i32_26 : BitVec 32 := 0#32
  let v43 : BitVec 1 := Scalar.cmpi .ne v42 c0_i32_26
  let v44 : BitVec 1 := Scalar.andi v41 v43
  let v30 : BitVec 32 := Scalar.divsi v21 c8_i32
  let c1_i32_27 : BitVec 32 := 1#32
  let v45 : BitVec 32 := Scalar.subi v30 c1_i32_27
  let v46 : BitVec 32 := Scalar.select v44 v45 v30
  let c8_i32_28 : BitVec 32 := 8#32
  let v47 : BitVec 32 := Scalar.muli v46 c8_i32_28
  let c440_i32 : BitVec 32 := 440#32
  let v48 : BitVec 32 := Scalar.minsi v47 c440_i32
  v48

def k0_off6 (v21 : BitVec 32) : Fin 3 → Nat :=
  let c0_29 : Index := 0#32
  let c0_i32_22 : BitVec 32 := 0#32
  let v31 : BitVec 1 := Scalar.cmpi .sgt v21 c0_i32_22
  let v32 : BitVec 32 := Scalar.extui v31
  let c0_i32_23 : BitVec 32 := 0#32
  let v33 : BitVec 1 := Scalar.cmpi .slt v21 c0_i32_23
  let v34 : BitVec 32 := Scalar.extui v33
  let v35 : BitVec 32 := Scalar.subi v32 v34
  let c8_i32 : BitVec 32 := 8#32
  let c0_i32_24 : BitVec 32 := 0#32
  let v36 : BitVec 1 := Scalar.cmpi .sgt c8_i32 c0_i32_24
  let v37 : BitVec 32 := Scalar.extui v36
  let c0_i32_25 : BitVec 32 := 0#32
  let v38 : BitVec 1 := Scalar.cmpi .slt c8_i32 c0_i32_25
  let v39 : BitVec 32 := Scalar.extui v38
  let v40 : BitVec 32 := Scalar.subi v37 v39
  let v41 : BitVec 1 := Scalar.cmpi .ne v35 v40
  let v42 : BitVec 32 := Scalar.remsi v21 c8_i32
  let c0_i32_26 : BitVec 32 := 0#32
  let v43 : BitVec 1 := Scalar.cmpi .ne v42 c0_i32_26
  let v44 : BitVec 1 := Scalar.andi v41 v43
  let v30 : BitVec 32 := Scalar.divsi v21 c8_i32
  let c1_i32_27 : BitVec 32 := 1#32
  let v45 : BitVec 32 := Scalar.subi v30 c1_i32_27
  let v46 : BitVec 32 := Scalar.select v44 v45 v30
  let c8_i32_28 : BitVec 32 := 8#32
  let v47 : BitVec 32 := Scalar.muli v46 c8_i32_28
  let c440_i32 : BitVec 32 := 440#32
  let v48 : BitVec 32 := Scalar.minsi v47 c440_i32
  let v49 : BitVec 32 := v48
  let v51 : Index := Scalar.indexCast v49
  let c0_30 : Index := 0#32
  ![0, v51.toNat, 0]

def k0_chk5 (i : grid0.Coords) (v21 : BitVec 32) : Prop :=
  (∀ (k0_h2 : k0_cond2 i = 1#1), 8 ∣ (k0_mult2 v21).toNat) ∧
  (∀ (k0_h2 : k0_cond2 i = 1#1), ∀ a, (k0_off6 v21) a + S4x72x512.size a ≤ S4x512x512.size a)
theorem k0_mult2_dvd : ∀ (i : grid0.Coords) (v21 : BitVec 32) (k0_hw5 : k0_chk5 i v21), ∀ (k0_h2 : k0_cond2 i = 1#1), 8 ∣ (k0_mult2 v21).toNat := fun i v21 k0_hw5 k0_h2 => k0_hw5.1 k0_h2
theorem k0_off6_inb : ∀ (i : grid0.Coords) (v21 : BitVec 32) (k0_hw5 : k0_chk5 i v21), ∀ (k0_h2 : k0_cond2 i = 1#1), ∀ a, (k0_off6 v21) a + S4x72x512.size a ≤ S4x512x512.size a := fun i v21 k0_hw5 k0_h2 => k0_hw5.2 k0_h2

def k0_cond1 (i : grid0.Coords) : BitVec 1 :=
  let arg0 : BitVec 32 := BitVec.ofNat 32 (i 0).val
  let c31_i32 : BitVec 32 := 31#32
  let v0 : BitVec 1 := Scalar.cmpi .slt arg0 c31_i32
  let v1 : BitVec 32 := Scalar.extui v0
  let c0_i32 : BitVec 32 := 0#32
  let v2 : BitVec 1 := Scalar.cmpi .ne v1 c0_i32
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x3x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x512x261 : Shape := ⟨3, ![32, 512, 261]⟩
abbrev S256x4x64x64 : Shape := ⟨4, ![256, 4, 64, 64]⟩
abbrev S_ : Shape := ⟨0, ![]⟩
abbrev S32x4x512x512 : Shape := ⟨4, ![32, 4, 512, 512]⟩
abbrev S1x512x261 : Shape := ⟨3, ![1, 512, 261]⟩
abbrev S512x261 : Shape := ⟨2, ![512, 261]⟩
abbrev S512x1 : Shape := ⟨2, ![512, 1]⟩
abbrev S512 : Shape := ⟨1, ![512]⟩
abbrev S512x256 : Shape := ⟨2, ![512, 256]⟩
abbrev S1x4x512x512 : Shape := ⟨4, ![1, 4, 512, 512]⟩
abbrev S4x512x512 : Shape := ⟨3, ![4, 512, 512]⟩
abbrev S1 : Shape := ⟨1, ![1]⟩
abbrev S1x256 : Shape := ⟨2, ![1, 256]⟩
abbrev S256 : Shape := ⟨1, ![256]⟩
abbrev S1x4x64x64 : Shape := ⟨4, ![1, 4, 64, 64]⟩
abbrev S4x64x64 : Shape := ⟨3, ![4, 64, 64]⟩
abbrev S3x64x64 : Shape := ⟨3, ![3, 64, 64]⟩
abbrev S1x64x64 : Shape := ⟨3, ![1, 64, 64]⟩
abbrev S64x64 : Shape := ⟨2, ![64, 64]⟩
abbrev S32x3x512x512 : Shape := ⟨4, ![32, 3, 512, 512]⟩

abbrev nBuf : Space → Nat
  | .hbm => 290
  | .vmem => 0
  | .smem => 0
  | _ => 0

abbrev hbmTy0_0 (i : Nat) : BufTy := match i % 128 with
  | 0 => ⟨S32x512x261, .f32⟩
  | 1 => ⟨S256x4x64x64, .f32⟩
  | 2 => ⟨S_, .f32⟩
  | 3 => ⟨S32x4x512x512, .f32⟩
  | 4 => ⟨S1x512x261, .f32⟩
  | 5 => ⟨S512x261, .f32⟩
  | 6 => ⟨S512x1, .f32⟩
  | 7 => ⟨S512, .f32⟩
  | 8 => ⟨S_, .f32⟩
  | 9 => ⟨S512, .f32⟩
  | 10 => ⟨S512, .f32⟩
  | 11 => ⟨S512, .f32⟩
  | 12 => ⟨S512, .i32⟩
  | 13 => ⟨S512x1, .f32⟩
  | 14 => ⟨S512, .f32⟩
  | 15 => ⟨S_, .f32⟩
  | 16 => ⟨S512, .f32⟩
  | 17 => ⟨S512, .f32⟩
  | 18 => ⟨S512, .f32⟩
  | 19 => ⟨S512, .i32⟩
  | 20 => ⟨S512x1, .f32⟩
  | 21 => ⟨S512, .f32⟩
  | 22 => ⟨S_, .f32⟩
  | 23 => ⟨S512, .f32⟩
  | 24 => ⟨S512, .f32⟩
  | 25 => ⟨S512, .f32⟩
  | 26 => ⟨S512, .i32⟩
  | 27 => ⟨S512x1, .f32⟩
  | 28 => ⟨S512, .f32⟩
  | 29 => ⟨S_, .f32⟩
  | 30 => ⟨S512, .f32⟩
  | 31 => ⟨S512, .f32⟩
  | 32 => ⟨S512, .f32⟩
  | 33 => ⟨S512, .i32⟩
  | 34 => ⟨S512x1, .f32⟩
  | 35 => ⟨S512, .f32⟩
  | 36 => ⟨S512x256, .f32⟩
  | 37 => ⟨S512, .i32⟩
  | 38 => ⟨S512, .f32⟩
  | 39 => ⟨S512, .i32⟩
  | 40 => ⟨S1x4x512x512, .f32⟩
  | 41 => ⟨S4x512x512, .f32⟩
  | 42 => ⟨S_, .i32⟩
  | 43 => ⟨S512, .i32⟩
  | 44 => ⟨S512, .i32⟩
  | 45 => ⟨S512, .i32⟩
  | 46 => ⟨S512, .i32⟩
  | 47 => ⟨S512, .i32⟩
  | 48 => ⟨S512x256, .f32⟩
  | 49 => ⟨S256x4x64x64, .f32⟩
  | 50 => ⟨S_, .i32⟩
  | 51 => ⟨S4x512x512, .f32⟩
  | 52 => ⟨S_, .i32⟩
  | 53 => ⟨S_, .i1⟩
  | 54 => ⟨S1, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S1, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S1, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i1⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S1, .i32⟩
  | 90 => ⟨S_, .i32⟩
  | 91 => ⟨S_, .i32⟩
  | 92 => ⟨S_, .i1⟩
  | 93 => ⟨S_, .i32⟩
  | 94 => ⟨S_, .i32⟩
  | 95 => ⟨S_, .i32⟩
  | 96 => ⟨S1, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i1⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S_, .i32⟩
  | 117 => ⟨S1, .i32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S1, .i32⟩
  | 125 => ⟨S_, .i32⟩
  | 126 => ⟨S_, .i32⟩
  | 127 => ⟨S_, .i32⟩
  | _ => ⟨S32x512x261, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i1⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S1, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S1, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S_, .i1⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i1⟩
  | 48 => ⟨S_, .i1⟩
  | 49 => ⟨S_, .i32⟩
  | 50 => ⟨S_, .i1⟩
  | 51 => ⟨S_, .i1⟩
  | 52 => ⟨S_, .i32⟩
  | 53 => ⟨S_, .i1⟩
  | 54 => ⟨S_, .i1⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S1x256, .f32⟩
  | 69 => ⟨S256, .f32⟩
  | 70 => ⟨S256, .i32⟩
  | 71 => ⟨S_, .f32⟩
  | 72 => ⟨S_, .i32⟩
  | 73 => ⟨S_, .f32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S1x4x64x64, .f32⟩
  | 105 => ⟨S4x64x64, .f32⟩
  | 106 => ⟨S3x64x64, .f32⟩
  | 107 => ⟨S1x64x64, .f32⟩
  | 108 => ⟨S64x64, .f32⟩
  | 109 => ⟨S1x64x64, .f32⟩
  | 110 => ⟨S3x64x64, .f32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S4x64x64, .f32⟩
  | 123 => ⟨S3x64x64, .f32⟩
  | 124 => ⟨S1x64x64, .f32⟩
  | 125 => ⟨S64x64, .f32⟩
  | 126 => ⟨S1x64x64, .f32⟩
  | 127 => ⟨S3x64x64, .f32⟩
  | _ => ⟨S32x512x261, .f32⟩

abbrev hbmTy0_2 (i : Nat) : BufTy := match i % 128 with
  | 0 => ⟨S_, .f32⟩
  | 1 => ⟨S3x64x64, .f32⟩
  | 2 => ⟨S3x64x64, .f32⟩
  | 3 => ⟨S3x64x64, .f32⟩
  | 4 => ⟨S3x64x64, .f32⟩
  | 5 => ⟨S3x64x64, .f32⟩
  | 6 => ⟨S3x64x64, .f32⟩
  | 7 => ⟨S_, .f32⟩
  | 8 => ⟨S3x64x64, .f32⟩
  | 9 => ⟨S3x64x64, .f32⟩
  | 10 => ⟨S3x64x64, .f32⟩
  | 11 => ⟨S3x64x64, .f32⟩
  | 12 => ⟨S3x64x64, .f32⟩
  | 13 => ⟨S1x64x64, .f32⟩
  | 14 => ⟨S4x64x64, .f32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S4x512x512, .f32⟩
  | 27 => ⟨S4x512x512, .f32⟩
  | 28 => ⟨S_, .i32⟩
  | 29 => ⟨S_, .i32⟩
  | 30 => ⟨S_, .i32⟩
  | 31 => ⟨S1, .i32⟩
  | 32 => ⟨S32x4x512x512, .f32⟩
  | 33 => ⟨S32x3x512x512, .f32⟩
  | _ => ⟨S32x512x261, .f32⟩

abbrev hbmTy (i : Nat) : BufTy := match i / 128 with
  | 0 => hbmTy0_0 i
  | 1 => hbmTy0_1 i
  | 2 => hbmTy0_2 i
  | _ => ⟨S32x512x261, .f32⟩

abbrev bufTy : (tb : Table) → Fin (tcTables nBuf tb) → BufTy
  | .hbm, ⟨i, _⟩ => hbmTy i
  | _, _ => ⟨S32x512x261, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call4_v0 : Ref sig .tc := ⟨.hbm, 37, rfl⟩
abbrev main_call4_v1_0 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c : Ref sig .tc := ⟨.hbm, 42, rfl⟩
abbrev main_v33_0 : Ref sig .tc := ⟨.hbm, 43, rfl⟩
abbrev main_v33_1 : Ref sig .tc := ⟨.hbm, 44, rfl⟩
abbrev main_v33_2 : Ref sig .tc := ⟨.hbm, 45, rfl⟩
abbrev main_v33_3 : Ref sig .tc := ⟨.hbm, 46, rfl⟩
abbrev main_v33_4 : Ref sig .tc := ⟨.hbm, 47, rfl⟩
abbrev main_v33_5 : Ref sig .tc := ⟨.hbm, 48, rfl⟩
abbrev main_v33_6 : Ref sig .tc := ⟨.hbm, 49, rfl⟩
abbrev main_v33_7 : Ref sig .tc := ⟨.hbm, 50, rfl⟩
abbrev main_v33_8 : Ref sig .tc := ⟨.hbm, 51, rfl⟩
abbrev main_while0c_c_13 : Ref sig .tc := ⟨.hbm, 52, rfl⟩
abbrev main_while0c_v37 : Ref sig .tc := ⟨.hbm, 53, rfl⟩
abbrev main_while0b_call5_v0 : Ref sig .tc := ⟨.hbm, 54, rfl⟩
abbrev main_while0b_v37 : Ref sig .tc := ⟨.hbm, 55, rfl⟩
abbrev main_while0b_c_13 : Ref sig .tc := ⟨.hbm, 56, rfl⟩
abbrev main_while0b_v38 : Ref sig .tc := ⟨.hbm, 57, rfl⟩
abbrev main_while0b_c_14 : Ref sig .tc := ⟨.hbm, 58, rfl⟩
abbrev main_while0b_v39 : Ref sig .tc := ⟨.hbm, 59, rfl⟩
abbrev main_while0b_v40 : Ref sig .tc := ⟨.hbm, 60, rfl⟩
abbrev main_while0b_v41 : Ref sig .tc := ⟨.hbm, 61, rfl⟩
abbrev main_while0b_v42 : Ref sig .tc := ⟨.hbm, 62, rfl⟩
abbrev main_while0b_c_15 : Ref sig .tc := ⟨.hbm, 63, rfl⟩
abbrev main_while0b_v43 : Ref sig .tc := ⟨.hbm, 64, rfl⟩
abbrev main_while0b_c_16 : Ref sig .tc := ⟨.hbm, 65, rfl⟩
abbrev main_while0b_v44 : Ref sig .tc := ⟨.hbm, 66, rfl⟩
abbrev main_while0b_v45 : Ref sig .tc := ⟨.hbm, 67, rfl⟩
abbrev main_while0b_v46 : Ref sig .tc := ⟨.hbm, 68, rfl⟩
abbrev main_while0b_v47 : Ref sig .tc := ⟨.hbm, 69, rfl⟩
abbrev main_while0b_c_17 : Ref sig .tc := ⟨.hbm, 70, rfl⟩
abbrev main_while0b_call6_v0 : Ref sig .tc := ⟨.hbm, 71, rfl⟩
abbrev main_while0b_call6_v1 : Ref sig .tc := ⟨.hbm, 72, rfl⟩
abbrev main_while0b_call6_v2 : Ref sig .tc := ⟨.hbm, 73, rfl⟩
abbrev main_while0b_call6_v3 : Ref sig .tc := ⟨.hbm, 74, rfl⟩
abbrev main_while0b_call6_v4 : Ref sig .tc := ⟨.hbm, 75, rfl⟩
abbrev main_while0b_call6_v5 : Ref sig .tc := ⟨.hbm, 76, rfl⟩
abbrev main_while0b_call6_c : Ref sig .tc := ⟨.hbm, 77, rfl⟩
abbrev main_while0b_call6_v6 : Ref sig .tc := ⟨.hbm, 78, rfl⟩
abbrev main_while0b_call6_v7 : Ref sig .tc := ⟨.hbm, 79, rfl⟩
abbrev main_while0b_call6_c_0 : Ref sig .tc := ⟨.hbm, 80, rfl⟩
abbrev main_while0b_call6_v8 : Ref sig .tc := ⟨.hbm, 81, rfl⟩
abbrev main_while0b_v48 : Ref sig .tc := ⟨.hbm, 82, rfl⟩
abbrev main_while0b_v49 : Ref sig .tc := ⟨.hbm, 83, rfl⟩
abbrev main_while0b_c_18 : Ref sig .tc := ⟨.hbm, 84, rfl⟩
abbrev main_while0b_v50 : Ref sig .tc := ⟨.hbm, 85, rfl⟩
abbrev main_while0b_c_19 : Ref sig .tc := ⟨.hbm, 86, rfl⟩
abbrev main_while0b_v51 : Ref sig .tc := ⟨.hbm, 87, rfl⟩
abbrev main_while0b_v52 : Ref sig .tc := ⟨.hbm, 88, rfl⟩
abbrev main_while0b_v53 : Ref sig .tc := ⟨.hbm, 89, rfl⟩
abbrev main_while0b_v54 : Ref sig .tc := ⟨.hbm, 90, rfl⟩
abbrev main_while0b_c_20 : Ref sig .tc := ⟨.hbm, 91, rfl⟩
abbrev main_while0b_v55 : Ref sig .tc := ⟨.hbm, 92, rfl⟩
abbrev main_while0b_c_21 : Ref sig .tc := ⟨.hbm, 93, rfl⟩
abbrev main_while0b_v56 : Ref sig .tc := ⟨.hbm, 94, rfl⟩
abbrev main_while0b_v57 : Ref sig .tc := ⟨.hbm, 95, rfl⟩
abbrev main_while0b_v58 : Ref sig .tc := ⟨.hbm, 96, rfl⟩
abbrev main_while0b_v59 : Ref sig .tc := ⟨.hbm, 97, rfl⟩
abbrev main_while0b_c_22 : Ref sig .tc := ⟨.hbm, 98, rfl⟩
abbrev main_while0b_call7_v0 : Ref sig .tc := ⟨.hbm, 99, rfl⟩
abbrev main_while0b_call7_v1 : Ref sig .tc := ⟨.hbm, 100, rfl⟩
abbrev main_while0b_call7_v2 : Ref sig .tc := ⟨.hbm, 101, rfl⟩
abbrev main_while0b_call7_v3 : Ref sig .tc := ⟨.hbm, 102, rfl⟩
abbrev main_while0b_call7_v4 : Ref sig .tc := ⟨.hbm, 103, rfl⟩
abbrev main_while0b_call7_v5 : Ref sig .tc := ⟨.hbm, 104, rfl⟩
abbrev main_while0b_call7_c : Ref sig .tc := ⟨.hbm, 105, rfl⟩
abbrev main_while0b_call7_v6 : Ref sig .tc := ⟨.hbm, 106, rfl⟩
abbrev main_while0b_call7_v7 : Ref sig .tc := ⟨.hbm, 107, rfl⟩
abbrev main_while0b_call7_c_0 : Ref sig .tc := ⟨.hbm, 108, rfl⟩
abbrev main_while0b_call7_v8 : Ref sig .tc := ⟨.hbm, 109, rfl⟩
abbrev main_while0b_v60 : Ref sig .tc := ⟨.hbm, 110, rfl⟩
abbrev main_while0b_v61 : Ref sig .tc := ⟨.hbm, 111, rfl⟩
abbrev main_while0b_c_23 : Ref sig .tc := ⟨.hbm, 112, rfl⟩
abbrev main_while0b_v62 : Ref sig .tc := ⟨.hbm, 113, rfl⟩
abbrev main_while0b_c_24 : Ref sig .tc := ⟨.hbm, 114, rfl⟩
abbrev main_while0b_v63 : Ref sig .tc := ⟨.hbm, 115, rfl⟩
abbrev main_while0b_v64 : Ref sig .tc := ⟨.hbm, 116, rfl⟩
abbrev main_while0b_v65 : Ref sig .tc := ⟨.hbm, 117, rfl⟩
abbrev main_while0b_v66 : Ref sig .tc := ⟨.hbm, 118, rfl⟩
abbrev main_while0b_c_25 : Ref sig .tc := ⟨.hbm, 119, rfl⟩
abbrev main_while0b_v67 : Ref sig .tc := ⟨.hbm, 120, rfl⟩
abbrev main_while0b_c_26 : Ref sig .tc := ⟨.hbm, 121, rfl⟩
abbrev main_while0b_v68 : Ref sig .tc := ⟨.hbm, 122, rfl⟩
abbrev main_while0b_v69 : Ref sig .tc := ⟨.hbm, 123, rfl⟩
abbrev main_while0b_v70 : Ref sig .tc := ⟨.hbm, 124, rfl⟩
abbrev main_while0b_v71 : Ref sig .tc := ⟨.hbm, 125, rfl⟩
abbrev main_while0b_c_27 : Ref sig .tc := ⟨.hbm, 126, rfl⟩
abbrev main_while0b_v72 : Ref sig .tc := ⟨.hbm, 127, rfl⟩
abbrev main_while0b_c_28 : Ref sig .tc := ⟨.hbm, 128, rfl⟩
abbrev main_while0b_call8_v0 : Ref sig .tc := ⟨.hbm, 129, rfl⟩
abbrev main_while0b_call8_v1 : Ref sig .tc := ⟨.hbm, 130, rfl⟩
abbrev main_while0b_call8_v2 : Ref sig .tc := ⟨.hbm, 131, rfl⟩
abbrev main_while0b_call8_v3 : Ref sig .tc := ⟨.hbm, 132, rfl⟩
abbrev main_while0b_call8_v4 : Ref sig .tc := ⟨.hbm, 133, rfl⟩
abbrev main_while0b_call8_v5 : Ref sig .tc := ⟨.hbm, 134, rfl⟩
abbrev main_while0b_call8_c : Ref sig .tc := ⟨.hbm, 135, rfl⟩
abbrev main_while0b_call8_v6 : Ref sig .tc := ⟨.hbm, 136, rfl⟩
abbrev main_while0b_call8_v7 : Ref sig .tc := ⟨.hbm, 137, rfl⟩
abbrev main_while0b_call8_c_0 : Ref sig .tc := ⟨.hbm, 138, rfl⟩
abbrev main_while0b_call8_v8 : Ref sig .tc := ⟨.hbm, 139, rfl⟩
abbrev main_while0b_v73 : Ref sig .tc := ⟨.hbm, 140, rfl⟩
abbrev main_while0b_v74 : Ref sig .tc := ⟨.hbm, 141, rfl⟩
abbrev main_while0b_c_29 : Ref sig .tc := ⟨.hbm, 142, rfl⟩
abbrev main_while0b_v75 : Ref sig .tc := ⟨.hbm, 143, rfl⟩
abbrev main_while0b_c_30 : Ref sig .tc := ⟨.hbm, 144, rfl⟩
abbrev main_while0b_v76 : Ref sig .tc := ⟨.hbm, 145, rfl⟩
abbrev main_while0b_v77 : Ref sig .tc := ⟨.hbm, 146, rfl⟩
abbrev main_while0b_v78 : Ref sig .tc := ⟨.hbm, 147, rfl⟩
abbrev main_while0b_v79 : Ref sig .tc := ⟨.hbm, 148, rfl⟩
abbrev main_while0b_c_31 : Ref sig .tc := ⟨.hbm, 149, rfl⟩
abbrev main_while0b_v80 : Ref sig .tc := ⟨.hbm, 150, rfl⟩
abbrev main_while0b_c_32 : Ref sig .tc := ⟨.hbm, 151, rfl⟩
abbrev main_while0b_v81 : Ref sig .tc := ⟨.hbm, 152, rfl⟩
abbrev main_while0b_v82 : Ref sig .tc := ⟨.hbm, 153, rfl⟩
abbrev main_while0b_v83 : Ref sig .tc := ⟨.hbm, 154, rfl⟩
abbrev main_while0b_v84 : Ref sig .tc := ⟨.hbm, 155, rfl⟩
abbrev main_while0b_c_33 : Ref sig .tc := ⟨.hbm, 156, rfl⟩
abbrev main_while0b_v85 : Ref sig .tc := ⟨.hbm, 157, rfl⟩
abbrev main_while0b_c_34 : Ref sig .tc := ⟨.hbm, 158, rfl⟩
abbrev main_while0b_call9_v0 : Ref sig .tc := ⟨.hbm, 159, rfl⟩
abbrev main_while0b_call9_v1 : Ref sig .tc := ⟨.hbm, 160, rfl⟩
abbrev main_while0b_call9_v2 : Ref sig .tc := ⟨.hbm, 161, rfl⟩
abbrev main_while0b_call9_v3 : Ref sig .tc := ⟨.hbm, 162, rfl⟩
abbrev main_while0b_call9_v4 : Ref sig .tc := ⟨.hbm, 163, rfl⟩
abbrev main_while0b_call9_v5 : Ref sig .tc := ⟨.hbm, 164, rfl⟩
abbrev main_while0b_call9_c : Ref sig .tc := ⟨.hbm, 165, rfl⟩
abbrev main_while0b_call9_v6 : Ref sig .tc := ⟨.hbm, 166, rfl⟩
abbrev main_while0b_call9_v7 : Ref sig .tc := ⟨.hbm, 167, rfl⟩
abbrev main_while0b_call9_c_0 : Ref sig .tc := ⟨.hbm, 168, rfl⟩
abbrev main_while0b_call9_v8 : Ref sig .tc := ⟨.hbm, 169, rfl⟩
abbrev main_while0b_v86 : Ref sig .tc := ⟨.hbm, 170, rfl⟩
abbrev main_while0b_v87 : Ref sig .tc := ⟨.hbm, 171, rfl⟩
abbrev main_while0b_c_35 : Ref sig .tc := ⟨.hbm, 172, rfl⟩
abbrev main_while0b_v88 : Ref sig .tc := ⟨.hbm, 173, rfl⟩
abbrev main_while0b_c_36 : Ref sig .tc := ⟨.hbm, 174, rfl⟩
abbrev main_while0b_v89 : Ref sig .tc := ⟨.hbm, 175, rfl⟩
abbrev main_while0b_v90 : Ref sig .tc := ⟨.hbm, 176, rfl⟩
abbrev main_while0b_c_37 : Ref sig .tc := ⟨.hbm, 177, rfl⟩
abbrev main_while0b_v91 : Ref sig .tc := ⟨.hbm, 178, rfl⟩
abbrev main_while0b_v92 : Ref sig .tc := ⟨.hbm, 179, rfl⟩
abbrev main_while0b_c_38 : Ref sig .tc := ⟨.hbm, 180, rfl⟩
abbrev main_while0b_v93 : Ref sig .tc := ⟨.hbm, 181, rfl⟩
abbrev main_while0b_v94 : Ref sig .tc := ⟨.hbm, 182, rfl⟩
abbrev main_while0b_c_39 : Ref sig .tc := ⟨.hbm, 183, rfl⟩
abbrev main_while0b_v95 : Ref sig .tc := ⟨.hbm, 184, rfl⟩
abbrev main_while0b_c_40 : Ref sig .tc := ⟨.hbm, 185, rfl⟩
abbrev main_while0b_v96 : Ref sig .tc := ⟨.hbm, 186, rfl⟩
abbrev main_while0b_v97 : Ref sig .tc := ⟨.hbm, 187, rfl⟩
abbrev main_while0b_c_41 : Ref sig .tc := ⟨.hbm, 188, rfl⟩
abbrev main_while0b_c_42 : Ref sig .tc := ⟨.hbm, 189, rfl⟩
abbrev main_while0b_v98 : Ref sig .tc := ⟨.hbm, 190, rfl⟩
abbrev main_while0b_c_43 : Ref sig .tc := ⟨.hbm, 191, rfl⟩
abbrev main_while0b_c_44 : Ref sig .tc := ⟨.hbm, 192, rfl⟩
abbrev main_while0b_v99 : Ref sig .tc := ⟨.hbm, 193, rfl⟩
abbrev main_while0b_c_45 : Ref sig .tc := ⟨.hbm, 194, rfl⟩
abbrev main_while0b_v100 : Ref sig .tc := ⟨.hbm, 195, rfl⟩
abbrev main_while0b_v101 : Ref sig .tc := ⟨.hbm, 196, rfl⟩
abbrev main_while0b_v102 : Ref sig .tc := ⟨.hbm, 197, rfl⟩
abbrev main_while0b_call10_v0 : Ref sig .tc := ⟨.hbm, 198, rfl⟩
abbrev main_while0b_call10_cst : Ref sig .tc := ⟨.hbm, 199, rfl⟩
abbrev main_while0b_call10_c : Ref sig .tc := ⟨.hbm, 200, rfl⟩
abbrev main_while0b_call10_v1_0 : Ref sig .tc := ⟨.hbm, 201, rfl⟩
abbrev main_while0b_v103 : Ref sig .tc := ⟨.hbm, 202, rfl⟩
abbrev main_while0b_c_46 : Ref sig .tc := ⟨.hbm, 203, rfl⟩
abbrev main_while0b_v104 : Ref sig .tc := ⟨.hbm, 204, rfl⟩
abbrev main_while0b_c_47 : Ref sig .tc := ⟨.hbm, 205, rfl⟩
abbrev main_while0b_v105 : Ref sig .tc := ⟨.hbm, 206, rfl⟩
abbrev main_while0b_v106 : Ref sig .tc := ⟨.hbm, 207, rfl⟩
abbrev main_while0b_c_48 : Ref sig .tc := ⟨.hbm, 208, rfl⟩
abbrev main_while0b_c_49 : Ref sig .tc := ⟨.hbm, 209, rfl⟩
abbrev main_while0b_v107 : Ref sig .tc := ⟨.hbm, 210, rfl⟩
abbrev main_while0b_c_50 : Ref sig .tc := ⟨.hbm, 211, rfl⟩
abbrev main_while0b_c_51 : Ref sig .tc := ⟨.hbm, 212, rfl⟩
abbrev main_while0b_v108 : Ref sig .tc := ⟨.hbm, 213, rfl⟩
abbrev main_while0b_c_52 : Ref sig .tc := ⟨.hbm, 214, rfl⟩
abbrev main_while0b_v109 : Ref sig .tc := ⟨.hbm, 215, rfl⟩
abbrev main_while0b_c_53 : Ref sig .tc := ⟨.hbm, 216, rfl⟩
abbrev main_while0b_c_54 : Ref sig .tc := ⟨.hbm, 217, rfl⟩
abbrev main_while0b_v110 : Ref sig .tc := ⟨.hbm, 218, rfl⟩
abbrev main_while0b_c_55 : Ref sig .tc := ⟨.hbm, 219, rfl⟩
abbrev main_while0b_c_56 : Ref sig .tc := ⟨.hbm, 220, rfl⟩
abbrev main_while0b_v111 : Ref sig .tc := ⟨.hbm, 221, rfl⟩
abbrev main_while0b_c_57 : Ref sig .tc := ⟨.hbm, 222, rfl⟩
abbrev main_while0b_v112 : Ref sig .tc := ⟨.hbm, 223, rfl⟩
abbrev main_while0b_c_58 : Ref sig .tc := ⟨.hbm, 224, rfl⟩
abbrev main_while0b_c_59 : Ref sig .tc := ⟨.hbm, 225, rfl⟩
abbrev main_while0b_v113 : Ref sig .tc := ⟨.hbm, 226, rfl⟩
abbrev main_while0b_c_60 : Ref sig .tc := ⟨.hbm, 227, rfl⟩
abbrev main_while0b_c_61 : Ref sig .tc := ⟨.hbm, 228, rfl⟩
abbrev main_while0b_v114 : Ref sig .tc := ⟨.hbm, 229, rfl⟩
abbrev main_while0b_c_62 : Ref sig .tc := ⟨.hbm, 230, rfl⟩
abbrev main_while0b_v115 : Ref sig .tc := ⟨.hbm, 231, rfl⟩
abbrev main_while0b_v116 : Ref sig .tc := ⟨.hbm, 232, rfl⟩
abbrev main_while0b_v117 : Ref sig .tc := ⟨.hbm, 233, rfl⟩
abbrev main_while0b_v118 : Ref sig .tc := ⟨.hbm, 234, rfl⟩
abbrev main_while0b_v119 : Ref sig .tc := ⟨.hbm, 235, rfl⟩
abbrev main_while0b_v120 : Ref sig .tc := ⟨.hbm, 236, rfl⟩
abbrev main_while0b_v121 : Ref sig .tc := ⟨.hbm, 237, rfl⟩
abbrev main_while0b_v122 : Ref sig .tc := ⟨.hbm, 238, rfl⟩
abbrev main_while0b_c_63 : Ref sig .tc := ⟨.hbm, 239, rfl⟩
abbrev main_while0b_v123 : Ref sig .tc := ⟨.hbm, 240, rfl⟩
abbrev main_while0b_c_64 : Ref sig .tc := ⟨.hbm, 241, rfl⟩
abbrev main_while0b_v124 : Ref sig .tc := ⟨.hbm, 242, rfl⟩
abbrev main_while0b_v125 : Ref sig .tc := ⟨.hbm, 243, rfl⟩
abbrev main_while0b_c_65 : Ref sig .tc := ⟨.hbm, 244, rfl⟩
abbrev main_while0b_v126 : Ref sig .tc := ⟨.hbm, 245, rfl⟩
abbrev main_while0b_c_66 : Ref sig .tc := ⟨.hbm, 246, rfl⟩
abbrev main_while0b_v127 : Ref sig .tc := ⟨.hbm, 247, rfl⟩
abbrev main_while0b_v128 : Ref sig .tc := ⟨.hbm, 248, rfl⟩
abbrev main_while0b_c_67 : Ref sig .tc := ⟨.hbm, 249, rfl⟩
abbrev main_while0b_v129 : Ref sig .tc := ⟨.hbm, 250, rfl⟩
abbrev main_while0b_v130 : Ref sig .tc := ⟨.hbm, 251, rfl⟩
abbrev main_while0b_v131 : Ref sig .tc := ⟨.hbm, 252, rfl⟩
abbrev main_while0b_v132 : Ref sig .tc := ⟨.hbm, 253, rfl⟩
abbrev main_while0b_v133 : Ref sig .tc := ⟨.hbm, 254, rfl⟩
abbrev main_while0b_v134 : Ref sig .tc := ⟨.hbm, 255, rfl⟩
abbrev main_while0b_cst_68 : Ref sig .tc := ⟨.hbm, 256, rfl⟩
abbrev main_while0b_v135 : Ref sig .tc := ⟨.hbm, 257, rfl⟩
abbrev main_while0b_v136 : Ref sig .tc := ⟨.hbm, 258, rfl⟩
abbrev main_while0b_v137 : Ref sig .tc := ⟨.hbm, 259, rfl⟩
abbrev main_while0b_v138 : Ref sig .tc := ⟨.hbm, 260, rfl⟩
abbrev main_while0b_v139 : Ref sig .tc := ⟨.hbm, 261, rfl⟩
abbrev main_while0b_v140 : Ref sig .tc := ⟨.hbm, 262, rfl⟩
abbrev main_while0b_cst_69 : Ref sig .tc := ⟨.hbm, 263, rfl⟩
abbrev main_while0b_v141 : Ref sig .tc := ⟨.hbm, 264, rfl⟩
abbrev main_while0b_v142 : Ref sig .tc := ⟨.hbm, 265, rfl⟩
abbrev main_while0b_v143 : Ref sig .tc := ⟨.hbm, 266, rfl⟩
abbrev main_while0b_v144 : Ref sig .tc := ⟨.hbm, 267, rfl⟩
abbrev main_while0b_v145 : Ref sig .tc := ⟨.hbm, 268, rfl⟩
abbrev main_while0b_v146 : Ref sig .tc := ⟨.hbm, 269, rfl⟩
abbrev main_while0b_v147 : Ref sig .tc := ⟨.hbm, 270, rfl⟩
abbrev main_while0b_c_70 : Ref sig .tc := ⟨.hbm, 271, rfl⟩
abbrev main_while0b_v148 : Ref sig .tc := ⟨.hbm, 272, rfl⟩
abbrev main_while0b_c_71 : Ref sig .tc := ⟨.hbm, 273, rfl⟩
abbrev main_while0b_v149 : Ref sig .tc := ⟨.hbm, 274, rfl⟩
abbrev main_while0b_v150 : Ref sig .tc := ⟨.hbm, 275, rfl⟩
abbrev main_while0b_c_72 : Ref sig .tc := ⟨.hbm, 276, rfl⟩
abbrev main_while0b_v151 : Ref sig .tc := ⟨.hbm, 277, rfl⟩
abbrev main_while0b_c_73 : Ref sig .tc := ⟨.hbm, 278, rfl⟩
abbrev main_while0b_v152 : Ref sig .tc := ⟨.hbm, 279, rfl⟩
abbrev main_while0b_v153 : Ref sig .tc := ⟨.hbm, 280, rfl⟩
abbrev main_while0b_c_74 : Ref sig .tc := ⟨.hbm, 281, rfl⟩
abbrev main_while0b_v154 : Ref sig .tc := ⟨.hbm, 282, rfl⟩
abbrev main_while0b_v155 : Ref sig .tc := ⟨.hbm, 283, rfl⟩
abbrev main_while0b_c_75 : Ref sig .tc := ⟨.hbm, 284, rfl⟩
abbrev main_while0b_v156 : Ref sig .tc := ⟨.hbm, 285, rfl⟩
abbrev main_c_4 : Ref sig .tc := ⟨.hbm, 286, rfl⟩
abbrev main_v34 : Ref sig .tc := ⟨.hbm, 287, rfl⟩
abbrev main_v35 : Ref sig .tc := ⟨.hbm, 288, rfl⟩
abbrev main_v36 : Ref sig .tc := ⟨.hbm, 289, rfl⟩

abbrev nD : Nat := 1
abbrev τ : Topo := Topo.v7x

variable {F : FTy → Type} [FloatOps F]

abbrev main_while0_count : Scf.Loop 32 := ⟨0#32, 512#32, 1#32⟩
-- ==== Proof.Spec.lean ====
/- What the host part of the problem computes from the two arguments, in words: the last picture's rows, the corner words of
   each row's sprite, whether the sprite lies inside the picture, which sprite is taken, the order of pasting. Both programs
   compute these, the kernel for all rows at once, the reference one row at a time. -/
module

public import proofs.«01_k».proof.Proof.Gen.KernelIdeal.Frame

@[expose] public section

noncomputable section

namespace Cert.Spec

open Cert.KernelIdeal Cert.KernelIdeal.Gen
open Idealize.ShloMosaic Idealize.ShloMosaic.TcCoe

variable {F : FTy → Type} [FloatOps F]

/-- A number's half, rounded down, as whole-number division by two is written over words. -/
def half {s : Shape} (x : IVec s 32) : IVec s 32 :=
  select (andi (cmpi .ne (signi x) (signi (constantI s 32 2#32))) (cmpi .ne (Host.remsi x (constantI s 32 2#32)) (constantI s 32 0#32)))
    (subi (Host.divsi x (constantI s 32 2#32)) (constantI s 32 1#32)) (Host.divsi x (constantI s 32 2#32))

/-- A coordinate kept between 0 and 448. -/
def clip {s : Shape} (x : IVec s 32) : IVec s 32 := minsi (constantI s 32 448#32) (maxsi (constantI s 32 0#32) x)

def low {s : Shape} (x h : IVec s 32) : IVec s 32 := subi x (half h)
def high {s : Shape} (x h : IVec s 32) : IVec s 32 := addi x (half (addi h (constantI s 32 1#32)))

def inside {s : Shape} (x1 y1 x2 y2 : IVec s 32) : IVec s 1 :=
  andi (andi (andi (cmpi .sge x1 (constantI s 32 0#32)) (cmpi .sge y1 (constantI s 32 0#32))) (cmpi .sle x2 (constantI s 32 512#32)))
    (cmpi .sle y2 (constantI s 32 512#32))

/-- The last picture's rows. -/
def rows (X : FVec F S32x512x261 .f32) : FVec F S512x261 .f32 :=
  shapeCast S512x261 (extractStridedSlice S1x512x261 ![31, 0, 0] X slices_S32x512x261_S1x512x261_31_0_0) shapeCasts_S1x512x261_S512x261

/-- A column of coordinates, in picture elements, as words. -/
def pixels (v : FVec F S512x1 .f32) : IVec S512 32 :=
  fptosi 32 (Host.roundeven (mulf (shapeCast S512 v shapeCasts_S512x1_S512) (broadcastInDim S512 ![] bcast_S_S512 (constant S_ .f32 0x44000000#32))))

def cx (X : FVec F S32x512x261 .f32) : IVec S512 32 := pixels (extractStridedSlice S512x1 ![0, 0] (rows X) slices_S512x261_S512x1_0_0)
def cy (X : FVec F S32x512x261 .f32) : IVec S512 32 := pixels (extractStridedSlice S512x1 ![0, 1] (rows X) slices_S512x261_S512x1_0_1)
def ch (X : FVec F S32x512x261 .f32) : IVec S512 32 := pixels (extractStridedSlice S512x1 ![0, 2] (rows X) slices_S512x261_S512x1_0_2)
def cw (X : FVec F S32x512x261 .f32) : IVec S512 32 := pixels (extractStridedSlice S512x1 ![0, 3] (rows X) slices_S512x261_S512x1_0_3)
def depth (X : FVec F S32x512x261 .f32) : FVec F S512 .f32 :=
  shapeCast S512 (extractStridedSlice S512x1 ![0, 4] (rows X) slices_S512x261_S512x1_0_4) shapeCasts_S512x1_S512
def scores (X : FVec F S32x512x261 .f32) : FVec F S512x256 .f32 := extractStridedSlice S512x256 ![0, 5] (rows X) slices_S512x261_S512x256_0_5

def x1 (X : FVec F S32x512x261 .f32) : IVec S512 32 := low (cx X) (ch X)
def y1 (X : FVec F S32x512x261 .f32) : IVec S512 32 := low (cy X) (cw X)
def x2 (X : FVec F S32x512x261 .f32) : IVec S512 32 := high (cx X) (ch X)
def y2 (X : FVec F S32x512x261 .f32) : IVec S512 32 := high (cy X) (cw X)
def valid (X : FVec F S32x512x261 .f32) : IVec S512 1 := inside (x1 X) (y1 X) (x2 X) (y2 X)

/-- The sprite of the greatest score, row by row. -/
def best (c : FVec F S512x256 .f32) : IVec S512 32 := fun j =>
  (Host.argReduce reducer_argmax_f32_i32 c (iotaInDim S512x256 32 1) (constant S_ .f32 0xFF800000#32) (constantI S_ 32 0#32)
    reducesTo_S512x256_S512_d1 h_S_ j).2

/-- The rows' places, by key. -/
def order (d : FVec F S512 .f32) : IVec S512 32 := (Host.sort2 S512 0 comparator_f32_i32_d0 d (iotaInDim S512 32 0)).2

/-- The depths, those of the rows not pasted at infinity. -/
def key (X : FVec F S32x512x261 .f32) : FVec F S512 .f32 :=
  select (valid X) (depth X) (broadcastInDim S512 ![] bcast_S_S512 (constant S_ .f32 0x7F800000#32))

/-- How many rows are pasted. -/
def howMany (v : IVec S512 1) : IVec S_ 32 := Host.reduce IntOp.addi (extui 32 v natLt_1_32) (constantI S_ 32 0#32) reducesTo_S512_S_d0 h_S_

/-- A list taken in an order. -/
def taken (x : IVec S512 32) (o : IVec S512 32) : IVec S512 32 :=
  Host.gather gather_S512_S512x1_S512_n_0_n_n_0_1_1 x
    (broadcastInDim S512x1 ![0] bcast_S512_S512x1_0 (select (cmpi .slt o (constantI S512 32 0#32)) (addi o (constantI S512 32 512#32)) o))

end Cert.Spec
-- ==== Proof.Ranges.lean ====
/- The words of the lists lie where the body needs them: at most 512 rows are pasted, a corner lies between 0 and 448, a sprite's
   number is below 256. -/
module

public import proofs.«01_k».proof.Proof.Spec
public import Idealize.ShloMosaic.PureOps.Reduce

@[expose] public section

noncomputable section

namespace Cert.Spec

open Cert.KernelIdeal Cert.KernelIdeal.Gen
open Idealize.ShloMosaic Idealize.ShloMosaic.TcCoe

variable {F : FTy → Type} [FloatOps F]

theorem taken_mem (x o : IVec S512 32) (k : S512.Idx) : ∃ j, taken x o k = x j := ⟨_, rfl⟩

theorem clip_le {s : Shape} (x : IVec s 32) (k : s.Idx) : (clip x k).toNat ≤ 448 := by
  show (IntOp.minsi 448#32 (IntOp.maxsi 0#32 (x k))).toNat ≤ 448
  generalize x k = w
  unfold IntOp.minsi IntOp.maxsi
  simp only [BitVec.slt_eq_decide, decide_eq_true_eq]
  have h448 : (448#32).toInt = 448 := by decide
  have h0 : (0#32).toInt = 0 := by decide
  rw [h0, h448]
  have hw := BitVec.toInt_eq_toNat_cond w
  have := w.isLt
  by_cases h : w.toInt < 0
  · rw [if_pos h, h0, if_neg (by omega)]; decide
  · rw [if_neg h]
    split
    · decide
    · split at hw <;> omega

theorem best_lt (c : FVec F S512x256 .f32) (j : S512.Idx) : (best c j).toNat < 256 := by
  unfold best
  rw [Host.argReduce_eq_argReduceWith]
  have hfib : ∀ p ∈ Host.argReduceFiber c (iotaInDim S512x256 32 1) reducesTo_S512x256_S512_d1 j, p.2.toNat < 256 := by
    intro p hp
    obtain ⟨n, -, rfl⟩ := List.mem_map.mp hp
    show (BitVec.ofNat 32 ((S512x256.rowMajor.symm n) 1).val).toNat < 256
    have := ((S512x256.rowMajor.symm n) 1).isLt
    rw [BitVec.toNat_ofNat]
    have : ((S512x256.rowMajor.symm n) 1).val < 256 := this
    omega
  unfold Host.argReduceWith
  split
  · exact hfib _ ((Host.mem_argReduceNaNs_iff _ _ _ _ _).mp (List.get_mem _ _)).1
  · rw [Host.reduce2_eq_foldl_fiber]
    generalize Host.argReduceFiber c (iotaInDim S512x256 32 1) reducesTo_S512x256_S512_d1 j = l at hfib
    have : ∀ (l : List (F .f32 × BitVec 32)) (a : F .f32 × BitVec 32), a.2.toNat < 256 → (∀ p ∈ l, p.2.toNat < 256) →
        (l.foldl reducer_argmax_f32_i32 a).2.toNat < 256 := by
      intro l
      induction l with
      | nil => intro a ha _; exact ha
      | cons p l ih =>
        intro a ha hl
        refine ih _ ?_ fun q hq => hl q (List.mem_cons_of_mem _ hq)
        have hp := hl p List.mem_cons_self
        unfold reducer_argmax_f32_i32
        simp only [Scalar.select]
        split <;> assumption
    exact this l _ (by show (0#32).toNat < 256; decide) hfib

theorem sum_le {ι : Type} (b : ι → BitVec 1) (l : List ι) (a : BitVec 32) :
    (l.foldl (fun r n => IntOp.addi r ((b n).setWidth 32)) a).toNat ≤ a.toNat + l.length := by
  induction l generalizing a with
  | nil => exact Nat.le_refl _
  | cons n l ih =>
    refine (ih _).trans ?_
    have h1 : ((b n).setWidth 32).toNat ≤ 1 := by
      rw [BitVec.toNat_setWidth]; have := (b n).isLt; omega
    have h2 : (IntOp.addi a ((b n).setWidth 32)).toNat ≤ a.toNat + 1 := by
      unfold IntOp.addi; rw [BitVec.toNat_add]; exact (Nat.mod_le _ _).trans (by omega)
    simp only [List.length_cons]; omega

theorem howMany_le (v : IVec S512 1) (j : S_.Idx) : (howMany v j).toNat ≤ 512 := by
  unfold howMany Host.reduce
  refine (sum_le (fun n => v (S512.rowMajor.symm n)) _ _).trans ?_
  have h0 : ((constantI S_ 32 0#32 : IVec S_ 32) (Shape.Idx.first h_S_)).toNat = 0 := rfl
  rw [h0, Nat.zero_add]
  refine (List.length_filter_le _ _).trans ?_
  rw [List.length_finRange]
  decide

end Cert.Spec
-- ==== Proof.ITrip.lean ====
/- One trip of the kernel's paste loop, for any float values: what it needs and what it leaves in the canvas. -/
module

public import proofs.«01_k».proof.Proof.Gen.KernelIdeal.Frame
public import proofs.«01_k».proof.Proof.Gen.KernelIdeal.Loops
public import Idealize.ShloMosaic.Lib.LoopRemainder
public import Idealize.ShloMosaic.Lib.Claim
public import Idealize.ShloMosaic.Lib.VecWindow

@[expose] public section

set_option maxRecDepth 16384

noncomputable section

namespace Cert.KernelIdeal.Paste

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The images as the kernel is handed them, its canvas and its sprite buffer. -/
abbrev imgs : Memref sig .tc .hbm S256x4x64x64 .f32 := Memref.whole main_arg1
abbrev canvas : Memref sig .tc .vmem S4x512x512 .f32 := Memref.whole cc0_scratch0
abbrev sprite : Memref sig .tc .vmem S4x64x64 .f32 := Memref.whole cc0_scratch1

/-- The contents of each of them. -/
abbrev ImgsC (F : FTy → Type) := imgs.view.ty.Contents (Elt F)
abbrev CanvasC (F : FTy → Type) := canvas.view.ty.Contents (Elt F)
abbrev SpriteC (F : FTy → Type) := sprite.view.ty.Contents (Elt F)

/-- The one word of a one-word table, and the word a list table holds at a trip. -/
abbrev count (a : Memref sig .tc .smem S1 .i32) (f : a.view.ty.Contents (Elt F)) : BitVec 32 :=
  a.view.readAt (Elt F) (Rect.unit (s := S1) ![0] S1.size inb_S1_S1_0).toLoadRect f (Shape.Idx.first (numel1_S1.symm ▸ Nat.one_pos))

abbrev wordAt (i : grid0.Coords) (h2 : k0_cond2 i = 1#1) (v10 : BitVec 32) (hw1 : k0_chk1 i v10) (a : Memref sig .tc .smem S512 .i32)
    (f : a.view.ty.Contents (Elt F)) (k : Fin (k0_t1_loop v10).trips) : BitVec 32 :=
  a.view.readAt (Elt F) (Rect.unit (s := S512) (k0_off1 v10 k) S1.size (k0_off1_inb i v10 hw1 k h2)).toLoadRect f (Shape.Idx.first (numel1_S1.symm ▸ Nat.one_pos))

/-- The number of trips of the paste loop, and where each trip reads: the trip's own number. -/
theorem trips_eq {v : BitVec 32} (hv : v.toNat ≤ 512) : (k0_t1_loop v).trips = v.toNat := by
  have h : k0_t1_loop v = ⟨0#32, v, 1#32⟩ := by
    unfold k0_t1_loop
    simp only [Scalar.muli_divsi_one, Scalar.subi, Scalar.addi, IntOp.subi, IntOp.addi, BitVec.sub_zero, BitVec.zero_add]
  have ht : v.toInt = v.toNat := BitVec.toInt_eq_toNat_of_lt (by omega)
  have h1 : (1#32 : BitVec 32).toInt = 1 := by decide
  have h0 : (0#32 : BitVec 32).toInt = 0 := by decide
  rw [h]
  show Scf.trips 0#32 v 1#32 = _
  unfold Scf.trips
  rw [h1, h0, ht]
  omega

theorem off1_eq {v : BitVec 32} (hv : v.toNat ≤ 512) (k : Fin (k0_t1_loop v).trips) : k0_off1 v k = ![k.val] := by
  have hk : k.val < 512 := by have := k.isLt; have := trips_eq hv; omega
  have h1 : (Scalar.indexCast (Scf.iv 0#32 1#32 k.val)).toNat = k.val := by
    show (0#32 + BitVec.ofNat 32 k.val * 1#32).toNat = k.val
    rw [BitVec.mul_one, BitVec.zero_add, BitVec.toNat_ofNat, Nat.mod_eq_of_lt (by omega)]
  show ![(Scalar.indexCast (Scf.iv 0#32 1#32 k.val)).toNat] = _
  rw [h1]

theorem chk1_of {v : BitVec 32} (hv : v.toNat ≤ 512) (i : grid0.Coords) : k0_chk1 i v := by
  have h : k0_t1_loop v = ⟨0#32, v, 1#32⟩ := by
    unfold k0_t1_loop
    simp only [Scalar.muli_divsi_one, Scalar.subi, Scalar.addi, IntOp.subi, IntOp.addi, BitVec.sub_zero, BitVec.zero_add]
  have ht : v.toInt = v.toNat := BitVec.toInt_eq_toNat_of_lt (by omega)
  have h1 : (1#32 : BitVec 32).toInt = 1 := by decide
  have h0 : (0#32 : BitVec 32).toInt = 0 := by decide
  refine ⟨fun _ => ?_, fun k _ a => ?_, fun _ => Scf.rem_ok _ _, fun k => (Scf.rem_no_trip _ _ k).elim⟩
  · rw [h]
    show Scf.OK 0#32 v 1#32
    unfold Scf.OK Scf.trips
    rw [h1, h0, ht]
    omega
  · have hk : k.val < 512 := by have := k.isLt; have := trips_eq hv; omega
    rw [off1_eq hv]
    match a with
    | ⟨0, _⟩ => show k.val + 1 ≤ 512; omega

/-- The first row of the canvas a trip touches. -/
theorem mult1_eq : ∀ n : Fin 449, k0_mult1 (BitVec.ofNat 32 n.val) = BitVec.ofNat 32 (min (n.val / 8 * 8) 440) := by
  decide +kernel

theorem mult1_toNat {w : BitVec 32} (hw : w.toNat ≤ 448) : (k0_mult1 w).toNat = min (w.toNat / 8 * 8) 440 := by
  have h := mult1_eq ⟨w.toNat, by omega⟩
  rw [BitVec.ofNat_toNat, BitVec.setWidth_eq] at h
  rw [h, BitVec.toNat_ofNat, Nat.mod_eq_of_lt (by omega)]

theorem off3_eq (w : BitVec 32) : k0_off3 w = ![0, (k0_mult1 w).toNat, 0] := rfl

theorem chk3_of {w : BitVec 32} (hw : w.toNat ≤ 448) (i : grid0.Coords) : k0_chk3 i w := by
  have h := mult1_toNat hw
  refine ⟨fun _ => ?_, fun _ a => ?_⟩
  · rw [h]; omega
  · rw [off3_eq, h]
    match a with
    | ⟨0, _⟩ => show 0 + 4 ≤ 4; omega
    | ⟨1, _⟩ => show min (w.toNat / 8 * 8) 440 + 72 ≤ 512; omega
    | ⟨2, _⟩ => show 0 + 512 ≤ 512; omega

theorem chk2_of {w : BitVec 32} (hw : w.toNat < 256) (i : grid0.Coords) : k0_chk2 i w := by
  intro _ a
  show (![w.toNat, 0, 0, 0] : Fin 4 → ℕ) a + _ ≤ _
  match a with
  | ⟨0, _⟩ => show w.toNat + 1 ≤ 256; omega
  | ⟨1, _⟩ => show 0 + 4 ≤ 4; omega
  | ⟨2, _⟩ => show 0 + 64 ≤ 64; omega
  | ⟨3, _⟩ => show 0 + 64 ≤ 64; omega

/-- What a trip holds: the three lists, the images, the canvas, the sprite buffer at some contents, the transfer
    counter at zero and the core's waits. -/
abbrev TripRes (c : Dev nD) (arg2 arg3 arg4 : Memref sig .tc .smem S512 .i32)
    (f2 : arg2.view.ty.Contents (Elt F)) (f3 : arg3.view.ty.Contents (Elt F)) (f4 : arg4.view.ty.Contents (Elt F))
    (fi : ImgsC F) (fc : CanvasC F) : sProp 𝕄 :=
  iprop((arg2.view.loc (c : Thread nD τ) ↦[arg2.view.set]{fullShare} f2) ∗ (arg3.view.loc (c : Thread nD τ) ↦[arg3.view.set]{fullShare} f3)
    ∗ (arg4.view.loc (c : Thread nD τ) ↦[arg4.view.set]{fullShare} f4) ∗ (imgs.view.loc (c : Thread nD τ) ↦{fullShare} fi)
    ∗ (canvas.view.loc (c : Thread nD τ) ↦{fullShare} fc) ∗ (∃ g, sprite.view.loc (c : Thread nD τ) ↦{fullShare} g)
    ∗ semVal ((c : Thread nD τ), SemLoc.dma 6) 0 ∗ (∃ W, owes (c : Thread nD τ) 0 W))

/-- The picture of number `w` among the images. -/
abbrev picture (i : grid0.Coords) (h2 : k0_cond2 i = 1#1) (w : BitVec 32) (hs : k0_chk2 i w) (fi : ImgsC F) : Vec F S4x64x64 .f32 :=
  ((imgs.slice (Rect.unit (s := S256x4x64x64) (k0_off2 w) S1x4x64x64.size (k0_off2_inb i w hs h2)) (fun _ => rfl)).squeeze S4x64x64 squeezes_S1x4x64x64_S4x64x64).view.read (Elt F) fi

/-- The rows of the canvas a trip replaces, and what it replaces them by. -/
abbrev stripRect (i : grid0.Coords) (h2 : k0_cond2 i = 1#1) (wx : BitVec 32) (hx : k0_chk3 i wx) : Rect S4x512x512 :=
  Rect.unit (s := S4x512x512) (k0_off3 wx) S4x72x512.size (k0_off3_inb i wx hx h2)

def stripNew (wx wy : BitVec 32) (old : Vec F S4x72x512 .f32) (p : Vec F S4x64x64 .f32) : Vec F S4x72x512 .f32 :=
  k0_pay3 (k0_pay6 wx wy (k0_mult1 wx) (Scalar.subi wx (k0_mult1 wx)) old p (Scalar.ofBits .f32 0x00000000#32))

def stripPiece (i : grid0.Coords) (h2 : k0_cond2 i = 1#1) (wx : BitVec 32) (hx : k0_chk3 i wx) (wy ws : BitVec 32) (hs : k0_chk2 i ws)
    (fi : ImgsC F) (fc : CanvasC F) : View.Piece (Elt F) S4x512x512 .f32 :=
  ⟨stripRect i h2 wx hx, stripNew wx wy (canvas.view.readAt (Elt F) (stripRect i h2 wx hx).toLoadRect fc) (picture i h2 ws hs fi)⟩

set_option maxHeartbeats 400000 in
theorem trip (c : Dev nD) (i : grid0.Coords) (arg1 : Memref sig .tc .smem S1 .i32) (harg1 : arg1.IsWhole)
    (arg2 : Memref sig .tc .smem S512 .i32) (harg2 : arg2.IsWhole) (arg3 : Memref sig .tc .smem S512 .i32) (harg3 : arg3.IsWhole)
    (arg4 : Memref sig .tc .smem S512 .i32) (harg4 : arg4.IsWhole) (arg6 : Memref sig .tc .vmem S1x3x512x512 .f32) (harg6 : arg6.IsWhole)
    (h2 : k0_cond2 i = 1#1) (v10 : BitVec 32) (hw1 : k0_chk1 i v10)
    (f2 : arg2.view.ty.Contents (Elt F)) (f3 : arg3.view.ty.Contents (Elt F)) (f4 : arg4.view.ty.Contents (Elt F)) (fi : ImgsC F)
    (k : Fin (k0_t1_loop v10).trips) (hx : k0_chk3 i (wordAt i h2 v10 hw1 arg2 f2 k)) (hs : k0_chk2 i (wordAt i h2 v10 hw1 arg4 f4 k)) (fc : CanvasC F) :
    TripRes c arg2 arg3 arg4 f2 f3 f4 fi fc
      ⊢ wp frame (wpE (defs₀ (F := F)) Variants.none c none) Set.univ
          (k0_t1_body (F := F) i arg1 harg1 arg2 harg2 arg3 harg3 arg4 harg4 imgs (Memref.isWhole_whole _) arg6 harg6 canvas (Memref.isWhole_whole _) sprite (Memref.isWhole_whole _) cc0_scratch2 h2 v10 hw1 k ())
          (fun _ => TripRes c arg2 arg3 arg4 f2 f3 f4 fi (canvas.view.writes (Elt F) fc
            [stripPiece i h2 (wordAt i h2 v10 hw1 arg2 f2 k) hx (wordAt i h2 v10 hw1 arg3 f3 k) (wordAt i h2 v10 hw1 arg4 f4 k) hs fi fc])) := by
  suffices h : TripRes c arg2 arg3 arg4 f2 f3 f4 fi fc
      ⊢ wp frame (wpE (defs₀ (F := F)) Variants.none c none) Set.univ
          (k0_t1_body (F := F) i arg1 harg1 arg2 harg2 arg3 harg3 arg4 harg4 imgs (Memref.isWhole_whole _) arg6 harg6 canvas (Memref.isWhole_whole _) sprite (Memref.isWhole_whole _) cc0_scratch2 h2 v10 hw1 k ())
          (fun _ => iprop(∃ fc', TripRes c arg2 arg3 arg4 f2 f3 f4 fi fc' ∗ ⌜fc' = canvas.view.writes (Elt F) fc
            [stripPiece i h2 (wordAt i h2 v10 hw1 arg2 f2 k) hx (wordAt i h2 v10 hw1 arg3 f3 k) (wordAt i h2 v10 hw1 arg4 f4 k) hs fi fc]⌝)) by
    iintro H
    iapply (wp_wand_r Idealize.ShloMosaic.frame (wpE (defs₀ (F := F)) Variants.none (c : Thread nD τ) none) Set.univ)
    isplitl [H]
    · iapply h
      iexact H
    iintro %_ ⟨%fc', H, %e⟩
    subst e
    iexact H
  unfold k0_t1_body
  simp only [k0_part1_eq_skeleton, k0_part2_eq_skeleton]
  unfold k0_part1_skel k0_part2_skel
  iintro ⟨H2, H3, H4, Hi, Hc, ⟨%g, Hg⟩, Hq, ⟨%W, HW⟩⟩
  sl_exec (disch := first | sl_exact hx | sl_exact hs)
  sl_step
  iexists _
  isplitl
  · isplitl [H2]; · iexact H2
    isplitl [H3]; · iexact H3
    isplitl [H4]; · iexact H4
    isplitl [Hi]; · iexact Hi
    isplitl [Hc]; · iexact Hc
    isplitl [Hg]; · iexists _; iexact Hg
    isplitl [Hq]; · iexact Hq
    iexists _; iexact HW
  ipureintro
  dsimp only
  have e : sprite.view.readAt (Elt F) (Rect.unit ![0, 0, 0] S4x64x64.size inb_S4x64x64_S4x64x64_0_0_0).toLoadRect
      (sprite.view.write (Elt F) g (trip.sl.dma3 i arg4 h2 v10 hw1 f4 fi k hs) Finset.univ) = picture i h2 (wordAt i h2 v10 hw1 arg4 f4 k) hs fi := by
    rw [View.readAt_full sprite.view, View.read_write_univ]
    unfold trip.sl.dma3
    rfl
  rw [e]
  rfl

end Cert.KernelIdeal.Paste
-- ==== Proof.IBody.lean ====
/- The kernel's body at a point of its grid, for any float values. -/
module

public import proofs.«01_k».proof.Proof.ITrip

@[expose] public section

set_option maxRecDepth 16384

noncomputable section

namespace Cert.KernelIdeal.Paste

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The word a list holds at place `k`. -/
def place (k : ℕ) : S512.Idx := fun a => match a with | ⟨0, _⟩ => ⟨k % 512, Nat.mod_lt k (Nat.succ_pos 511)⟩

def listAt (x : Vec F S512 .i32) (k : ℕ) : BitVec 32 := x (place k)

/-- The canvas a trip leaves. -/
def nextCanvas (i : grid0.Coords) (h2 : k0_cond2 i = 1#1) (wx wy ws : BitVec 32) (fi : ImgsC F) (fc : CanvasC F) : CanvasC F :=
  if h : k0_chk3 i wx ∧ k0_chk2 i ws then canvas.view.writes (Elt F) fc [stripPiece i h2 wx h.1 wy ws h.2 fi fc] else fc

/-- The canvas before trip `k`: all ones, then trip by trip. -/
def canvasAt (i : grid0.Coords) (h2 : k0_cond2 i = 1#1) (x1 x2 x3 : Vec F S512 .i32) (fi : ImgsC F) : ℕ → CanvasC F
  | 0 => (k0_pay2 : FVec F S4x512x512 .f32)
  | k + 1 => nextCanvas i h2 (listAt x1 k) (listAt x2 k) (listAt x3 k) fi (canvasAt i h2 x1 x2 x3 fi k)

/-- The number of trips. -/
def countOf (x0 : Vec F S1 .i32) : BitVec 32 := x0 (fun a => match a with | ⟨0, _⟩ => ⟨0, Nat.one_pos⟩)

/-- What the body leaves in the result's block at the last point. -/
def outLast (i : grid0.Coords) (h2 : k0_cond2 i = 1#1) (x0 : Vec F S1 .i32) (x1 x2 x3 : Vec F S512 .i32) (fi : ImgsC F) : Vec F S1x3x512x512 .f32 :=
  k0_pay5 (canvas.view.readAt (Elt F) (Rect.unit (s := S4x512x512) ![0, 0, 0] S3x512x512.size inb_S4x512x512_S3x512x512_0_0_0).toLoadRect
    (canvasAt i h2 x1 x2 x3 fi (countOf x0).toNat))

theorem count_eq (a : Memref sig .tc .smem S1 .i32) (ha : a.IsWhole) (x0 : Vec F S1 .i32) : count (F := F) a (ha.unread x0) = countOf (F := F) x0 := by
  unfold countOf
  show a.view.read (Elt F) (ha.unread x0) _ = _
  rw [ha.read_unread]
  refine congrArg x0 (funext fun b => Fin.ext ?_)
  match b with
  | ⟨0, _⟩ => rfl

theorem wordAt_eq (i : grid0.Coords) (h2 : k0_cond2 i = 1#1) {v : BitVec 32} (hv : v.toNat ≤ 512) (hw1 : k0_chk1 i v)
    (a : Memref sig .tc .smem S512 .i32) (ha : a.IsWhole) (x : Vec F S512 .i32) (k : Fin (k0_t1_loop v).trips) :
    wordAt (F := F) i h2 v hw1 a (ha.unread x) k = listAt (F := F) x k.val := by
  have hk : k.val < 512 := by have := k.isLt; have := trips_eq hv; omega
  unfold listAt
  show a.view.read (Elt F) (ha.unread x) _ = _
  rw [ha.read_unread]
  refine congrArg x (funext fun b => Fin.ext ?_)
  match b with
  | ⟨0, _⟩ =>
    show k0_off1 v k 0 + 1 * _ = k.val % 512
    have h1 : k0_off1 v k 0 = k.val := by rw [off1_eq hv]; rfl
    rw [Nat.mod_eq_of_lt hk]
    exact h1

theorem fill_eq (fc : CanvasC F) : canvas.view.writes (Elt F) fc
    [⟨Rect.unit (s := S4x512x512) ![0, 0, 0] S4x512x512.size inb_S4x512x512_S4x512x512_0_0_0, (k0_pay2 : FVec F S4x512x512 .f32)⟩]
      = (k0_pay2 : FVec F S4x512x512 .f32) :=
  Memref.write_access_unit_zero_univ (Elt F) cc0_scratch0 (off := ![0, 0, 0])
    (funext fun a => match a with | ⟨0, _⟩ => rfl | ⟨1, _⟩ => rfl | ⟨2, _⟩ => rfl) inb_S4x512x512_S4x512x512_0_0_0 fc k0_pay2

set_option maxHeartbeats 400000 in
/-- The body at a point before the last: the block filled with ones, nothing else touched. -/
theorem runFill (c : Dev nD) (i : grid0.Coords) (arg1 : Memref sig .tc .smem S1 .i32) (harg1 : arg1.IsWhole)
    (arg2 : Memref sig .tc .smem S512 .i32) (harg2 : arg2.IsWhole) (arg3 : Memref sig .tc .smem S512 .i32) (harg3 : arg3.IsWhole)
    (arg4 : Memref sig .tc .smem S512 .i32) (harg4 : arg4.IsWhole) (arg6 : Memref sig .tc .vmem S1x3x512x512 .f32) (harg6 : arg6.IsWhole)
    (h1 : k0_cond1 i = 1#1) (h2 : ¬ k0_cond2 i = 1#1) (K : PUnit → sProp 𝕄) :
    iprop((∃ d, owns (c : Thread nD τ) arg6 fullShare d) ∗ (owns (c : Thread nD τ) arg6 fullShare (k0_pay1 : FVec F S1x3x512x512 .f32) -∗ K ⟨⟩))
      ⊢ wp frame (wpE (defs₀ (F := F)) Variants.none c none) Set.univ
        (cc0__composite_fill_kernel (F := F) i arg1 harg1 arg2 harg2 arg3 harg3 arg4 harg4 imgs (Memref.isWhole_whole _) arg6 harg6 canvas (Memref.isWhole_whole _) sprite (Memref.isWhole_whole _) cc0_scratch2) K := by
  rw [cc0__composite_fill_kernel_eq_skeleton]; unfold cc0__composite_fill_kernel_skel
  unfold owns
  iintro ⟨⟨%d, %f, -, H6⟩, Hk⟩
  sl_exec (disch := first | sl_exact h1 | sl_exact h2)
  sl_step
  iapply Hk
  iexists _; isplitr
  swap; · iexact H6
  ipureintro
  exact View.read_writes_full arg6.view _ _ _ _

set_option maxHeartbeats 400000 in
/-- The body at the last point: the canvas filled with ones, the sprites pasted one by one, the colours copied out. -/
theorem runLast (c : Dev nD) (i : grid0.Coords) (arg1 : Memref sig .tc .smem S1 .i32) (harg1 : arg1.IsWhole)
    (arg2 : Memref sig .tc .smem S512 .i32) (harg2 : arg2.IsWhole) (arg3 : Memref sig .tc .smem S512 .i32) (harg3 : arg3.IsWhole)
    (arg4 : Memref sig .tc .smem S512 .i32) (harg4 : arg4.IsWhole) (arg6 : Memref sig .tc .vmem S1x3x512x512 .f32) (harg6 : arg6.IsWhole)
    (h1 : ¬ k0_cond1 i = 1#1) (h2 : k0_cond2 i = 1#1)
    (x0 : Vec F S1 .i32) (x1 x2 x3 : Vec F S512 .i32) (fi : ImgsC F)
    (hn : (countOf (F := F) x0).toNat ≤ 512) (hx : ∀ k, (listAt (F := F) x1 k).toNat ≤ 448) (hs : ∀ k, (listAt (F := F) x3 k).toNat < 256)
    (W : Waits sig Unit) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg6 fullShare d)
        ∗ (∃ f, canvas.view.loc (c : Thread nD τ) ↦{fullShare} f) ∗ (∃ f, sprite.view.loc (c : Thread nD τ) ↦{fullShare} f)
        ∗ semVal ((c : Thread nD τ), SemLoc.dma 6) 0 ∗ (imgs.view.loc (c : Thread nD τ) ↦{fullShare} fi) ∗ owes (c : Thread nD τ) 0 W
        ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg6 fullShare (outLast i h2 x0 x1 x2 x3 fi)
          ∗ (∃ f, canvas.view.loc (c : Thread nD τ) ↦{fullShare} f) ∗ (∃ f, sprite.view.loc (c : Thread nD τ) ↦{fullShare} f)
          ∗ semVal ((c : Thread nD τ), SemLoc.dma 6) 0 ∗ (imgs.view.loc (c : Thread nD τ) ↦{fullShare} fi) ∗ (∃ W', owes (c : Thread nD τ) 0 W')) -∗ K ⟨⟩))
      ⊢ wp frame (wpE (defs₀ (F := F)) Variants.none c none) Set.univ
        (cc0__composite_fill_kernel (F := F) i arg1 harg1 arg2 harg2 arg3 harg3 arg4 harg4 imgs (Memref.isWhole_whole _) arg6 harg6 canvas (Memref.isWhole_whole _) sprite (Memref.isWhole_whole _) cc0_scratch2) K := by
  have hv : (count (F := F) arg1 (harg1.unread x0)).toNat ≤ 512 := by rw [count_eq]; exact hn
  have hw1 : k0_chk1 i (count (F := F) arg1 (harg1.unread x0)) := chk1_of hv i
  rw [cc0__composite_fill_kernel_eq_skeleton]; unfold cc0__composite_fill_kernel_skel
  unfold owns
  iintro ⟨⟨%f1, %hf1, H1⟩, ⟨%f2, %hf2, H2⟩, ⟨%f3, %hf3, H3⟩, ⟨%f4, %hf4, H4⟩, ⟨%d6, %f6, -, H6⟩, ⟨%fc, Hc⟩, ⟨%fs, Hs⟩, Hq, Hi, HW, Hk⟩
  obtain rfl := harg1.eq_unread hf1; obtain rfl := harg2.eq_unread hf2; obtain rfl := harg3.eq_unread hf3; obtain rfl := harg4.eq_unread hf4
  sl_exec (disch := first | sl_exact h1 | sl_exact h2 | sl_exact hw1)
  have hr : runLast.sl.r c arg1 harg1 x0 = countOf (F := F) x0 := count_eq arg1 harg1 x0
  have hv' : (runLast.sl.r c arg1 harg1 x0).toNat ≤ 512 := hv
  have hw' : k0_chk1 i (runLast.sl.r c arg1 harg1 x0) := hw1
  have htr : Scf.trips (k0_t1_loop (runLast.sl.r c arg1 harg1 x0)).lb (k0_t1_loop (runLast.sl.r c arg1 harg1 x0)).ub
      (k0_t1_loop (runLast.sl.r c arg1 harg1 x0)).st = (countOf (F := F) x0).toNat := (trips_eq hv').trans (congrArg BitVec.toNat hr)
  sl_for (fun k _ => TripRes c arg2 arg3 arg4 (harg2.unread x1) (harg3.unread x2) (harg4.unread x3) fi (canvasAt i h2 x1 x2 x3 fi k)) $$ [H2 H3 H4 Hi Hc Hs Hq HW]
  · intro k acc
    have ex := wordAt_eq (F := F) i h2 hv' hw' arg2 harg2 x1 k
    have es := wordAt_eq (F := F) i h2 hv' hw' arg4 harg4 x3 k
    have h3 : k0_chk3 i (wordAt (F := F) i h2 _ hw' arg2 (harg2.unread x1) k) := chk3_of (by rw [ex]; exact hx _) i
    have h4 : k0_chk2 i (wordAt (F := F) i h2 _ hw' arg4 (harg4.unread x3) k) := chk2_of (by rw [es]; exact hs _) i
    have hnext : nextCanvas i h2 (listAt (F := F) x1 k.val) (listAt (F := F) x2 k.val) (listAt (F := F) x3 k.val) fi (canvasAt i h2 x1 x2 x3 fi k.val)
        = canvas.view.writes (Elt F) (canvasAt i h2 x1 x2 x3 fi k.val)
            [stripPiece i h2 (wordAt (F := F) i h2 _ hw' arg2 (harg2.unread x1) k) h3 (wordAt (F := F) i h2 _ hw' arg3 (harg3.unread x2) k)
              (wordAt (F := F) i h2 _ hw' arg4 (harg4.unread x3) k) h4 fi (canvasAt i h2 x1 x2 x3 fi k.val)] := by
      rw [← ex, ← es, ← wordAt_eq (F := F) i h2 hv' hw' arg3 harg3 x2 k]
      unfold nextCanvas
      exact dif_pos ⟨h3, h4⟩
    have ht := trip c i arg1 harg1 arg2 harg2 arg3 harg3 arg4 harg4 arg6 harg6 h2 _ hw' (harg2.unread x1) (harg3.unread x2) (harg4.unread x3) fi k h3 h4 (canvasAt i h2 x1 x2 x3 fi k.val)
    rw [← hnext] at ht
    exact ht
  · isplitl [H2]; · iexact H2
    isplitl [H3]; · iexact H3
    isplitl [H4]; · iexact H4
    isplitl [Hi]; · iexact Hi
    isplitl [Hc]
    · unfold runLast.sl.Hc_1
      rw [fill_eq]
      iexact Hc
    isplitl [Hs]; · iexists _; iexact Hs
    isplitl [Hq]; · iexact Hq
    iexists _; iexact HW
  iintro %acc ⟨H2, H3, H4, Hi, Hc, ⟨%g, Hs⟩, Hq, ⟨%W', HW⟩⟩
  rw [htr]
  sl_exec
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H6]
  · iexists _; isplitr
    swap; · iexact H6
    ipureintro
    exact View.read_writes_full arg6.view _ _ _ _
  isplitl [Hc]; · iexists _; iexact Hc
  isplitl [Hs]; · iexists _; iexact Hs
  isplitl [Hq]; · iexact Hq
  isplitl [Hi]; · iexact Hi
  iexists _; iexact HW

end Cert.KernelIdeal.Paste
-- ==== Proof.IFrame.lean ====
/- The kernel's launch, for any float values: every execution ends with every counter at zero, the arguments unchanged and
   the result's array at what the body leaves block by block — given that the lists the region is entered with hold
   usable words (`Words`). -/
module

public import proofs.«01_k».proof.Proof.IBody

@[expose] public section

set_option maxRecDepth 16384

noncomputable section

namespace Cert.KernelIdeal.Paste

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main up to the region, at the resources of a body with transfers of its own. -/
theorem entry (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh⟩) main_chain

/-- The counter of the body's own transfers. -/
abbrev own : Fin 1 → SemLoc sig := fun j => (![SemLoc.dma 6] : Fin 1 → SemLoc sig) j
theorem own_facts : Pipeline.OwnSemFacts spec0 own := by decide
theorem own_eq (c : Dev nD) :
    (Pipeline.ownSems0 (Ix := Unit) (Name := ℕ) (U := Pipeline.UD sig nD τ) (Lvl := ℕ) (Val := Elt F) (τ := τ) own c : sProp 𝕄)
      = iprop(semVal ((c : Thread nD τ), SemLoc.dma 6) 0) := by
  rw [Pipeline.ownSems0_eq_of_list c own [0] (by decide) (by decide)]; rfl

/-- The images stay where they are: the body reads them there. -/
def stay : Finset (Ref sig .tc) := {main_arg1}
theorem stay_sub : stay ⊆ Pipeline.restRefs sig spec0 := by decide
theorem stay_eq (c : Dev nD) :
    (bigSep stay (fun b => ((c : Thread nD τ).loc b) ↦{fullShare} V m c b) : sProp 𝕄)
      = iprop(imgs.view.loc (c : Thread nD τ) ↦{fullShare} V m c main_arg1) := by
  rw [BI.bigSep_eq_bigSepL_of_eq [main_arg1] (by decide) (by decide)]; rfl

theorem inv_eq (c : Dev nD) :
    (Pipeline.ΦD own spec0 stay (V m) c : sProp 𝕄)
      = iprop(iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
        ∗ (∃ r, prngReg c r) ∗ iprop(semVal ((c : Thread nD τ), SemLoc.dma 6) 0)
        ∗ iprop(imgs.view.loc (c : Thread nD τ) ↦{fullShare} V m c main_arg1)) := by
  rw [Pipeline.ΦD_eq, scopedRest0_eq, own_eq, stay_eq]

/-- The last point is the one the sprites are pasted at. -/
theorem cond1_iff : ∀ t : Fin grid0.N, k0_cond1 (grid0.coords t) = 1#1 ↔ ¬ k0_cond2 (grid0.coords t) = 1#1 := by decide +kernel
theorem cond2_iff : ∀ t : Fin grid0.N, k0_cond2 (grid0.coords t) = 1#1 ↔ t.val = 31 := by decide +kernel

/-- What the lists must hold. -/
def Words (c : Dev nD) : Prop := ∀ t : Fin cfg0.N,
  (countOf (F := F) (iblk m c 0 t)).toNat ≤ 512 ∧ (∀ k, (listAt (F := F) (iblk m c 1 t) k).toNat ≤ 448)
    ∧ (∀ k, (listAt (F := F) (iblk m c 3 t) k).toNat < 256)

/-- What the body leaves in the result's block. -/
def outAt (c : Dev nD) (t : Fin cfg0.N) : Vec F S1x3x512x512 .f32 :=
  if h : k0_cond2 (grid0.coords t) = 1#1 then
    outLast (grid0.coords t) h (iblk m c 0 t) (iblk m c 1 t) (iblk m c 2 t) (iblk m c 3 t) (V m c main_arg1)
  else k0_pay1

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outAt m c t)
  Φ _ := Pipeline.ΦD own spec0 stay (V m) c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outAt m c t) := by dsimp only [dats]

/-- An input's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (hw : Words m c) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl, after_0, after_1, after_2, after_3, after_4]
  rw [show (dats m 0 c).Φ t.castSucc = Pipeline.ΦD own spec0 stay (V m) c from rfl, inv_eq]
  unfold Dat.owesAt Pipeline.owesWithin
  rw [show (dats m 0 c).owed t.castSucc = 0 from rfl, show (dats m 0 c).owed t.succ = 0 from rfl]
  by_cases h2 : k0_cond2 (grid0.coords t) = 1#1
  · have h1 : ¬ k0_cond1 (grid0.coords t) = 1#1 := fun h => (cond1_iff t).mp h h2
    rw [show outAt m c t = outLast (grid0.coords t) h2 (iblk m c 0 t) (iblk m c 1 t) (iblk m c 2 t) (iblk m c 3 t) (V m c main_arg1) from dif_pos h2]
    iintro ⟨⟨⟨Hc, Hs⟩, Hg, Hq, Hi⟩, ⟨%W, -, HW⟩, ⟨%d0, H0⟩, ⟨%d1, H1⟩, ⟨%d2, H2⟩, ⟨%d3, H3⟩, ⟨%d4, H4⟩⟩
    iapply (runLast c (grid0.coords t) _ _ _ _ _ _ _ _ _ _ h1 h2 (iblk m c 0 t) (iblk m c 1 t) (iblk m c 2 t) (iblk m c 3 t) (V m c main_arg1) (hw t).1 (hw t).2.1 (hw t).2.2 W _)
    isplitl [H0]; · iexact H0
    isplitl [H1]; · iexact H1
    isplitl [H2]; · iexact H2
    isplitl [H3]; · iexact H3
    isplitl [H4]; · iexists _; iexact H4
    isplitl [Hc]; · iexact Hc
    isplitl [Hs]; · iexact Hs
    isplitl [Hq]; · iexact Hq
    isplitl [Hi]; · iexact Hi
    isplitl [HW]; · iexact HW
    iintro ⟨H0, H1, H2, H3, H4, Hc, Hs, Hq, Hi, ⟨%W', HW'⟩⟩
    isplitl [Hc Hs Hg Hq Hi]
    · isplitl [Hc Hs]
      · isplitl [Hc]; · iexact Hc
        iexact Hs
      isplitl [Hg]; · iexact Hg
      isplitl [Hq]; · iexact Hq
      iexact Hi
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4
  · have h1 : k0_cond1 (grid0.coords t) = 1#1 := (cond1_iff t).mpr h2
    rw [show outAt m c t = k0_pay1 from dif_neg h2]
    iintro ⟨HΦ, ⟨%W, -, HW⟩, ⟨%d0, H0⟩, ⟨%d1, H1⟩, ⟨%d2, H2⟩, ⟨%d3, H3⟩, ⟨%d4, H4⟩⟩
    iapply (runFill c (grid0.coords t) _ _ _ _ _ _ _ _ _ _ h1 h2 _)
    isplitl [H4]; · iexists _; iexact H4
    iintro H4
    isplitl [HΦ]; · iexact HΦ
    isplitl [HW]
    · iexists W; isplitr; · ipureintro; exact fun _ _ => Or.inl trivial
      iexact HW
    isplitl [H0]; · iexact H0
    isplitl [H1]; · iexact H1
    isplitl [H2]; · iexact H2
    isplitl [H3]; · iexact H3
    iexact H4

/-- No point leaves the result's block alone. -/
theorem busy : ∀ t : Fin grid0.N, idle0 4 (grid0.coords t) = false := by decide +kernel

theorem body_row (t : Fin cfg0.N) :
    defs₀ (F := F) .tc cfg0.body (cfg0.bodyArgs t (cfg0.slots t)) = bodyAt0 t := by
  unfold defs₀; rw [Defs.onTc_tc]

theorem body_obligation (c : Dev nD) (hw : Words m c) : BodyObligation (dats (F := F) m 0 c) (defs₀ (F := F)) Variants.none () Set.univ := fun t => by
  rw [bigSep_W0, bigSep_W0, body_row]
  refine triple_restated (sound_body m c hw t) rfl .rfl fun _ => ?_
  unfold bodyPost
  simp only [busy t]
  exact .rfl

set_option backward.isDefEq.respectTransparency.types false in
/-- The launch. -/
theorem run_main (hw : ∀ c, Words m c) : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 own defs₀ Variants.none own_facts stay stay_sub m ρ main
    (hbody := fun c => (body_obligation m c (hw c)).loose) (hshare := fun c => (dats m 0 c).share_full fun _ => rfl)
    (howed := fun _ _ => rfl) (V := V m) (hmain := entry m Variants.none) (hA := A_eq m)
    (hin := fun _ => .rfl) (hout := fun _ => .rfl)

/-- The arguments end unchanged and the counters at zero. -/
theorem frame_of_words (hw : ∀ c, Words m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩) (run_main m ρ hw)

end Cert.KernelIdeal.Paste
-- ==== Proof.IHost.lean ====
/- The contents of the lists the region is entered with: what the host operations before it compute from the arguments. -/
module

public import proofs.«01_k».proof.Proof.Spec
public import proofs.«01_k».proof.Proof.Gen.KernelIdeal.Frame
public import Idealize.ShloMosaic.Lib.StableHlo.Run
public import Idealize.ShloMosaic.Lib.StableHlo.RunClose

@[expose] public section

set_option maxRecDepth 16384

noncomputable section

namespace Cert.KernelIdeal.Host

open Cert.KernelIdeal Cert.KernelIdeal.Gen
open Idealize.ShloMosaic Idealize.ShloMosaic.TcCoe Idealize.ShloMosaic.StableHlo

variable {F : FTy → Type} [FloatOps F]
variable (m : (ℓ : Loc nD τ sig) → Buf (Elt F) ℓ) (c : Dev nD)

abbrev W0 : List (Ref sig .tc) := [main_v0, main_v1, main_v2, main_v3, main_cst, main_v4, main_v5]
theorem writes0 : (hostOps0 : List (HloOp τ sig (Elt F))).Forall fun op => op.writes ⊆ (W0.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W1 : List (Ref sig .tc) := [main_v6]
theorem writes1 : (hostOps0_1 : List (HloOp τ sig (Elt F))).Forall fun op => op.writes ⊆ (W1.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W2 : List (Ref sig .tc) := [main_v7, main_v8, main_v9, main_cst_0, main_v10, main_v11]
theorem writes2 : (hostOps0_2 : List (HloOp τ sig (Elt F))).Forall fun op => op.writes ⊆ (W2.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W3 : List (Ref sig .tc) := [main_v12]
theorem writes3 : (hostOps0_3 : List (HloOp τ sig (Elt F))).Forall fun op => op.writes ⊆ (W3.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W4 : List (Ref sig .tc) := [main_v13, main_v14, main_v15, main_cst_1, main_v16, main_v17]
theorem writes4 : (hostOps0_4 : List (HloOp τ sig (Elt F))).Forall fun op => op.writes ⊆ (W4.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W5 : List (Ref sig .tc) := [main_v18]
theorem writes5 : (hostOps0_5 : List (HloOp τ sig (Elt F))).Forall fun op => op.writes ⊆ (W5.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W6 : List (Ref sig .tc) := [main_v19, main_v20, main_v21, main_cst_2, main_v22, main_v23]
theorem writes6 : (hostOps0_6 : List (HloOp τ sig (Elt F))).Forall fun op => op.writes ⊆ (W6.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W7 : List (Ref sig .tc) := [main_v24]
theorem writes7 : (hostOps0_7 : List (HloOp τ sig (Elt F))).Forall fun op => op.writes ⊆ (W7.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W8 : List (Ref sig .tc) := [main_v25, main_v26, main_v27, main_v28, main_c]
theorem writes8 : (hostOps0_8 : List (HloOp τ sig (Elt F))).Forall fun op => op.writes ⊆ (W8.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W9 : List (Ref sig .tc) := [main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v29]
theorem writes9 : (hostOps0_9 : List (HloOp τ sig (Elt F))).Forall fun op => op.writes ⊆ (W9.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W10 : List (Ref sig .tc) := [main_v30, main_c_3]
theorem writes10 : (hostOps0_10 : List (HloOp τ sig (Elt F))).Forall fun op => op.writes ⊆ (W10.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W11 : List (Ref sig .tc) := [main_call5_v0, main_call5_v1, main_call5_v2, main_call5_v3, main_call5_v4, main_call5_v5, main_call5_v6, main_call5_v7, main_call5_v8, main_call5_c, main_call5_v9, main_call5_v10, main_call5_v11, main_call5_c_0, main_call5_v12, main_call5_v13, main_v31]
theorem writes11 : (hostOps0_11 : List (HloOp τ sig (Elt F))).Forall fun op => op.writes ⊆ (W11.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W12 : List (Ref sig .tc) := [main_v32, main_c_4, main_v33, main_v34, main_c_5]
theorem writes12 : (hostOps0_12 : List (HloOp τ sig (Elt F))).Forall fun op => op.writes ⊆ (W12.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W13 : List (Ref sig .tc) := [main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v35]
theorem writes13 : (hostOps0_13 : List (HloOp τ sig (Elt F))).Forall fun op => op.writes ⊆ (W13.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W14 : List (Ref sig .tc) := [main_v36, main_c_6, main_v37, main_v38, main_c_7]
theorem writes14 : (hostOps0_14 : List (HloOp τ sig (Elt F))).Forall fun op => op.writes ⊆ (W14.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W15 : List (Ref sig .tc) := [main_call7_v0, main_call7_v1, main_call7_v2, main_call7_v3, main_call7_v4, main_call7_v5, main_call7_v6, main_call7_v7, main_call7_v8, main_call7_c, main_call7_v9, main_call7_v10, main_call7_v11, main_call7_c_0, main_call7_v12, main_call7_v13, main_v39]
theorem writes15 : (hostOps0_15 : List (HloOp τ sig (Elt F))).Forall fun op => op.writes ⊆ (W15.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W16 : List (Ref sig .tc) := [main_v40, main_c_8, main_v41, main_v42, main_c_9, main_v43, main_v44, main_v45, main_c_10, main_v46, main_v47, main_v48, main_c_11, main_v49, main_v50, main_v51]
theorem writes16 : (hostOps0_16 : List (HloOp τ sig (Elt F))).Forall fun op => op.writes ⊆ (W16.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W17 : List (Ref sig .tc) := [main_call8_v0, main_call8_cst, main_call8_c, main_call8_v1_0, main_v52]
theorem writes17 : (hostOps0_17 : List (HloOp τ sig (Elt F))).Forall fun op => op.writes ⊆ (W17.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W18 : List (Ref sig .tc) := [main_c_12, main_c_13]
theorem writes18 : (hostOps0_18 : List (HloOp τ sig (Elt F))).Forall fun op => op.writes ⊆ (W18.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W19 : List (Ref sig .tc) := [main_call9_v0, main_call9_v1, main_call9_v2, main_call9_v3, main_call9_v4, main_v53]
theorem writes19 : (hostOps0_19 : List (HloOp τ sig (Elt F))).Forall fun op => op.writes ⊆ (W19.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W20 : List (Ref sig .tc) := [main_c_14, main_c_15]
theorem writes20 : (hostOps0_20 : List (HloOp τ sig (Elt F))).Forall fun op => op.writes ⊆ (W20.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W21 : List (Ref sig .tc) := [main_call10_v0, main_call10_v1, main_call10_v2, main_call10_v3, main_call10_v4, main_v54]
theorem writes21 : (hostOps0_21 : List (HloOp τ sig (Elt F))).Forall fun op => op.writes ⊆ (W21.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W22 : List (Ref sig .tc) := [main_cst_16]
theorem writes22 : (hostOps0_22 : List (HloOp τ sig (Elt F))).Forall fun op => op.writes ⊆ (W22.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W23 : List (Ref sig .tc) := [main_call11_v0, main_call11_v1, main_v55]
theorem writes23 : (hostOps0_23 : List (HloOp τ sig (Elt F))).Forall fun op => op.writes ⊆ (W23.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W24 : List (Ref sig .tc) := [main_call12_v0, main_call12_v1_0, main_v56]
theorem writes24 : (hostOps0_24 : List (HloOp τ sig (Elt F))).Forall fun op => op.writes ⊆ (W24.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))
abbrev W25 : List (Ref sig .tc) := [main_v57, main_c_17, main_v58, main_v59, main_c_18, main_v60, main_v61, main_c_19, main_v62, main_v63, main_v64, main_v65, main_v66, main_c_20, main_v67, main_v68, main_c_21, main_v69, main_v70, main_v71, main_v72, main_v73, main_c_22, main_v74, main_v75, main_c_23, main_v76, main_v77, main_v78, main_v79, main_v80]
theorem writes25 : (hostOps0_25 : List (HloOp τ sig (Elt F))).Forall fun op => op.writes ⊆ (W25.map (Proc.devRef (τ := τ) .tc)).toFinset := by
  simp only [List.Forall]
  repeat' first
    | (refine ⟨?_, ?_⟩)
    | (simp only [nullary_writes, unary_writes, binary_writes, ternary_writes, quaternary_writes, reshape_writes, Finset.singleton_subset_iff, List.mem_toFinset]; exact List.mem_map_of_mem (by decide))

/-- The contents before the first operation. -/
def at0 : Valuation τ sig (Elt F) := fun b => m (c, b)
def at1 : Valuation τ sig (Elt F) := after hostOps0 (at0 m c)
def at2 : Valuation τ sig (Elt F) := after hostOps0_1 (at1 m c)
def at3 : Valuation τ sig (Elt F) := after hostOps0_2 (at2 m c)
def at4 : Valuation τ sig (Elt F) := after hostOps0_3 (at3 m c)
def at5 : Valuation τ sig (Elt F) := after hostOps0_4 (at4 m c)
def at6 : Valuation τ sig (Elt F) := after hostOps0_5 (at5 m c)
def at7 : Valuation τ sig (Elt F) := after hostOps0_6 (at6 m c)
def at8 : Valuation τ sig (Elt F) := after hostOps0_7 (at7 m c)
def at9 : Valuation τ sig (Elt F) := after hostOps0_8 (at8 m c)
def at10 : Valuation τ sig (Elt F) := after hostOps0_9 (at9 m c)
def at11 : Valuation τ sig (Elt F) := after hostOps0_10 (at10 m c)
def at12 : Valuation τ sig (Elt F) := after hostOps0_11 (at11 m c)
def at13 : Valuation τ sig (Elt F) := after hostOps0_12 (at12 m c)
def at14 : Valuation τ sig (Elt F) := after hostOps0_13 (at13 m c)
def at15 : Valuation τ sig (Elt F) := after hostOps0_14 (at14 m c)
def at16 : Valuation τ sig (Elt F) := after hostOps0_15 (at15 m c)
def at17 : Valuation τ sig (Elt F) := after hostOps0_16 (at16 m c)
def at18 : Valuation τ sig (Elt F) := after hostOps0_17 (at17 m c)
def at19 : Valuation τ sig (Elt F) := after hostOps0_18 (at18 m c)
def at20 : Valuation τ sig (Elt F) := after hostOps0_19 (at19 m c)
def at21 : Valuation τ sig (Elt F) := after hostOps0_20 (at20 m c)
def at22 : Valuation τ sig (Elt F) := after hostOps0_21 (at21 m c)
def at23 : Valuation τ sig (Elt F) := after hostOps0_22 (at22 m c)
def at24 : Valuation τ sig (Elt F) := after hostOps0_23 (at23 m c)
def at25 : Valuation τ sig (Elt F) := after hostOps0_24 (at24 m c)
def at26 : Valuation τ sig (Elt F) := after hostOps0_25 (at25 m c)

theorem V_at (b : Ref sig .tc) : V m c b = at26 m c (Proc.devRef .tc b) := by
  unfold V
  simp only [List.flatten_cons, List.flatten_nil, after_append, List.append_nil]
  rfl
abbrev T26 : List (Ref sig .tc) := []
theorem keep26 (b : Ref sig .tc) (h : b ∉ T26) : at26 m c (Proc.devRef .tc b) = V m c b := (V_at m c b).symm
abbrev T25 : List (Ref sig .tc) := W25 ++ T26
theorem keep25 (b : Ref sig .tc) (h : b ∉ T25) : at25 m c (Proc.devRef .tc b) = V m c b :=
  (after_of_writes_sub _ _ writes25 (fun hb => h (List.mem_append_left _ hb))).symm.trans (keep26 m c b fun hb => h (List.mem_append_right _ hb))
abbrev T24 : List (Ref sig .tc) := W24 ++ T25
theorem keep24 (b : Ref sig .tc) (h : b ∉ T24) : at24 m c (Proc.devRef .tc b) = V m c b :=
  (after_of_writes_sub _ _ writes24 (fun hb => h (List.mem_append_left _ hb))).symm.trans (keep25 m c b fun hb => h (List.mem_append_right _ hb))
abbrev T23 : List (Ref sig .tc) := W23 ++ T24
theorem keep23 (b : Ref sig .tc) (h : b ∉ T23) : at23 m c (Proc.devRef .tc b) = V m c b :=
  (after_of_writes_sub _ _ writes23 (fun hb => h (List.mem_append_left _ hb))).symm.trans (keep24 m c b fun hb => h (List.mem_append_right _ hb))
abbrev T22 : List (Ref sig .tc) := W22 ++ T23
theorem keep22 (b : Ref sig .tc) (h : b ∉ T22) : at22 m c (Proc.devRef .tc b) = V m c b :=
  (after_of_writes_sub _ _ writes22 (fun hb => h (List.mem_append_left _ hb))).symm.trans (keep23 m c b fun hb => h (List.mem_append_right _ hb))
abbrev T21 : List (Ref sig .tc) := W21 ++ T22
theorem keep21 (b : Ref sig .tc) (h : b ∉ T21) : at21 m c (Proc.devRef .tc b) = V m c b :=
  (after_of_writes_sub _ _ writes21 (fun hb => h (List.mem_append_left _ hb))).symm.trans (keep22 m c b fun hb => h (List.mem_append_right _ hb))
abbrev T20 : List (Ref sig .tc) := W20 ++ T21
theorem keep20 (b : Ref sig .tc) (h : b ∉ T20) : at20 m c (Proc.devRef .tc b) = V m c b :=
  (after_of_writes_sub _ _ writes20 (fun hb => h (List.mem_append_left _ hb))).symm.trans (keep21 m c b fun hb => h (List.mem_append_right _ hb))
abbrev T19 : List (Ref sig .tc) := W19 ++ T20
theorem keep19 (b : Ref sig .tc) (h : b ∉ T19) : at19 m c (Proc.devRef .tc b) = V m c b :=
  (after_of_writes_sub _ _ writes19 (fun hb => h (List.mem_append_left _ hb))).symm.trans (keep20 m c b fun hb => h (List.mem_append_right _ hb))
abbrev T18 : List (Ref sig .tc) := W18 ++ T19
theorem keep18 (b : Ref sig .tc) (h : b ∉ T18) : at18 m c (Proc.devRef .tc b) = V m c b :=
  (after_of_writes_sub _ _ writes18 (fun hb => h (List.mem_append_left _ hb))).symm.trans (keep19 m c b fun hb => h (List.mem_append_right _ hb))
abbrev T17 : List (Ref sig .tc) := W17 ++ T18
theorem keep17 (b : Ref sig .tc) (h : b ∉ T17) : at17 m c (Proc.devRef .tc b) = V m c b :=
  (after_of_writes_sub _ _ writes17 (fun hb => h (List.mem_append_left _ hb))).symm.trans (keep18 m c b fun hb => h (List.mem_append_right _ hb))
abbrev T16 : List (Ref sig .tc) := W16 ++ T17
theorem keep16 (b : Ref sig .tc) (h : b ∉ T16) : at16 m c (Proc.devRef .tc b) = V m c b :=
  (after_of_writes_sub _ _ writes16 (fun hb => h (List.mem_append_left _ hb))).symm.trans (keep17 m c b fun hb => h (List.mem_append_right _ hb))
abbrev T15 : List (Ref sig .tc) := W15 ++ T16
theorem keep15 (b : Ref sig .tc) (h : b ∉ T15) : at15 m c (Proc.devRef .tc b) = V m c b :=
  (after_of_writes_sub _ _ writes15 (fun hb => h (List.mem_append_left _ hb))).symm.trans (keep16 m c b fun hb => h (List.mem_append_right _ hb))
abbrev T14 : List (Ref sig .tc) := W14 ++ T15
theorem keep14 (b : Ref sig .tc) (h : b ∉ T14) : at14 m c (Proc.devRef .tc b) = V m c b :=
  (after_of_writes_sub _ _ writes14 (fun hb => h (List.mem_append_left _ hb))).symm.trans (keep15 m c b fun hb => h (List.mem_append_right _ hb))
abbrev T13 : List (Ref sig .tc) := W13 ++ T14
theorem keep13 (b : Ref sig .tc) (h : b ∉ T13) : at13 m c (Proc.devRef .tc b) = V m c b :=
  (after_of_writes_sub _ _ writes13 (fun hb => h (List.mem_append_left _ hb))).symm.trans (keep14 m c b fun hb => h (List.mem_append_right _ hb))
abbrev T12 : List (Ref sig .tc) := W12 ++ T13
theorem keep12 (b : Ref sig .tc) (h : b ∉ T12) : at12 m c (Proc.devRef .tc b) = V m c b :=
  (after_of_writes_sub _ _ writes12 (fun hb => h (List.mem_append_left _ hb))).symm.trans (keep13 m c b fun hb => h (List.mem_append_right _ hb))
abbrev T11 : List (Ref sig .tc) := W11 ++ T12
theorem keep11 (b : Ref sig .tc) (h : b ∉ T11) : at11 m c (Proc.devRef .tc b) = V m c b :=
  (after_of_writes_sub _ _ writes11 (fun hb => h (List.mem_append_left _ hb))).symm.trans (keep12 m c b fun hb => h (List.mem_append_right _ hb))
abbrev T10 : List (Ref sig .tc) := W10 ++ T11
theorem keep10 (b : Ref sig .tc) (h : b ∉ T10) : at10 m c (Proc.devRef .tc b) = V m c b :=
  (after_of_writes_sub _ _ writes10 (fun hb => h (List.mem_append_left _ hb))).symm.trans (keep11 m c b fun hb => h (List.mem_append_right _ hb))
abbrev T9 : List (Ref sig .tc) := W9 ++ T10
theorem keep9 (b : Ref sig .tc) (h : b ∉ T9) : at9 m c (Proc.devRef .tc b) = V m c b :=
  (after_of_writes_sub _ _ writes9 (fun hb => h (List.mem_append_left _ hb))).symm.trans (keep10 m c b fun hb => h (List.mem_append_right _ hb))
abbrev T8 : List (Ref sig .tc) := W8 ++ T9
theorem keep8 (b : Ref sig .tc) (h : b ∉ T8) : at8 m c (Proc.devRef .tc b) = V m c b :=
  (after_of_writes_sub _ _ writes8 (fun hb => h (List.mem_append_left _ hb))).symm.trans (keep9 m c b fun hb => h (List.mem_append_right _ hb))
abbrev T7 : List (Ref sig .tc) := W7 ++ T8
theorem keep7 (b : Ref sig .tc) (h : b ∉ T7) : at7 m c (Proc.devRef .tc b) = V m c b :=
  (after_of_writes_sub _ _ writes7 (fun hb => h (List.mem_append_left _ hb))).symm.trans (keep8 m c b fun hb => h (List.mem_append_right _ hb))
abbrev T6 : List (Ref sig .tc) := W6 ++ T7
theorem keep6 (b : Ref sig .tc) (h : b ∉ T6) : at6 m c (Proc.devRef .tc b) = V m c b :=
  (after_of_writes_sub _ _ writes6 (fun hb => h (List.mem_append_left _ hb))).symm.trans (keep7 m c b fun hb => h (List.mem_append_right _ hb))
abbrev T5 : List (Ref sig .tc) := W5 ++ T6
theorem keep5 (b : Ref sig .tc) (h : b ∉ T5) : at5 m c (Proc.devRef .tc b) = V m c b :=
  (after_of_writes_sub _ _ writes5 (fun hb => h (List.mem_append_left _ hb))).symm.trans (keep6 m c b fun hb => h (List.mem_append_right _ hb))
abbrev T4 : List (Ref sig .tc) := W4 ++ T5
theorem keep4 (b : Ref sig .tc) (h : b ∉ T4) : at4 m c (Proc.devRef .tc b) = V m c b :=
  (after_of_writes_sub _ _ writes4 (fun hb => h (List.mem_append_left _ hb))).symm.trans (keep5 m c b fun hb => h (List.mem_append_right _ hb))
abbrev T3 : List (Ref sig .tc) := W3 ++ T4
theorem keep3 (b : Ref sig .tc) (h : b ∉ T3) : at3 m c (Proc.devRef .tc b) = V m c b :=
  (after_of_writes_sub _ _ writes3 (fun hb => h (List.mem_append_left _ hb))).symm.trans (keep4 m c b fun hb => h (List.mem_append_right _ hb))
abbrev T2 : List (Ref sig .tc) := W2 ++ T3
theorem keep2 (b : Ref sig .tc) (h : b ∉ T2) : at2 m c (Proc.devRef .tc b) = V m c b :=
  (after_of_writes_sub _ _ writes2 (fun hb => h (List.mem_append_left _ hb))).symm.trans (keep3 m c b fun hb => h (List.mem_append_right _ hb))
abbrev T1 : List (Ref sig .tc) := W1 ++ T2
theorem keep1 (b : Ref sig .tc) (h : b ∉ T1) : at1 m c (Proc.devRef .tc b) = V m c b :=
  (after_of_writes_sub _ _ writes1 (fun hb => h (List.mem_append_left _ hb))).symm.trans (keep2 m c b fun hb => h (List.mem_append_right _ hb))
abbrev T0 : List (Ref sig .tc) := W0 ++ T1
theorem keep0 (b : Ref sig .tc) (h : b ∉ T0) : at0 m c (Proc.devRef .tc b) = V m c b :=
  (after_of_writes_sub _ _ writes0 (fun hb => h (List.mem_append_left _ hb))).symm.trans (keep1 m c b fun hb => h (List.mem_append_right _ hb))

open Cert.Spec (half clip low high inside rows pixels best order howMany taken)

/-- The division by two, its divisor a named number. -/
abbrev halved (x : IVec S512 32) (d : IVec S_ 32) : IVec S512 32 :=
  select (andi (cmpi .ne (signi x) (broadcastInDim S512 ![] bcast_S_S512 (signi d))) (cmpi .ne (Host.remsi x (broadcastInDim S512 ![] bcast_S_S512 d)) (constantI S512 32 0#32)))
    (subi (Host.divsi x (broadcastInDim S512 ![] bcast_S_S512 d)) (constantI S512 32 1#32)) (Host.divsi x (broadcastInDim S512 ![] bcast_S_S512 d))

theorem v1_eq : V m c main_v1 = rows (V m c main_arg0) := by
  refine (keep1 m c main_v1 (by decide)).symm.trans ?_
  unfold at1
  after_results_simp
  all_goals try simp only [TRef.ofBuf, TRef.toBuf, cast_cast, cast_eq, id]
  all_goals simp only [keep0 m c main_arg0 (by decide)]
  all_goals rfl
theorem v5_eq : V m c main_v5 = mulf (shapeCast S512 (extractStridedSlice S512x1 ![0, 0] (rows (V m c main_arg0)) slices_S512x261_S512x1_0_0) shapeCasts_S512x1_S512) (broadcastInDim S512 ![] bcast_S_S512 (constant S_ .f32 0x44000000#32)) := by
  refine (keep1 m c main_v5 (by decide)).symm.trans ?_
  unfold at1
  after_results_simp
  all_goals try simp only [TRef.ofBuf, TRef.toBuf, cast_cast, cast_eq, id]
  all_goals simp only [keep0 m c main_arg0 (by decide)]
  all_goals rfl
theorem v6_eq : V m c main_v6 = Host.roundeven (V m c main_v5) := by
  refine (keep2 m c main_v6 (by decide)).symm.trans ?_
  unfold at2
  after_results_simp
  all_goals try simp only [TRef.ofBuf, TRef.toBuf, cast_cast, cast_eq, id]
  all_goals simp only [keep1 m c main_v5 (by decide)]
  all_goals rfl
theorem v7_eq : V m c main_v7 = fptosi 32 (V m c main_v6) := by
  refine (keep3 m c main_v7 (by decide)).symm.trans ?_
  unfold at3
  after_results_simp
  all_goals try simp only [TRef.ofBuf, TRef.toBuf, cast_cast, cast_eq, id]
  all_goals simp only [keep2 m c main_v6 (by decide)]
  all_goals rfl
theorem v11_eq : V m c main_v11 = mulf (shapeCast S512 (extractStridedSlice S512x1 ![0, 1] (V m c main_v1) slices_S512x261_S512x1_0_1) shapeCasts_S512x1_S512) (broadcastInDim S512 ![] bcast_S_S512 (constant S_ .f32 0x44000000#32)) := by
  refine (keep3 m c main_v11 (by decide)).symm.trans ?_
  unfold at3
  after_results_simp
  all_goals try simp only [TRef.ofBuf, TRef.toBuf, cast_cast, cast_eq, id]
  all_goals simp only [keep2 m c main_v1 (by decide)]
  all_goals rfl
theorem v12_eq : V m c main_v12 = Host.roundeven (V m c main_v11) := by
  refine (keep4 m c main_v12 (by decide)).symm.trans ?_
  unfold at4
  after_results_simp
  all_goals try simp only [TRef.ofBuf, TRef.toBuf, cast_cast, cast_eq, id]
  all_goals simp only [keep3 m c main_v11 (by decide)]
  all_goals rfl
theorem v13_eq : V m c main_v13 = fptosi 32 (V m c main_v12) := by
  refine (keep5 m c main_v13 (by decide)).symm.trans ?_
  unfold at5
  after_results_simp
  all_goals try simp only [TRef.ofBuf, TRef.toBuf, cast_cast, cast_eq, id]
  all_goals simp only [keep4 m c main_v12 (by decide)]
  all_goals rfl
theorem v17_eq : V m c main_v17 = mulf (shapeCast S512 (extractStridedSlice S512x1 ![0, 2] (V m c main_v1) slices_S512x261_S512x1_0_2) shapeCasts_S512x1_S512) (broadcastInDim S512 ![] bcast_S_S512 (constant S_ .f32 0x44000000#32)) := by
  refine (keep5 m c main_v17 (by decide)).symm.trans ?_
  unfold at5
  after_results_simp
  all_goals try simp only [TRef.ofBuf, TRef.toBuf, cast_cast, cast_eq, id]
  all_goals simp only [keep4 m c main_v1 (by decide)]
  all_goals rfl
theorem v18_eq : V m c main_v18 = Host.roundeven (V m c main_v17) := by
  refine (keep6 m c main_v18 (by decide)).symm.trans ?_
  unfold at6
  after_results_simp
  all_goals try simp only [TRef.ofBuf, TRef.toBuf, cast_cast, cast_eq, id]
  all_goals simp only [keep5 m c main_v17 (by decide)]
  all_goals rfl
theorem v19_eq : V m c main_v19 = fptosi 32 (V m c main_v18) := by
  refine (keep7 m c main_v19 (by decide)).symm.trans ?_
  unfold at7
  after_results_simp
  all_goals try simp only [TRef.ofBuf, TRef.toBuf, cast_cast, cast_eq, id]
  all_goals simp only [keep6 m c main_v18 (by decide)]
  all_goals rfl
theorem v23_eq : V m c main_v23 = mulf (shapeCast S512 (extractStridedSlice S512x1 ![0, 3] (V m c main_v1) slices_S512x261_S512x1_0_3) shapeCasts_S512x1_S512) (broadcastInDim S512 ![] bcast_S_S512 (constant S_ .f32 0x44000000#32)) := by
  refine (keep7 m c main_v23 (by decide)).symm.trans ?_
  unfold at7
  after_results_simp
  all_goals try simp only [TRef.ofBuf, TRef.toBuf, cast_cast, cast_eq, id]
  all_goals simp only [keep6 m c main_v1 (by decide)]
  all_goals rfl
theorem v24_eq : V m c main_v24 = Host.roundeven (V m c main_v23) := by
  refine (keep8 m c main_v24 (by decide)).symm.trans ?_
  unfold at8
  after_results_simp
  all_goals try simp only [TRef.ofBuf, TRef.toBuf, cast_cast, cast_eq, id]
  all_goals simp only [keep7 m c main_v23 (by decide)]
  all_goals rfl
theorem v25_eq : V m c main_v25 = fptosi 32 (V m c main_v24) := by
  refine (keep9 m c main_v25 (by decide)).symm.trans ?_
  unfold at9
  after_results_simp
  all_goals try simp only [TRef.ofBuf, TRef.toBuf, cast_cast, cast_eq, id]
  all_goals simp only [keep8 m c main_v24 (by decide)]
  all_goals rfl
theorem v27_eq : V m c main_v27 = shapeCast S512 (extractStridedSlice S512x1 ![0, 4] (V m c main_v1) slices_S512x261_S512x1_0_4) shapeCasts_S512x1_S512 := by
  refine (keep9 m c main_v27 (by decide)).symm.trans ?_
  unfold at9
  after_results_simp
  all_goals try simp only [TRef.ofBuf, TRef.toBuf, cast_cast, cast_eq, id]
  all_goals simp only [keep8 m c main_v1 (by decide)]
  all_goals rfl
theorem v28_eq : V m c main_v28 = extractStridedSlice S512x256 ![0, 5] (V m c main_v1) slices_S512x261_S512x256_0_5 := by
  refine (keep9 m c main_v28 (by decide)).symm.trans ?_
  unfold at9
  after_results_simp
  all_goals try simp only [TRef.ofBuf, TRef.toBuf, cast_cast, cast_eq, id]
  all_goals simp only [keep8 m c main_v1 (by decide)]
  all_goals rfl
theorem c_eq : V m c main_c = constantI S_ 32 2#32 := by
  refine (keep9 m c main_c (by decide)).symm.trans ?_
  unfold at9
  after_results_simp
  all_goals try simp only [TRef.ofBuf, TRef.toBuf, cast_cast, cast_eq, id]
  all_goals rfl
theorem v29_eq : V m c main_v29 = halved (V m c main_v19) (V m c main_c) := by
  refine (keep10 m c main_v29 (by decide)).symm.trans ?_
  unfold at10
  after_results_simp
  all_goals try simp only [TRef.ofBuf, TRef.toBuf, cast_cast, cast_eq, id]
  all_goals simp only [keep9 m c main_v19 (by decide), keep9 m c main_c (by decide)]
  all_goals rfl
theorem v30_eq : V m c main_v30 = subi (V m c main_v7) (V m c main_v29) := by
  refine (keep11 m c main_v30 (by decide)).symm.trans ?_
  unfold at11
  after_results_simp
  all_goals try simp only [TRef.ofBuf, TRef.toBuf, cast_cast, cast_eq, id]
  all_goals simp only [keep10 m c main_v7 (by decide), keep10 m c main_v29 (by decide)]
  all_goals rfl
theorem c_3_eq : V m c main_c_3 = constantI S_ 32 2#32 := by
  refine (keep11 m c main_c_3 (by decide)).symm.trans ?_
  unfold at11
  after_results_simp
  all_goals try simp only [TRef.ofBuf, TRef.toBuf, cast_cast, cast_eq, id]
  all_goals rfl
theorem v31_eq : V m c main_v31 = halved (V m c main_v25) (V m c main_c_3) := by
  refine (keep12 m c main_v31 (by decide)).symm.trans ?_
  unfold at12
  after_results_simp
  all_goals try simp only [TRef.ofBuf, TRef.toBuf, cast_cast, cast_eq, id]
  all_goals simp only [keep11 m c main_v25 (by decide), keep11 m c main_c_3 (by decide)]
  all_goals rfl
theorem v32_eq : V m c main_v32 = subi (V m c main_v13) (V m c main_v31) := by
  refine (keep13 m c main_v32 (by decide)).symm.trans ?_
  unfold at13
  after_results_simp
  all_goals try simp only [TRef.ofBuf, TRef.toBuf, cast_cast, cast_eq, id]
  all_goals simp only [keep12 m c main_v13 (by decide), keep12 m c main_v31 (by decide)]
  all_goals rfl
theorem v34_eq : V m c main_v34 = addi (V m c main_v19) (constantI S512 32 1#32) := by
  refine (keep13 m c main_v34 (by decide)).symm.trans ?_
  unfold at13
  after_results_simp
  all_goals try simp only [TRef.ofBuf, TRef.toBuf, cast_cast, cast_eq, id]
  all_goals simp only [keep12 m c main_v19 (by decide)]
  all_goals rfl
theorem c_5_eq : V m c main_c_5 = constantI S_ 32 2#32 := by
  refine (keep13 m c main_c_5 (by decide)).symm.trans ?_
  unfold at13
  after_results_simp
  all_goals try simp only [TRef.ofBuf, TRef.toBuf, cast_cast, cast_eq, id]
  all_goals rfl
theorem v35_eq : V m c main_v35 = halved (V m c main_v34) (V m c main_c_5) := by
  refine (keep14 m c main_v35 (by decide)).symm.trans ?_
  unfold at14
  after_results_simp
  all_goals try simp only [TRef.ofBuf, TRef.toBuf, cast_cast, cast_eq, id]
  all_goals simp only [keep13 m c main_v34 (by decide), keep13 m c main_c_5 (by decide)]
  all_goals rfl
theorem v36_eq : V m c main_v36 = addi (V m c main_v7) (V m c main_v35) := by
  refine (keep15 m c main_v36 (by decide)).symm.trans ?_
  unfold at15
  after_results_simp
  all_goals try simp only [TRef.ofBuf, TRef.toBuf, cast_cast, cast_eq, id]
  all_goals simp only [keep14 m c main_v7 (by decide), keep14 m c main_v35 (by decide)]
  all_goals rfl
theorem v38_eq : V m c main_v38 = addi (V m c main_v25) (constantI S512 32 1#32) := by
  refine (keep15 m c main_v38 (by decide)).symm.trans ?_
  unfold at15
  after_results_simp
  all_goals try simp only [TRef.ofBuf, TRef.toBuf, cast_cast, cast_eq, id]
  all_goals simp only [keep14 m c main_v25 (by decide)]
  all_goals rfl
theorem c_7_eq : V m c main_c_7 = constantI S_ 32 2#32 := by
  refine (keep15 m c main_c_7 (by decide)).symm.trans ?_
  unfold at15
  after_results_simp
  all_goals try simp only [TRef.ofBuf, TRef.toBuf, cast_cast, cast_eq, id]
  all_goals rfl
theorem v39_eq : V m c main_v39 = halved (V m c main_v38) (V m c main_c_7) := by
  refine (keep16 m c main_v39 (by decide)).symm.trans ?_
  unfold at16
  after_results_simp
  all_goals try simp only [TRef.ofBuf, TRef.toBuf, cast_cast, cast_eq, id]
  all_goals simp only [keep15 m c main_v38 (by decide), keep15 m c main_c_7 (by decide)]
  all_goals rfl
theorem v40_eq : V m c main_v40 = addi (V m c main_v13) (V m c main_v39) := by
  refine (keep17 m c main_v40 (by decide)).symm.trans ?_
  unfold at17
  after_results_simp
  all_goals try simp only [TRef.ofBuf, TRef.toBuf, cast_cast, cast_eq, id]
  all_goals simp only [keep16 m c main_v13 (by decide), keep16 m c main_v39 (by decide)]
  all_goals rfl
theorem v51_eq : V m c main_v51 = inside (V m c main_v30) (V m c main_v32) (V m c main_v36) (addi (V m c main_v13) (V m c main_v39)) := by
  refine (keep17 m c main_v51 (by decide)).symm.trans ?_
  unfold at17
  after_results_simp
  all_goals try simp only [TRef.ofBuf, TRef.toBuf, cast_cast, cast_eq, id]
  all_goals simp only [keep16 m c main_v30 (by decide), keep16 m c main_v32 (by decide), keep16 m c main_v36 (by decide), keep16 m c main_v13 (by decide), keep16 m c main_v39 (by decide)]
  all_goals rfl
theorem v52_eq : V m c main_v52 = best (V m c main_v28) := by
  refine (keep18 m c main_v52 (by decide)).symm.trans ?_
  unfold at18
  after_results_simp
  all_goals try simp only [TRef.ofBuf, TRef.toBuf, cast_cast, cast_eq, id]
  all_goals simp only [keep17 m c main_v28 (by decide)]
  all_goals rfl
theorem c_12_eq : V m c main_c_12 = constantI S_ 32 0#32 := by
  refine (keep19 m c main_c_12 (by decide)).symm.trans ?_
  unfold at19
  after_results_simp
  all_goals try simp only [TRef.ofBuf, TRef.toBuf, cast_cast, cast_eq, id]
  all_goals rfl
theorem c_13_eq : V m c main_c_13 = constantI S_ 32 448#32 := by
  refine (keep19 m c main_c_13 (by decide)).symm.trans ?_
  unfold at19
  after_results_simp
  all_goals try simp only [TRef.ofBuf, TRef.toBuf, cast_cast, cast_eq, id]
  all_goals rfl
theorem v53_eq : V m c main_v53 = minsi (broadcastInDim S512 ![] bcast_S_S512 (V m c main_c_13)) (maxsi (broadcastInDim S512 ![] bcast_S_S512 (V m c main_c_12)) (V m c main_v30)) := by
  refine (keep20 m c main_v53 (by decide)).symm.trans ?_
  unfold at20
  after_results_simp
  all_goals try simp only [TRef.ofBuf, TRef.toBuf, cast_cast, cast_eq, id]
  all_goals simp only [keep19 m c main_c_12 (by decide), keep19 m c main_c_13 (by decide), keep19 m c main_v30 (by decide)]
  all_goals rfl
theorem c_14_eq : V m c main_c_14 = constantI S_ 32 0#32 := by
  refine (keep21 m c main_c_14 (by decide)).symm.trans ?_
  unfold at21
  after_results_simp
  all_goals try simp only [TRef.ofBuf, TRef.toBuf, cast_cast, cast_eq, id]
  all_goals rfl
theorem c_15_eq : V m c main_c_15 = constantI S_ 32 448#32 := by
  refine (keep21 m c main_c_15 (by decide)).symm.trans ?_
  unfold at21
  after_results_simp
  all_goals try simp only [TRef.ofBuf, TRef.toBuf, cast_cast, cast_eq, id]
  all_goals rfl
theorem v54_eq : V m c main_v54 = minsi (broadcastInDim S512 ![] bcast_S_S512 (V m c main_c_15)) (maxsi (broadcastInDim S512 ![] bcast_S_S512 (V m c main_c_14)) (V m c main_v32)) := by
  refine (keep22 m c main_v54 (by decide)).symm.trans ?_
  unfold at22
  after_results_simp
  all_goals try simp only [TRef.ofBuf, TRef.toBuf, cast_cast, cast_eq, id]
  all_goals simp only [keep21 m c main_c_14 (by decide), keep21 m c main_c_15 (by decide), keep21 m c main_v32 (by decide)]
  all_goals rfl
theorem cst_16_eq : V m c main_cst_16 = constant S_ .f32 0x7F800000#32 := by
  refine (keep23 m c main_cst_16 (by decide)).symm.trans ?_
  unfold at23
  after_results_simp
  all_goals try simp only [TRef.ofBuf, TRef.toBuf, cast_cast, cast_eq, id]
  all_goals rfl
theorem v55_eq : V m c main_v55 = select (V m c main_v51) (V m c main_v27) (broadcastInDim S512 ![] bcast_S_S512 (V m c main_cst_16)) := by
  refine (keep24 m c main_v55 (by decide)).symm.trans ?_
  unfold at24
  after_results_simp
  all_goals try simp only [TRef.ofBuf, TRef.toBuf, cast_cast, cast_eq, id]
  all_goals simp only [keep23 m c main_v51 (by decide), keep23 m c main_v27 (by decide), keep23 m c main_cst_16 (by decide)]
  all_goals rfl
theorem v56_eq : V m c main_v56 = order (V m c main_v55) := by
  refine (keep25 m c main_v56 (by decide)).symm.trans ?_
  unfold at25
  after_results_simp
  all_goals try simp only [TRef.ofBuf, TRef.toBuf, cast_cast, cast_eq, id]
  all_goals simp only [keep24 m c main_v55 (by decide)]
  all_goals rfl
theorem v59_eq : V m c main_v59 = shapeCast S1 (howMany (V m c main_v51)) shapeCasts_S_S1 := by
  refine (keep26 m c main_v59 (by decide)).symm.trans ?_
  unfold at26
  after_results_simp
  all_goals try simp only [TRef.ofBuf, TRef.toBuf, cast_cast, cast_eq, id]
  all_goals simp only [keep25 m c main_v51 (by decide)]
  all_goals rfl
theorem v66_eq : V m c main_v66 = taken (V m c main_v53) (V m c main_v56) := by
  refine (keep26 m c main_v66 (by decide)).symm.trans ?_
  unfold at26
  after_results_simp
  all_goals try simp only [TRef.ofBuf, TRef.toBuf, cast_cast, cast_eq, id]
  all_goals simp only [keep25 m c main_v53 (by decide), keep25 m c main_v56 (by decide)]
  all_goals rfl
theorem v73_eq : V m c main_v73 = taken (V m c main_v54) (V m c main_v56) := by
  refine (keep26 m c main_v73 (by decide)).symm.trans ?_
  unfold at26
  after_results_simp
  all_goals try simp only [TRef.ofBuf, TRef.toBuf, cast_cast, cast_eq, id]
  all_goals simp only [keep25 m c main_v54 (by decide), keep25 m c main_v56 (by decide)]
  all_goals rfl
theorem v80_eq : V m c main_v80 = taken (V m c main_v52) (V m c main_v56) := by
  refine (keep26 m c main_v80 (by decide)).symm.trans ?_
  unfold at26
  after_results_simp
  all_goals try simp only [TRef.ofBuf, TRef.toBuf, cast_cast, cast_eq, id]
  all_goals simp only [keep25 m c main_v52 (by decide), keep25 m c main_v56 (by decide)]
  all_goals rfl

/-- The coordinates of the rows, and the lists, as the words of the arguments. -/
theorem cx_eq : V m c main_v7 = Spec.cx (V m c main_arg0) := by rw [v7_eq, v6_eq, v5_eq]; rfl
theorem cy_eq : V m c main_v13 = Spec.cy (V m c main_arg0) := by rw [v13_eq, v12_eq, v11_eq, v1_eq]; rfl
theorem ch_eq : V m c main_v19 = Spec.ch (V m c main_arg0) := by rw [v19_eq, v18_eq, v17_eq, v1_eq]; rfl
theorem cw_eq : V m c main_v25 = Spec.cw (V m c main_arg0) := by rw [v25_eq, v24_eq, v23_eq, v1_eq]; rfl
theorem depth_eq : V m c main_v27 = Spec.depth (V m c main_arg0) := by rw [v27_eq, v1_eq]; rfl
theorem scores_eq : V m c main_v28 = Spec.scores (V m c main_arg0) := by rw [v28_eq, v1_eq]; rfl
theorem x1_eq : V m c main_v30 = Spec.x1 (V m c main_arg0) := by rw [v30_eq, v29_eq, cx_eq, ch_eq, c_eq]; rfl
theorem y1_eq : V m c main_v32 = Spec.y1 (V m c main_arg0) := by rw [v32_eq, v31_eq, cy_eq, cw_eq, c_3_eq]; rfl
theorem x2_eq : V m c main_v36 = Spec.x2 (V m c main_arg0) := by rw [v36_eq, v35_eq, v34_eq, cx_eq, ch_eq, c_5_eq]; rfl
theorem y2_eq : addi (V m c main_v13) (V m c main_v39) = Spec.y2 (V m c main_arg0) := by rw [v39_eq, v38_eq, cy_eq, cw_eq, c_7_eq]; rfl
theorem valid_eq : V m c main_v51 = Spec.valid (V m c main_arg0) := by rw [v51_eq, x1_eq, y1_eq, x2_eq, y2_eq]; rfl
theorem key_eq : V m c main_v55 = Spec.key (V m c main_arg0) := by rw [v55_eq, valid_eq, depth_eq, cst_16_eq]; rfl
theorem count_eq : V m c main_v59 = shapeCast S1 (howMany (Spec.valid (V m c main_arg0))) shapeCasts_S_S1 := by rw [v59_eq, valid_eq]
theorem list1_eq : V m c main_v66 = taken (clip (Spec.x1 (V m c main_arg0))) (order (Spec.key (V m c main_arg0))) := by rw [v66_eq, v53_eq, v56_eq, key_eq, x1_eq, c_12_eq, c_13_eq]; rfl
theorem list2_eq : V m c main_v73 = taken (clip (Spec.y1 (V m c main_arg0))) (order (Spec.key (V m c main_arg0))) := by rw [v73_eq, v54_eq, v56_eq, key_eq, y1_eq, c_14_eq, c_15_eq]; rfl
theorem list3_eq : V m c main_v80 = taken (best (Spec.scores (V m c main_arg0))) (order (Spec.key (V m c main_arg0))) := by rw [v80_eq, v52_eq, v56_eq, key_eq, scores_eq]

end Cert.KernelIdeal.Host
-- ==== Proof.IWords.lean ====
/- The kernel's frame: the lists the region is entered with hold usable words, whatever the arguments. -/
module

public import proofs.«01_k».proof.Proof.IFrame
public import proofs.«01_k».proof.Proof.IHost
public import proofs.«01_k».proof.Proof.Ranges
public import Idealize.ShloMosaic.Lib.Pipeline.Value

@[expose] public section

set_option maxRecDepth 16384

noncomputable section

namespace Cert.KernelIdeal.Paste

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-- Each list's block is the list, at every point. -/
theorem blk_0 (c : Dev nD) (t : Fin cfg0.N) : iblk m c 0 t = V m c main_v59 := by
  funext k; unfold iblk
  show V m c main_v59 _ = _
  congr 1
  funext a; match a with | ⟨0, _⟩ => exact Fin.ext (Pipeline.Window.rect_emb_val_of_index_zero win0_0 t 0 rfl k)
theorem blk_1 (c : Dev nD) (t : Fin cfg0.N) : iblk m c 1 t = V m c main_v66 := by
  funext k; unfold iblk
  show V m c main_v66 _ = _
  congr 1
  funext a; match a with | ⟨0, _⟩ => exact Fin.ext (Pipeline.Window.rect_emb_val_of_index_zero win0_1 t 0 rfl k)
theorem blk_2 (c : Dev nD) (t : Fin cfg0.N) : iblk m c 2 t = V m c main_v73 := by
  funext k; unfold iblk
  show V m c main_v73 _ = _
  congr 1
  funext a; match a with | ⟨0, _⟩ => exact Fin.ext (Pipeline.Window.rect_emb_val_of_index_zero win0_2 t 0 rfl k)
theorem blk_3 (c : Dev nD) (t : Fin cfg0.N) : iblk m c 3 t = V m c main_v80 := by
  funext k; unfold iblk
  show V m c main_v80 _ = _
  congr 1
  funext a; match a with | ⟨0, _⟩ => exact Fin.ext (Pipeline.Window.rect_emb_val_of_index_zero win0_3 t 0 rfl k)

theorem countOf_le (v : IVec S512 1) : (countOf (F := F) (shapeCast S1 (Spec.howMany v) shapeCasts_S_S1)).toNat ≤ 512 := by
  unfold countOf shapeCast; exact Spec.howMany_le v _
theorem listAt_le (x o : IVec S512 32) (k : ℕ) : (listAt (F := F) (Spec.taken (Spec.clip x) o) k).toNat ≤ 448 := by
  obtain ⟨j, hj⟩ := Spec.taken_mem (Spec.clip x) o (place k)
  show (Spec.taken (Spec.clip x) o (place k)).toNat ≤ 448
  rw [hj]; exact Spec.clip_le _ _
theorem listAt_lt (s : FVec F S512x256 .f32) (o : IVec S512 32) (k : ℕ) : (listAt (F := F) (Spec.taken (Spec.best s) o) k).toNat < 256 := by
  obtain ⟨j, hj⟩ := Spec.taken_mem (Spec.best s) o (place k)
  show (Spec.taken (Spec.best s) o (place k)).toNat < 256
  rw [hj]; exact Spec.best_lt _ _

theorem words (c : Dev nD) : Words m c := fun t => by
  rw [blk_0, blk_1, blk_3, Host.count_eq, Host.list1_eq, Host.list3_eq]
  exact ⟨countOf_le _, listAt_le _ _, listAt_lt _ _⟩

/-- Every execution ends, the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := frame_of_words m ρ fun c => words m c

end Cert.KernelIdeal.Paste
-- ==== Proof.RRun.lean ====
/- The reference program run: its host operations in order, the counted loop of 512 trips, and what every buffer holds at
   the end, as a fold over the trips. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Quiescent
public import Idealize.ShloMosaic.Lib.Claim

@[expose] public section

set_option maxRecDepth 2400

noncomputable section

namespace Cert.ReferenceIdeal.Fold

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

abbrev pre0 : List (HloOp τ sig (Elt F)) :=
  [ StableHlo.nullary main_cst (constant S_ .f32 0x3F800000#32),
    StableHlo.unary main_cst main_v0 (broadcastInDim S32x4x512x512 ![] bcast_S_S32x4x512x512 : (⟨S_, .f32⟩ : BufTy).Contents (Elt F) → (⟨S32x4x512x512, .f32⟩ : BufTy).Contents (Elt F)),
    StableHlo.unary main_arg0 main_v1 ((extractStridedSlice S1x512x261 ![31, 0, 0] · slices_S32x512x261_S1x512x261_31_0_0) : (⟨S32x512x261, .f32⟩ : BufTy).Contents (Elt F) → (⟨S1x512x261, .f32⟩ : BufTy).Contents (Elt F)),
    StableHlo.reshape main_v1 main_v2 (rfl : (.f32 : EltTy) = .f32) shapeCasts_S1x512x261_S512x261,
    StableHlo.unary main_v2 main_v3 ((extractStridedSlice S512x1 ![0, 0] · slices_S512x261_S512x1_0_0) : (⟨S512x261, .f32⟩ : BufTy).Contents (Elt F) → (⟨S512x1, .f32⟩ : BufTy).Contents (Elt F)),
    StableHlo.reshape main_v3 main_v4 (rfl : (.f32 : EltTy) = .f32) shapeCasts_S512x1_S512,
    StableHlo.nullary main_cst_0 (constant S_ .f32 0x44000000#32),
    StableHlo.unary main_cst_0 main_v5 (broadcastInDim S512 ![] bcast_S_S512 : (⟨S_, .f32⟩ : BufTy).Contents (Elt F) → (⟨S512, .f32⟩ : BufTy).Contents (Elt F)),
    StableHlo.binary main_v4 main_v5 main_v6 (mulf : (⟨S512, .f32⟩ : BufTy).Contents (Elt F) → (⟨S512, .f32⟩ : BufTy).Contents (Elt F) → (⟨S512, .f32⟩ : BufTy).Contents (Elt F)) ]
theorem pre0_tc : (pre0 : List (HloOp τ sig (Elt F))).Forall fun op => op.bufs ⊆ tcRefs τ sig :=
  ⟨nullary_bufs_sub .., unary_bufs_sub .., unary_bufs_sub .., reshape_bufs_sub .., unary_bufs_sub .., reshape_bufs_sub .., nullary_bufs_sub .., unary_bufs_sub .., binary_bufs_sub ..⟩
theorem pre0_fresh : (pre0 : List (HloOp τ sig (Elt F))).Forall fun op => op.fresh = ∅ :=
  forall_fresh_of_map rfl
abbrev pre0_W : List (Ref sig .tc) := [main_cst, main_v0, main_v1, main_v2, main_v3, main_v4, main_cst_0, main_v5, main_v6]
theorem pre0_writes : (pre0 : List (HloOp τ sig (Elt F))).Forall fun op => op.writes ⊆ (pre0_W.map (Proc.devRef (τ := τ) .tc)).toFinset :=
  forall_writes_sub_of_map rfl

abbrev pre1 : List (HloOp τ sig (Elt F)) :=
  [ StableHlo.TRef.unary (.of main_v6 : StableHlo.TRef sig ⟨S512, .f32⟩) (.of main_v7 : StableHlo.TRef sig ⟨S512, .f32⟩) Host.roundeven ]
theorem pre1_tc : (pre1 : List (HloOp τ sig (Elt F))).Forall fun op => op.bufs ⊆ tcRefs τ sig :=
  unary_bufs_sub ..
theorem pre1_fresh : (pre1 : List (HloOp τ sig (Elt F))).Forall fun op => op.fresh = ∅ :=
  forall_fresh_of_map rfl
abbrev pre1_W : List (Ref sig .tc) := [main_v7]
theorem pre1_writes : (pre1 : List (HloOp τ sig (Elt F))).Forall fun op => op.writes ⊆ (pre1_W.map (Proc.devRef (τ := τ) .tc)).toFinset :=
  forall_writes_sub_of_map rfl

abbrev pre2 : List (HloOp τ sig (Elt F)) :=
  [ StableHlo.unary main_v7 main_v8 (fptosi 32 : (⟨S512, .f32⟩ : BufTy).Contents (Elt F) → (⟨S512, .i32⟩ : BufTy).Contents (Elt F)),
    StableHlo.unary main_v2 main_v9 ((extractStridedSlice S512x1 ![0, 1] · slices_S512x261_S512x1_0_1) : (⟨S512x261, .f32⟩ : BufTy).Contents (Elt F) → (⟨S512x1, .f32⟩ : BufTy).Contents (Elt F)),
    StableHlo.reshape main_v9 main_v10 (rfl : (.f32 : EltTy) = .f32) shapeCasts_S512x1_S512,
    StableHlo.nullary main_cst_1 (constant S_ .f32 0x44000000#32),
    StableHlo.unary main_cst_1 main_v11 (broadcastInDim S512 ![] bcast_S_S512 : (⟨S_, .f32⟩ : BufTy).Contents (Elt F) → (⟨S512, .f32⟩ : BufTy).Contents (Elt F)),
    StableHlo.binary main_v10 main_v11 main_v12 (mulf : (⟨S512, .f32⟩ : BufTy).Contents (Elt F) → (⟨S512, .f32⟩ : BufTy).Contents (Elt F) → (⟨S512, .f32⟩ : BufTy).Contents (Elt F)) ]
theorem pre2_tc : (pre2 : List (HloOp τ sig (Elt F))).Forall fun op => op.bufs ⊆ tcRefs τ sig :=
  ⟨unary_bufs_sub .., unary_bufs_sub .., reshape_bufs_sub .., nullary_bufs_sub .., unary_bufs_sub .., binary_bufs_sub ..⟩
theorem pre2_fresh : (pre2 : List (HloOp τ sig (Elt F))).Forall fun op => op.fresh = ∅ :=
  forall_fresh_of_map rfl
abbrev pre2_W : List (Ref sig .tc) := [main_v8, main_v9, main_v10, main_cst_1, main_v11, main_v12]
theorem pre2_writes : (pre2 : List (HloOp τ sig (Elt F))).Forall fun op => op.writes ⊆ (pre2_W.map (Proc.devRef (τ := τ) .tc)).toFinset :=
  forall_writes_sub_of_map rfl

abbrev pre3 : List (HloOp τ sig (Elt F)) :=
  [ StableHlo.TRef.unary (.of main_v12 : StableHlo.TRef sig ⟨S512, .f32⟩) (.of main_v13 : StableHlo.TRef sig ⟨S512, .f32⟩) Host.roundeven ]
theorem pre3_tc : (pre3 : List (HloOp τ sig (Elt F))).Forall fun op => op.bufs ⊆ tcRefs τ sig :=
  unary_bufs_sub ..
theorem pre3_fresh : (pre3 : List (HloOp τ sig (Elt F))).Forall fun op => op.fresh = ∅ :=
  forall_fresh_of_map rfl
abbrev pre3_W : List (Ref sig .tc) := [main_v13]
theorem pre3_writes : (pre3 : List (HloOp τ sig (Elt F))).Forall fun op => op.writes ⊆ (pre3_W.map (Proc.devRef (τ := τ) .tc)).toFinset :=
  forall_writes_sub_of_map rfl

abbrev pre4 : List (HloOp τ sig (Elt F)) :=
  [ StableHlo.unary main_v13 main_v14 (fptosi 32 : (⟨S512, .f32⟩ : BufTy).Contents (Elt F) → (⟨S512, .i32⟩ : BufTy).Contents (Elt F)),
    StableHlo.unary main_v2 main_v15 ((extractStridedSlice S512x1 ![0, 2] · slices_S512x261_S512x1_0_2) : (⟨S512x261, .f32⟩ : BufTy).Contents (Elt F) → (⟨S512x1, .f32⟩ : BufTy).Contents (Elt F)),
    StableHlo.reshape main_v15 main_v16 (rfl : (.f32 : EltTy) = .f32) shapeCasts_S512x1_S512,
    StableHlo.nullary main_cst_2 (constant S_ .f32 0x44000000#32),
    StableHlo.unary main_cst_2 main_v17 (broadcastInDim S512 ![] bcast_S_S512 : (⟨S_, .f32⟩ : BufTy).Contents (Elt F) → (⟨S512, .f32⟩ : BufTy).Contents (Elt F)),
    StableHlo.binary main_v16 main_v17 main_v18 (mulf : (⟨S512, .f32⟩ : BufTy).Contents (Elt F) → (⟨S512, .f32⟩ : BufTy).Contents (Elt F) → (⟨S512, .f32⟩ : BufTy).Contents (Elt F)) ]
theorem pre4_tc : (pre4 : List (HloOp τ sig (Elt F))).Forall fun op => op.bufs ⊆ tcRefs τ sig :=
  ⟨unary_bufs_sub .., unary_bufs_sub .., reshape_bufs_sub .., nullary_bufs_sub .., unary_bufs_sub .., binary_bufs_sub ..⟩
theorem pre4_fresh : (pre4 : List (HloOp τ sig (Elt F))).Forall fun op => op.fresh = ∅ :=
  forall_fresh_of_map rfl
abbrev pre4_W : List (Ref sig .tc) := [main_v14, main_v15, main_v16, main_cst_2, main_v17, main_v18]
theorem pre4_writes : (pre4 : List (HloOp τ sig (Elt F))).Forall fun op => op.writes ⊆ (pre4_W.map (Proc.devRef (τ := τ) .tc)).toFinset :=
  forall_writes_sub_of_map rfl

abbrev pre5 : List (HloOp τ sig (Elt F)) :=
  [ StableHlo.TRef.unary (.of main_v18 : StableHlo.TRef sig ⟨S512, .f32⟩) (.of main_v19 : StableHlo.TRef sig ⟨S512, .f32⟩) Host.roundeven ]
theorem pre5_tc : (pre5 : List (HloOp τ sig (Elt F))).Forall fun op => op.bufs ⊆ tcRefs τ sig :=
  unary_bufs_sub ..
theorem pre5_fresh : (pre5 : List (HloOp τ sig (Elt F))).Forall fun op => op.fresh = ∅ :=
  forall_fresh_of_map rfl
abbrev pre5_W : List (Ref sig .tc) := [main_v19]
theorem pre5_writes : (pre5 : List (HloOp τ sig (Elt F))).Forall fun op => op.writes ⊆ (pre5_W.map (Proc.devRef (τ := τ) .tc)).toFinset :=
  forall_writes_sub_of_map rfl

abbrev pre6 : List (HloOp τ sig (Elt F)) :=
  [ StableHlo.unary main_v19 main_v20 (fptosi 32 : (⟨S512, .f32⟩ : BufTy).Contents (Elt F) → (⟨S512, .i32⟩ : BufTy).Contents (Elt F)),
    StableHlo.unary main_v2 main_v21 ((extractStridedSlice S512x1 ![0, 3] · slices_S512x261_S512x1_0_3) : (⟨S512x261, .f32⟩ : BufTy).Contents (Elt F) → (⟨S512x1, .f32⟩ : BufTy).Contents (Elt F)),
    StableHlo.reshape main_v21 main_v22 (rfl : (.f32 : EltTy) = .f32) shapeCasts_S512x1_S512,
    StableHlo.nullary main_cst_3 (constant S_ .f32 0x44000000#32),
    StableHlo.unary main_cst_3 main_v23 (broadcastInDim S512 ![] bcast_S_S512 : (⟨S_, .f32⟩ : BufTy).Contents (Elt F) → (⟨S512, .f32⟩ : BufTy).Contents (Elt F)),
    StableHlo.binary main_v22 main_v23 main_v24 (mulf : (⟨S512, .f32⟩ : BufTy).Contents (Elt F) → (⟨S512, .f32⟩ : BufTy).Contents (Elt F) → (⟨S512, .f32⟩ : BufTy).Contents (Elt F)) ]
theorem pre6_tc : (pre6 : List (HloOp τ sig (Elt F))).Forall fun op => op.bufs ⊆ tcRefs τ sig :=
  ⟨unary_bufs_sub .., unary_bufs_sub .., reshape_bufs_sub .., nullary_bufs_sub .., unary_bufs_sub .., binary_bufs_sub ..⟩
theorem pre6_fresh : (pre6 : List (HloOp τ sig (Elt F))).Forall fun op => op.fresh = ∅ :=
  forall_fresh_of_map rfl
abbrev pre6_W : List (Ref sig .tc) := [main_v20, main_v21, main_v22, main_cst_3, main_v23, main_v24]
theorem pre6_writes : (pre6 : List (HloOp τ sig (Elt F))).Forall fun op => op.writes ⊆ (pre6_W.map (Proc.devRef (τ := τ) .tc)).toFinset :=
  forall_writes_sub_of_map rfl

abbrev pre7 : List (HloOp τ sig (Elt F)) :=
  [ StableHlo.TRef.unary (.of main_v24 : StableHlo.TRef sig ⟨S512, .f32⟩) (.of main_v25 : StableHlo.TRef sig ⟨S512, .f32⟩) Host.roundeven ]
theorem pre7_tc : (pre7 : List (HloOp τ sig (Elt F))).Forall fun op => op.bufs ⊆ tcRefs τ sig :=
  unary_bufs_sub ..
theorem pre7_fresh : (pre7 : List (HloOp τ sig (Elt F))).Forall fun op => op.fresh = ∅ :=
  forall_fresh_of_map rfl
abbrev pre7_W : List (Ref sig .tc) := [main_v25]
theorem pre7_writes : (pre7 : List (HloOp τ sig (Elt F))).Forall fun op => op.writes ⊆ (pre7_W.map (Proc.devRef (τ := τ) .tc)).toFinset :=
  forall_writes_sub_of_map rfl

abbrev pre8 : List (HloOp τ sig (Elt F)) :=
  [ StableHlo.unary main_v25 main_v26 (fptosi 32 : (⟨S512, .f32⟩ : BufTy).Contents (Elt F) → (⟨S512, .i32⟩ : BufTy).Contents (Elt F)),
    StableHlo.unary main_v2 main_v27 ((extractStridedSlice S512x1 ![0, 4] · slices_S512x261_S512x1_0_4) : (⟨S512x261, .f32⟩ : BufTy).Contents (Elt F) → (⟨S512x1, .f32⟩ : BufTy).Contents (Elt F)),
    StableHlo.reshape main_v27 main_v28 (rfl : (.f32 : EltTy) = .f32) shapeCasts_S512x1_S512,
    StableHlo.unary main_v2 main_v29 ((extractStridedSlice S512x256 ![0, 5] · slices_S512x261_S512x256_0_5) : (⟨S512x261, .f32⟩ : BufTy).Contents (Elt F) → (⟨S512x256, .f32⟩ : BufTy).Contents (Elt F)) ]
theorem pre8_tc : (pre8 : List (HloOp τ sig (Elt F))).Forall fun op => op.bufs ⊆ tcRefs τ sig :=
  ⟨unary_bufs_sub .., unary_bufs_sub .., reshape_bufs_sub .., unary_bufs_sub ..⟩
theorem pre8_fresh : (pre8 : List (HloOp τ sig (Elt F))).Forall fun op => op.fresh = ∅ :=
  forall_fresh_of_map rfl
abbrev pre8_W : List (Ref sig .tc) := [main_v26, main_v27, main_v28, main_v29]
theorem pre8_writes : (pre8 : List (HloOp τ sig (Elt F))).Forall fun op => op.writes ⊆ (pre8_W.map (Proc.devRef (τ := τ) .tc)).toFinset :=
  forall_writes_sub_of_map rfl

abbrev pre9 : List (HloOp τ sig (Elt F)) :=
  [ StableHlo.TRef.nullary (.of main_call4_v0 : StableHlo.TRef sig ⟨S512, .i32⟩) (iotaInDim S512 32 0),
    StableHlo.TRef.binary (.of main_v28 : StableHlo.TRef sig ⟨S512, .f32⟩) (.of main_call4_v0 : StableHlo.TRef sig ⟨S512, .i32⟩) (.of main_call4_v1_0 : StableHlo.TRef sig ⟨S512, .f32⟩) (fun x y => (Host.sort2 S512 0 comparator_f32_i32_d0 x y).1),
    StableHlo.TRef.binary (.of main_v28 : StableHlo.TRef sig ⟨S512, .f32⟩) (.of main_call4_v0 : StableHlo.TRef sig ⟨S512, .i32⟩) (.of main_v30 : StableHlo.TRef sig ⟨S512, .i32⟩) (fun x y => (Host.sort2 S512 0 comparator_f32_i32_d0 x y).2) ]
theorem pre9_tc : (pre9 : List (HloOp τ sig (Elt F))).Forall fun op => op.bufs ⊆ tcRefs τ sig :=
  ⟨nullary_bufs_sub .., binary_bufs_sub .., binary_bufs_sub ..⟩
theorem pre9_fresh : (pre9 : List (HloOp τ sig (Elt F))).Forall fun op => op.fresh = ∅ :=
  forall_fresh_of_map rfl
abbrev pre9_W : List (Ref sig .tc) := [main_call4_v0, main_call4_v1_0, main_v30]
theorem pre9_writes : (pre9 : List (HloOp τ sig (Elt F))).Forall fun op => op.writes ⊆ (pre9_W.map (Proc.devRef (τ := τ) .tc)).toFinset :=
  forall_writes_sub_of_map rfl

abbrev pre10 : List (HloOp τ sig (Elt F)) :=
  [ StableHlo.unary main_v0 main_v31 ((extractStridedSlice S1x4x512x512 ![31, 0, 0, 0] · slices_S32x4x512x512_S1x4x512x512_31_0_0_0) : (⟨S32x4x512x512, .f32⟩ : BufTy).Contents (Elt F) → (⟨S1x4x512x512, .f32⟩ : BufTy).Contents (Elt F)),
    StableHlo.reshape main_v31 main_v32 (rfl : (.f32 : EltTy) = .f32) shapeCasts_S1x4x512x512_S4x512x512,
    StableHlo.nullary main_c (constantI S_ 32 0#32),
    StableHlo.unary main_v30 main_v33_0 id,
    StableHlo.unary main_v8 main_v33_1 id,
    StableHlo.unary main_v20 main_v33_2 id,
    StableHlo.unary main_v14 main_v33_3 id,
    StableHlo.unary main_v26 main_v33_4 id,
    StableHlo.unary main_v29 main_v33_5 id,
    StableHlo.unary main_arg1 main_v33_6 id,
    StableHlo.unary main_c main_v33_7 id,
    StableHlo.unary main_v32 main_v33_8 id ]
theorem pre10_tc : (pre10 : List (HloOp τ sig (Elt F))).Forall fun op => op.bufs ⊆ tcRefs τ sig :=
  ⟨unary_bufs_sub .., reshape_bufs_sub .., nullary_bufs_sub .., unary_bufs_sub .., unary_bufs_sub .., unary_bufs_sub .., unary_bufs_sub .., unary_bufs_sub .., unary_bufs_sub .., unary_bufs_sub .., unary_bufs_sub .., unary_bufs_sub ..⟩
theorem pre10_fresh : (pre10 : List (HloOp τ sig (Elt F))).Forall fun op => op.fresh = ∅ :=
  forall_fresh_of_map rfl
abbrev pre10_W : List (Ref sig .tc) := [main_v31, main_v32, main_c, main_v33_0, main_v33_1, main_v33_2, main_v33_3, main_v33_4, main_v33_5, main_v33_6, main_v33_7, main_v33_8]
theorem pre10_writes : (pre10 : List (HloOp τ sig (Elt F))).Forall fun op => op.writes ⊆ (pre10_W.map (Proc.devRef (τ := τ) .tc)).toFinset :=
  forall_writes_sub_of_map rfl

abbrev post0 : List (HloOp τ sig (Elt F)) :=
  [ StableHlo.nullary main_c_4 (constantI S_ 32 31#32),
    StableHlo.unary main_c_4 main_v34 (broadcastInDim S1 ![] bcast_S_S1 : (⟨S_, .i32⟩ : BufTy).Contents (Elt F) → (⟨S1, .i32⟩ : BufTy).Contents (Elt F)),
    StableHlo.ternary main_v0 main_v34 main_v33_8 main_v35 ((fun x i u => Host.scatter scatter_S32x4x512x512_S1_S4x512x512_012_0_0_0 (fun _ b => b) x i u) : (⟨S32x4x512x512, .f32⟩ : BufTy).Contents (Elt F) → (⟨S1, .i32⟩ : BufTy).Contents (Elt F) → (⟨S4x512x512, .f32⟩ : BufTy).Contents (Elt F) → (⟨S32x4x512x512, .f32⟩ : BufTy).Contents (Elt F)),
    StableHlo.unary main_v35 main_v36 ((extractStridedSlice S32x3x512x512 ![0, 0, 0, 0] · slices_S32x4x512x512_S32x3x512x512_0_0_0_0) : (⟨S32x4x512x512, .f32⟩ : BufTy).Contents (Elt F) → (⟨S32x3x512x512, .f32⟩ : BufTy).Contents (Elt F)) ]
theorem post0_tc : (post0 : List (HloOp τ sig (Elt F))).Forall fun op => op.bufs ⊆ tcRefs τ sig :=
  ⟨nullary_bufs_sub .., unary_bufs_sub .., ternary_bufs_sub .., unary_bufs_sub ..⟩
theorem post0_fresh : (post0 : List (HloOp τ sig (Elt F))).Forall fun op => op.fresh = ∅ :=
  forall_fresh_of_map rfl
abbrev post0_W : List (Ref sig .tc) := [main_c_4, main_v34, main_v35, main_v36]
theorem post0_writes : (post0 : List (HloOp τ sig (Elt F))).Forall fun op => op.writes ⊆ (post0_W.map (Proc.devRef (τ := τ) .tc)).toFinset :=
  forall_writes_sub_of_map rfl

abbrev body0 : List (HloOp τ sig (Elt F)) :=
  [ StableHlo.TRef.unaryIndexed (.of main_v33_0 : StableHlo.TRef sig ⟨S512, .i32⟩) ![(.of main_v33_7 : StableHlo.TRef sig ⟨S_, .i32⟩)] (.of main_while0b_call5_v0 : StableHlo.TRef sig ⟨S1, .i32⟩) (fun x i => Host.dynamicSlice S1 x (fun k => (i k (Shape.Idx.first h_S_)).toInt) sliceFits_S512_S1),
    StableHlo.TRef.reshape (.of main_while0b_call5_v0 : StableHlo.TRef sig ⟨S1, .i32⟩) (.of main_while0b_v37 : StableHlo.TRef sig ⟨S_, .i32⟩) (rfl : (.i32 : EltTy) = .i32) shapeCasts_S1_S_ ]
theorem body0_tc : (body0 : List (HloOp τ sig (Elt F))).Forall fun op => op.bufs ⊆ tcRefs τ sig :=
  ⟨unaryIndexed_bufs_sub .., reshape_bufs_sub ..⟩
theorem body0_fresh : (body0 : List (HloOp τ sig (Elt F))).Forall fun op => op.fresh = ∅ :=
  forall_fresh_of_map rfl
abbrev body0_W : List (Ref sig .tc) := [main_while0b_call5_v0, main_while0b_v37]
theorem body0_writes : (body0 : List (HloOp τ sig (Elt F))).Forall fun op => op.writes ⊆ (body0_W.map (Proc.devRef (τ := τ) .tc)).toFinset :=
  forall_writes_sub_of_map rfl

abbrev body1 : List (HloOp τ sig (Elt F)) :=
  [ StableHlo.nullary main_while0b_c_13 (constantI S_ 32 0#32),
    StableHlo.binary main_while0b_v37 main_while0b_c_13 main_while0b_v38 (cmpi .slt : (⟨S_, .i32⟩ : BufTy).Contents (Elt F) → (⟨S_, .i32⟩ : BufTy).Contents (Elt F) → (⟨S_, .i1⟩ : BufTy).Contents (Elt F)),
    StableHlo.nullary main_while0b_c_14 (constantI S_ 32 512#32),
    StableHlo.binary main_while0b_v37 main_while0b_c_14 main_while0b_v39 (addi : (⟨S_, .i32⟩ : BufTy).Contents (Elt F) → (⟨S_, .i32⟩ : BufTy).Contents (Elt F) → (⟨S_, .i32⟩ : BufTy).Contents (Elt F)),
    StableHlo.ternary main_while0b_v38 main_while0b_v39 main_while0b_v37 main_while0b_v40 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v33_1 ![main_while0b_v40] ⟨S_, .i32⟩ main_while0b_v41 ((fun x i => Host.dynamicSlice S1 x (fun k => (i k (Shape.Idx.first h_S_)).toInt) sliceFits_S512_S1) : (⟨S512, .i32⟩ : BufTy).Contents (Elt F) → (Fin 1 → (⟨S_, .i32⟩ : BufTy).Contents (Elt F)) → (⟨S1, .i32⟩ : BufTy).Contents (Elt F)),
    StableHlo.reshape main_while0b_v41 main_while0b_v42 (rfl : (.i32 : EltTy) = .i32) shapeCasts_S1_S_,
    StableHlo.nullary main_while0b_c_15 (constantI S_ 32 0#32),
    StableHlo.binary main_while0b_v37 main_while0b_c_15 main_while0b_v43 (cmpi .slt : (⟨S_, .i32⟩ : BufTy).Contents (Elt F) → (⟨S_, .i32⟩ : BufTy).Contents (Elt F) → (⟨S_, .i1⟩ : BufTy).Contents (Elt F)),
    StableHlo.nullary main_while0b_c_16 (constantI S_ 32 512#32),
    StableHlo.binary main_while0b_v37 main_while0b_c_16 main_while0b_v44 (addi : (⟨S_, .i32⟩ : BufTy).Contents (Elt F) → (⟨S_, .i32⟩ : BufTy).Contents (Elt F) → (⟨S_, .i32⟩ : BufTy).Contents (Elt F)),
    StableHlo.ternary main_while0b_v43 main_while0b_v44 main_while0b_v37 main_while0b_v45 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v33_2 ![main_while0b_v45] ⟨S_, .i32⟩ main_while0b_v46 ((fun x i => Host.dynamicSlice S1 x (fun k => (i k (Shape.Idx.first h_S_)).toInt) sliceFits_S512_S1) : (⟨S512, .i32⟩ : BufTy).Contents (Elt F) → (Fin 1 → (⟨S_, .i32⟩ : BufTy).Contents (Elt F)) → (⟨S1, .i32⟩ : BufTy).Contents (Elt F)),
    StableHlo.reshape main_while0b_v46 main_while0b_v47 (rfl : (.i32 : EltTy) = .i32) shapeCasts_S1_S_,
    StableHlo.nullary main_while0b_c_17 (constantI S_ 32 2#32) ]
theorem body1_tc : (body1 : List (HloOp τ sig (Elt F))).Forall fun op => op.bufs ⊆ tcRefs τ sig :=
  ⟨nullary_bufs_sub .., binary_bufs_sub .., nullary_bufs_sub .., binary_bufs_sub .., ternary_bufs_sub .., unaryIndexed_bufs_sub .., reshape_bufs_sub .., nullary_bufs_sub .., binary_bufs_sub .., nullary_bufs_sub .., binary_bufs_sub .., ternary_bufs_sub .., unaryIndexed_bufs_sub .., reshape_bufs_sub .., nullary_bufs_sub ..⟩
theorem body1_fresh : (body1 : List (HloOp τ sig (Elt F))).Forall fun op => op.fresh = ∅ :=
  forall_fresh_of_map rfl
abbrev body1_W : List (Ref sig .tc) := [main_while0b_c_13, main_while0b_v38, main_while0b_c_14, main_while0b_v39, main_while0b_v40, main_while0b_v41, main_while0b_v42, main_while0b_c_15, main_while0b_v43, main_while0b_c_16, main_while0b_v44, main_while0b_v45, main_while0b_v46, main_while0b_v47, main_while0b_c_17]
theorem body1_writes : (body1 : List (HloOp τ sig (Elt F))).Forall fun op => op.writes ⊆ (body1_W.map (Proc.devRef (τ := τ) .tc)).toFinset :=
  forall_writes_sub_of_map rfl

abbrev body2 : List (HloOp τ sig (Elt F)) :=
  [ StableHlo.TRef.unary (.of main_while0b_c_17 : StableHlo.TRef sig ⟨S_, .i32⟩) (.of main_while0b_call6_v0 : StableHlo.TRef sig ⟨S_, .i32⟩) id,
    StableHlo.TRef.binary (.of main_while0b_v47 : StableHlo.TRef sig ⟨S_, .i32⟩) (.of main_while0b_call6_v0 : StableHlo.TRef sig ⟨S_, .i32⟩) (.of main_while0b_call6_v1 : StableHlo.TRef sig ⟨S_, .i32⟩) Host.divsi,
    StableHlo.TRef.unary (.of main_while0b_v47 : StableHlo.TRef sig ⟨S_, .i32⟩) (.of main_while0b_call6_v2 : StableHlo.TRef sig ⟨S_, .i32⟩) signi,
    StableHlo.TRef.unary (.of main_while0b_call6_v0 : StableHlo.TRef sig ⟨S_, .i32⟩) (.of main_while0b_call6_v3 : StableHlo.TRef sig ⟨S_, .i32⟩) signi,
    StableHlo.TRef.binary (.of main_while0b_call6_v2 : StableHlo.TRef sig ⟨S_, .i32⟩) (.of main_while0b_call6_v3 : StableHlo.TRef sig ⟨S_, .i32⟩) (.of main_while0b_call6_v4 : StableHlo.TRef sig ⟨S_, .i1⟩) (cmpi .ne),
    StableHlo.TRef.binary (.of main_while0b_v47 : StableHlo.TRef sig ⟨S_, .i32⟩) (.of main_while0b_call6_v0 : StableHlo.TRef sig ⟨S_, .i32⟩) (.of main_while0b_call6_v5 : StableHlo.TRef sig ⟨S_, .i32⟩) Host.remsi,
    StableHlo.TRef.nullary (.of main_while0b_call6_c : StableHlo.TRef sig ⟨S_, .i32⟩) (constantI S_ 32 0#32),
    StableHlo.TRef.binary (.of main_while0b_call6_v5 : StableHlo.TRef sig ⟨S_, .i32⟩) (.of main_while0b_call6_c : StableHlo.TRef sig ⟨S_, .i32⟩) (.of main_while0b_call6_v6 : StableHlo.TRef sig ⟨S_, .i1⟩) (cmpi .ne),
    StableHlo.TRef.binary (.of main_while0b_call6_v4 : StableHlo.TRef sig ⟨S_, .i1⟩) (.of main_while0b_call6_v6 : StableHlo.TRef sig ⟨S_, .i1⟩) (.of main_while0b_call6_v7 : StableHlo.TRef sig ⟨S_, .i1⟩) andi,
    StableHlo.TRef.nullary (.of main_while0b_call6_c_0 : StableHlo.TRef sig ⟨S_, .i32⟩) (constantI S_ 32 1#32),
    StableHlo.TRef.binary (.of main_while0b_call6_v1 : StableHlo.TRef sig ⟨S_, .i32⟩) (.of main_while0b_call6_c_0 : StableHlo.TRef sig ⟨S_, .i32⟩) (.of main_while0b_call6_v8 : StableHlo.TRef sig ⟨S_, .i32⟩) subi,
    StableHlo.TRef.ternary (.of main_while0b_call6_v7 : StableHlo.TRef sig ⟨S_, .i1⟩) (.of main_while0b_call6_v8 : StableHlo.TRef sig ⟨S_, .i32⟩) (.of main_while0b_call6_v1 : StableHlo.TRef sig ⟨S_, .i32⟩) (.of main_while0b_v48 : StableHlo.TRef sig ⟨S_, .i32⟩) select ]
theorem body2_tc : (body2 : List (HloOp τ sig (Elt F))).Forall fun op => op.bufs ⊆ tcRefs τ sig :=
  ⟨unary_bufs_sub .., binary_bufs_sub .., unary_bufs_sub .., unary_bufs_sub .., binary_bufs_sub .., binary_bufs_sub .., nullary_bufs_sub .., binary_bufs_sub .., binary_bufs_sub .., nullary_bufs_sub .., binary_bufs_sub .., ternary_bufs_sub ..⟩
theorem body2_fresh : (body2 : List (HloOp τ sig (Elt F))).Forall fun op => op.fresh = ∅ :=
  forall_fresh_of_map rfl
abbrev body2_W : List (Ref sig .tc) := [main_while0b_call6_v0, main_while0b_call6_v1, main_while0b_call6_v2, main_while0b_call6_v3, main_while0b_call6_v4, main_while0b_call6_v5, main_while0b_call6_c, main_while0b_call6_v6, main_while0b_call6_v7, main_while0b_call6_c_0, main_while0b_call6_v8, main_while0b_v48]
theorem body2_writes : (body2 : List (HloOp τ sig (Elt F))).Forall fun op => op.writes ⊆ (body2_W.map (Proc.devRef (τ := τ) .tc)).toFinset :=
  forall_writes_sub_of_map rfl

abbrev body3 : List (HloOp τ sig (Elt F)) :=
  [ StableHlo.binary main_while0b_v42 main_while0b_v48 main_while0b_v49 (subi : (⟨S_, .i32⟩ : BufTy).Contents (Elt F) → (⟨S_, .i32⟩ : BufTy).Contents (Elt F) → (⟨S_, .i32⟩ : BufTy).Contents (Elt F)),
    StableHlo.nullary main_while0b_c_18 (constantI S_ 32 0#32),
    StableHlo.binary main_while0b_v37 main_while0b_c_18 main_while0b_v50 (cmpi .slt : (⟨S_, .i32⟩ : BufTy).Contents (Elt F) → (⟨S_, .i32⟩ : BufTy).Contents (Elt F) → (⟨S_, .i1⟩ : BufTy).Contents (Elt F)),
    StableHlo.nullary main_while0b_c_19 (constantI S_ 32 512#32),
    StableHlo.binary main_while0b_v37 main_while0b_c_19 main_while0b_v51 (addi : (⟨S_, .i32⟩ : BufTy).Contents (Elt F) → (⟨S_, .i32⟩ : BufTy).Contents (Elt F) → (⟨S_, .i32⟩ : BufTy).Contents (Elt F)),
    StableHlo.ternary main_while0b_v50 main_while0b_v51 main_while0b_v37 main_while0b_v52 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v33_3 ![main_while0b_v52] ⟨S_, .i32⟩ main_while0b_v53 ((fun x i => Host.dynamicSlice S1 x (fun k => (i k (Shape.Idx.first h_S_)).toInt) sliceFits_S512_S1) : (⟨S512, .i32⟩ : BufTy).Contents (Elt F) → (Fin 1 → (⟨S_, .i32⟩ : BufTy).Contents (Elt F)) → (⟨S1, .i32⟩ : BufTy).Contents (Elt F)),
    StableHlo.reshape main_while0b_v53 main_while0b_v54 (rfl : (.i32 : EltTy) = .i32) shapeCasts_S1_S_,
    StableHlo.nullary main_while0b_c_20 (constantI S_ 32 0#32),
    StableHlo.binary main_while0b_v37 main_while0b_c_20 main_while0b_v55 (cmpi .slt : (⟨S_, .i32⟩ : BufTy).Contents (Elt F) → (⟨S_, .i32⟩ : BufTy).Contents (Elt F) → (⟨S_, .i1⟩ : BufTy).Contents (Elt F)),
    StableHlo.nullary main_while0b_c_21 (constantI S_ 32 512#32),
    StableHlo.binary main_while0b_v37 main_while0b_c_21 main_while0b_v56 (addi : (⟨S_, .i32⟩ : BufTy).Contents (Elt F) → (⟨S_, .i32⟩ : BufTy).Contents (Elt F) → (⟨S_, .i32⟩ : BufTy).Contents (Elt F)),
    StableHlo.ternary main_while0b_v55 main_while0b_v56 main_while0b_v37 main_while0b_v57 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v33_4 ![main_while0b_v57] ⟨S_, .i32⟩ main_while0b_v58 ((fun x i => Host.dynamicSlice S1 x (fun k => (i k (Shape.Idx.first h_S_)).toInt) sliceFits_S512_S1) : (⟨S512, .i32⟩ : BufTy).Contents (Elt F) → (Fin 1 → (⟨S_, .i32⟩ : BufTy).Contents (Elt F)) → (⟨S1, .i32⟩ : BufTy).Contents (Elt F)),
    StableHlo.reshape main_while0b_v58 main_while0b_v59 (rfl : (.i32 : EltTy) = .i32) shapeCasts_S1_S_,
    StableHlo.nullary main_while0b_c_22 (constantI S_ 32 2#32) ]
theorem body3_tc : (body3 : List (HloOp τ sig (Elt F))).Forall fun op => op.bufs ⊆ tcRefs τ sig :=
  ⟨binary_bufs_sub .., nullary_bufs_sub .., binary_bufs_sub .., nullary_bufs_sub .., binary_bufs_sub .., ternary_bufs_sub .., unaryIndexed_bufs_sub .., reshape_bufs_sub .., nullary_bufs_sub .., binary_bufs_sub .., nullary_bufs_sub .., binary_bufs_sub .., ternary_bufs_sub .., unaryIndexed_bufs_sub .., reshape_bufs_sub .., nullary_bufs_sub ..⟩
theorem body3_fresh : (body3 : List (HloOp τ sig (Elt F))).Forall fun op => op.fresh = ∅ :=
  forall_fresh_of_map rfl
abbrev body3_W : List (Ref sig .tc) := [main_while0b_v49, main_while0b_c_18, main_while0b_v50, main_while0b_c_19, main_while0b_v51, main_while0b_v52, main_while0b_v53, main_while0b_v54, main_while0b_c_20, main_while0b_v55, main_while0b_c_21, main_while0b_v56, main_while0b_v57, main_while0b_v58, main_while0b_v59, main_while0b_c_22]
theorem body3_writes : (body3 : List (HloOp τ sig (Elt F))).Forall fun op => op.writes ⊆ (body3_W.map (Proc.devRef (τ := τ) .tc)).toFinset :=
  forall_writes_sub_of_map rfl

abbrev body4 : List (HloOp τ sig (Elt F)) :=
  [ StableHlo.TRef.unary (.of main_while0b_c_22 : StableHlo.TRef sig ⟨S_, .i32⟩) (.of main_while0b_call7_v0 : StableHlo.TRef sig ⟨S_, .i32⟩) id,
    StableHlo.TRef.binary (.of main_while0b_v59 : StableHlo.TRef sig ⟨S_, .i32⟩) (.of main_while0b_call7_v0 : StableHlo.TRef sig ⟨S_, .i32⟩) (.of main_while0b_call7_v1 : StableHlo.TRef sig ⟨S_, .i32⟩) Host.divsi,
    StableHlo.TRef.unary (.of main_while0b_v59 : StableHlo.TRef sig ⟨S_, .i32⟩) (.of main_while0b_call7_v2 : StableHlo.TRef sig ⟨S_, .i32⟩) signi,
    StableHlo.TRef.unary (.of main_while0b_call7_v0 : StableHlo.TRef sig ⟨S_, .i32⟩) (.of main_while0b_call7_v3 : StableHlo.TRef sig ⟨S_, .i32⟩) signi,
    StableHlo.TRef.binary (.of main_while0b_call7_v2 : StableHlo.TRef sig ⟨S_, .i32⟩) (.of main_while0b_call7_v3 : StableHlo.TRef sig ⟨S_, .i32⟩) (.of main_while0b_call7_v4 : StableHlo.TRef sig ⟨S_, .i1⟩) (cmpi .ne),
    StableHlo.TRef.binary (.of main_while0b_v59 : StableHlo.TRef sig ⟨S_, .i32⟩) (.of main_while0b_call7_v0 : StableHlo.TRef sig ⟨S_, .i32⟩) (.of main_while0b_call7_v5 : StableHlo.TRef sig ⟨S_, .i32⟩) Host.remsi,
    StableHlo.TRef.nullary (.of main_while0b_call7_c : StableHlo.TRef sig ⟨S_, .i32⟩) (constantI S_ 32 0#32),
    StableHlo.TRef.binary (.of main_while0b_call7_v5 : StableHlo.TRef sig ⟨S_, .i32⟩) (.of main_while0b_call7_c : StableHlo.TRef sig ⟨S_, .i32⟩) (.of main_while0b_call7_v6 : StableHlo.TRef sig ⟨S_, .i1⟩) (cmpi .ne),
    StableHlo.TRef.binary (.of main_while0b_call7_v4 : StableHlo.TRef sig ⟨S_, .i1⟩) (.of main_while0b_call7_v6 : StableHlo.TRef sig ⟨S_, .i1⟩) (.of main_while0b_call7_v7 : StableHlo.TRef sig ⟨S_, .i1⟩) andi,
    StableHlo.TRef.nullary (.of main_while0b_call7_c_0 : StableHlo.TRef sig ⟨S_, .i32⟩) (constantI S_ 32 1#32),
    StableHlo.TRef.binary (.of main_while0b_call7_v1 : StableHlo.TRef sig ⟨S_, .i32⟩) (.of main_while0b_call7_c_0 : StableHlo.TRef sig ⟨S_, .i32⟩) (.of main_while0b_call7_v8 : StableHlo.TRef sig ⟨S_, .i32⟩) subi,
    StableHlo.TRef.ternary (.of main_while0b_call7_v7 : StableHlo.TRef sig ⟨S_, .i1⟩) (.of main_while0b_call7_v8 : StableHlo.TRef sig ⟨S_, .i32⟩) (.of main_while0b_call7_v1 : StableHlo.TRef sig ⟨S_, .i32⟩) (.of main_while0b_v60 : StableHlo.TRef sig ⟨S_, .i32⟩) select ]
theorem body4_tc : (body4 : List (HloOp τ sig (Elt F))).Forall fun op => op.bufs ⊆ tcRefs τ sig :=
  ⟨unary_bufs_sub .., binary_bufs_sub .., unary_bufs_sub .., unary_bufs_sub .., binary_bufs_sub .., binary_bufs_sub .., nullary_bufs_sub .., binary_bufs_sub .., binary_bufs_sub .., nullary_bufs_sub .., binary_bufs_sub .., ternary_bufs_sub ..⟩
theorem body4_fresh : (body4 : List (HloOp τ sig (Elt F))).Forall fun op => op.fresh = ∅ :=
  forall_fresh_of_map rfl
abbrev body4_W : List (Ref sig .tc) := [main_while0b_call7_v0, main_while0b_call7_v1, main_while0b_call7_v2, main_while0b_call7_v3, main_while0b_call7_v4, main_while0b_call7_v5, main_while0b_call7_c, main_while0b_call7_v6, main_while0b_call7_v7, main_while0b_call7_c_0, main_while0b_call7_v8, main_while0b_v60]
theorem body4_writes : (body4 : List (HloOp τ sig (Elt F))).Forall fun op => op.writes ⊆ (body4_W.map (Proc.devRef (τ := τ) .tc)).toFinset :=
  forall_writes_sub_of_map rfl

abbrev body5 : List (HloOp τ sig (Elt F)) :=
  [ StableHlo.binary main_while0b_v54 main_while0b_v60 main_while0b_v61 (subi : (⟨S_, .i32⟩ : BufTy).Contents (Elt F) → (⟨S_, .i32⟩ : BufTy).Contents (Elt F) → (⟨S_, .i32⟩ : BufTy).Contents (Elt F)),
    StableHlo.nullary main_while0b_c_23 (constantI S_ 32 0#32),
    StableHlo.binary main_while0b_v37 main_while0b_c_23 main_while0b_v62 (cmpi .slt : (⟨S_, .i32⟩ : BufTy).Contents (Elt F) → (⟨S_, .i32⟩ : BufTy).Contents (Elt F) → (⟨S_, .i1⟩ : BufTy).Contents (Elt F)),
    StableHlo.nullary main_while0b_c_24 (constantI S_ 32 512#32),
    StableHlo.binary main_while0b_v37 main_while0b_c_24 main_while0b_v63 (addi : (⟨S_, .i32⟩ : BufTy).Contents (Elt F) → (⟨S_, .i32⟩ : BufTy).Contents (Elt F) → (⟨S_, .i32⟩ : BufTy).Contents (Elt F)),
    StableHlo.ternary main_while0b_v62 main_while0b_v63 main_while0b_v37 main_while0b_v64 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v33_1 ![main_while0b_v64] ⟨S_, .i32⟩ main_while0b_v65 ((fun x i => Host.dynamicSlice S1 x (fun k => (i k (Shape.Idx.first h_S_)).toInt) sliceFits_S512_S1) : (⟨S512, .i32⟩ : BufTy).Contents (Elt F) → (Fin 1 → (⟨S_, .i32⟩ : BufTy).Contents (Elt F)) → (⟨S1, .i32⟩ : BufTy).Contents (Elt F)),
    StableHlo.reshape main_while0b_v65 main_while0b_v66 (rfl : (.i32 : EltTy) = .i32) shapeCasts_S1_S_,
    StableHlo.nullary main_while0b_c_25 (constantI S_ 32 0#32),
    StableHlo.binary main_while0b_v37 main_while0b_c_25 main_while0b_v67 (cmpi .slt : (⟨S_, .i32⟩ : BufTy).Contents (Elt F) → (⟨S_, .i32⟩ : BufTy).Contents (Elt F) → (⟨S_, .i1⟩ : BufTy).Contents (Elt F)),
    StableHlo.nullary main_while0b_c_26 (constantI S_ 32 512#32),
    StableHlo.binary main_while0b_v37 main_while0b_c_26 main_while0b_v68 (addi : (⟨S_, .i32⟩ : BufTy).Contents (Elt F) → (⟨S_, .i32⟩ : BufTy).Contents (Elt F) → (⟨S_, .i32⟩ : BufTy).Contents (Elt F)),
    StableHlo.ternary main_while0b_v67 main_while0b_v68 main_while0b_v37 main_while0b_v69 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v33_2 ![main_while0b_v69] ⟨S_, .i32⟩ main_while0b_v70 ((fun x i => Host.dynamicSlice S1 x (fun k => (i k (Shape.Idx.first h_S_)).toInt) sliceFits_S512_S1) : (⟨S512, .i32⟩ : BufTy).Contents (Elt F) → (Fin 1 → (⟨S_, .i32⟩ : BufTy).Contents (Elt F)) → (⟨S1, .i32⟩ : BufTy).Contents (Elt F)),
    StableHlo.reshape main_while0b_v70 main_while0b_v71 (rfl : (.i32 : EltTy) = .i32) shapeCasts_S1_S_,
    StableHlo.nullary main_while0b_c_27 (constantI S_ 32 1#32),
    StableHlo.binary main_while0b_v71 main_while0b_c_27 main_while0b_v72 (addi : (⟨S_, .i32⟩ : BufTy).Contents (Elt F) → (⟨S_, .i32⟩ : BufTy).Contents (Elt F) → (⟨S_, .i32⟩ : BufTy).Contents (Elt F)),
    StableHlo.nullary main_while0b_c_28 (constantI S_ 32 2#32) ]
theorem body5_tc : (body5 : List (HloOp τ sig (Elt F))).Forall fun op => op.bufs ⊆ tcRefs τ sig :=
  ⟨binary_bufs_sub .., nullary_bufs_sub .., binary_bufs_sub .., nullary_bufs_sub .., binary_bufs_sub .., ternary_bufs_sub .., unaryIndexed_bufs_sub .., reshape_bufs_sub .., nullary_bufs_sub .., binary_bufs_sub .., nullary_bufs_sub .., binary_bufs_sub .., ternary_bufs_sub .., unaryIndexed_bufs_sub .., reshape_bufs_sub .., nullary_bufs_sub .., binary_bufs_sub .., nullary_bufs_sub ..⟩
theorem body5_fresh : (body5 : List (HloOp τ sig (Elt F))).Forall fun op => op.fresh = ∅ :=
  forall_fresh_of_map rfl
abbrev body5_W : List (Ref sig .tc) := [main_while0b_v61, main_while0b_c_23, main_while0b_v62, main_while0b_c_24, main_while0b_v63, main_while0b_v64, main_while0b_v65, main_while0b_v66, main_while0b_c_25, main_while0b_v67, main_while0b_c_26, main_while0b_v68, main_while0b_v69, main_while0b_v70, main_while0b_v71, main_while0b_c_27, main_while0b_v72, main_while0b_c_28]
theorem body5_writes : (body5 : List (HloOp τ sig (Elt F))).Forall fun op => op.writes ⊆ (body5_W.map (Proc.devRef (τ := τ) .tc)).toFinset :=
  forall_writes_sub_of_map rfl

abbrev body6 : List (HloOp τ sig (Elt F)) :=
  [ StableHlo.TRef.unary (.of main_while0b_c_28 : StableHlo.TRef sig ⟨S_, .i32⟩) (.of main_while0b_call8_v0 : StableHlo.TRef sig ⟨S_, .i32⟩) id,
    StableHlo.TRef.binary (.of main_while0b_v72 : StableHlo.TRef sig ⟨S_, .i32⟩) (.of main_while0b_call8_v0 : StableHlo.TRef sig ⟨S_, .i32⟩) (.of main_while0b_call8_v1 : StableHlo.TRef sig ⟨S_, .i32⟩) Host.divsi,
    StableHlo.TRef.unary (.of main_while0b_v72 : StableHlo.TRef sig ⟨S_, .i32⟩) (.of main_while0b_call8_v2 : StableHlo.TRef sig ⟨S_, .i32⟩) signi,
    StableHlo.TRef.unary (.of main_while0b_call8_v0 : StableHlo.TRef sig ⟨S_, .i32⟩) (.of main_while0b_call8_v3 : StableHlo.TRef sig ⟨S_, .i32⟩) signi,
    StableHlo.TRef.binary (.of main_while0b_call8_v2 : StableHlo.TRef sig ⟨S_, .i32⟩) (.of main_while0b_call8_v3 : StableHlo.TRef sig ⟨S_, .i32⟩) (.of main_while0b_call8_v4 : StableHlo.TRef sig ⟨S_, .i1⟩) (cmpi .ne),
    StableHlo.TRef.binary (.of main_while0b_v72 : StableHlo.TRef sig ⟨S_, .i32⟩) (.of main_while0b_call8_v0 : StableHlo.TRef sig ⟨S_, .i32⟩) (.of main_while0b_call8_v5 : StableHlo.TRef sig ⟨S_, .i32⟩) Host.remsi,
    StableHlo.TRef.nullary (.of main_while0b_call8_c : StableHlo.TRef sig ⟨S_, .i32⟩) (constantI S_ 32 0#32),
    StableHlo.TRef.binary (.of main_while0b_call8_v5 : StableHlo.TRef sig ⟨S_, .i32⟩) (.of main_while0b_call8_c : StableHlo.TRef sig ⟨S_, .i32⟩) (.of main_while0b_call8_v6 : StableHlo.TRef sig ⟨S_, .i1⟩) (cmpi .ne),
    StableHlo.TRef.binary (.of main_while0b_call8_v4 : StableHlo.TRef sig ⟨S_, .i1⟩) (.of main_while0b_call8_v6 : StableHlo.TRef sig ⟨S_, .i1⟩) (.of main_while0b_call8_v7 : StableHlo.TRef sig ⟨S_, .i1⟩) andi,
    StableHlo.TRef.nullary (.of main_while0b_call8_c_0 : StableHlo.TRef sig ⟨S_, .i32⟩) (constantI S_ 32 1#32),
    StableHlo.TRef.binary (.of main_while0b_call8_v1 : StableHlo.TRef sig ⟨S_, .i32⟩) (.of main_while0b_call8_c_0 : StableHlo.TRef sig ⟨S_, .i32⟩) (.of main_while0b_call8_v8 : StableHlo.TRef sig ⟨S_, .i32⟩) subi,
    StableHlo.TRef.ternary (.of main_while0b_call8_v7 : StableHlo.TRef sig ⟨S_, .i1⟩) (.of main_while0b_call8_v8 : StableHlo.TRef sig ⟨S_, .i32⟩) (.of main_while0b_call8_v1 : StableHlo.TRef sig ⟨S_, .i32⟩) (.of main_while0b_v73 : StableHlo.TRef sig ⟨S_, .i32⟩) select ]
theorem body6_tc : (body6 : List (HloOp τ sig (Elt F))).Forall fun op => op.bufs ⊆ tcRefs τ sig :=
  ⟨unary_bufs_sub .., binary_bufs_sub .., unary_bufs_sub .., unary_bufs_sub .., binary_bufs_sub .., binary_bufs_sub .., nullary_bufs_sub .., binary_bufs_sub .., binary_bufs_sub .., nullary_bufs_sub .., binary_bufs_sub .., ternary_bufs_sub ..⟩
theorem body6_fresh : (body6 : List (HloOp τ sig (Elt F))).Forall fun op => op.fresh = ∅ :=
  forall_fresh_of_map rfl
abbrev body6_W : List (Ref sig .tc) := [main_while0b_call8_v0, main_while0b_call8_v1, main_while0b_call8_v2, main_while0b_call8_v3, main_while0b_call8_v4, main_while0b_call8_v5, main_while0b_call8_c, main_while0b_call8_v6, main_while0b_call8_v7, main_while0b_call8_c_0, main_while0b_call8_v8, main_while0b_v73]
theorem body6_writes : (body6 : List (HloOp τ sig (Elt F))).Forall fun op => op.writes ⊆ (body6_W.map (Proc.devRef (τ := τ) .tc)).toFinset :=
  forall_writes_sub_of_map rfl

abbrev body7 : List (HloOp τ sig (Elt F)) :=
  [ StableHlo.binary main_while0b_v66 main_while0b_v73 main_while0b_v74 (addi : (⟨S_, .i32⟩ : BufTy).Contents (Elt F) → (⟨S_, .i32⟩ : BufTy).Contents (Elt F) → (⟨S_, .i32⟩ : BufTy).Contents (Elt F)),
    StableHlo.nullary main_while0b_c_29 (constantI S_ 32 0#32),
    StableHlo.binary main_while0b_v37 main_while0b_c_29 main_while0b_v75 (cmpi .slt : (⟨S_, .i32⟩ : BufTy).Contents (Elt F) → (⟨S_, .i32⟩ : BufTy).Contents (Elt F) → (⟨S_, .i1⟩ : BufTy).Contents (Elt F)),
    StableHlo.nullary main_while0b_c_30 (constantI S_ 32 512#32),
    StableHlo.binary main_while0b_v37 main_while0b_c_30 main_while0b_v76 (addi : (⟨S_, .i32⟩ : BufTy).Contents (Elt F) → (⟨S_, .i32⟩ : BufTy).Contents (Elt F) → (⟨S_, .i32⟩ : BufTy).Contents (Elt F)),
    StableHlo.ternary main_while0b_v75 main_while0b_v76 main_while0b_v37 main_while0b_v77 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v33_3 ![main_while0b_v77] ⟨S_, .i32⟩ main_while0b_v78 ((fun x i => Host.dynamicSlice S1 x (fun k => (i k (Shape.Idx.first h_S_)).toInt) sliceFits_S512_S1) : (⟨S512, .i32⟩ : BufTy).Contents (Elt F) → (Fin 1 → (⟨S_, .i32⟩ : BufTy).Contents (Elt F)) → (⟨S1, .i32⟩ : BufTy).Contents (Elt F)),
    StableHlo.reshape main_while0b_v78 main_while0b_v79 (rfl : (.i32 : EltTy) = .i32) shapeCasts_S1_S_,
    StableHlo.nullary main_while0b_c_31 (constantI S_ 32 0#32),
    StableHlo.binary main_while0b_v37 main_while0b_c_31 main_while0b_v80 (cmpi .slt : (⟨S_, .i32⟩ : BufTy).Contents (Elt F) → (⟨S_, .i32⟩ : BufTy).Contents (Elt F) → (⟨S_, .i1⟩ : BufTy).Contents (Elt F)),
    StableHlo.nullary main_while0b_c_32 (constantI S_ 32 512#32),
    StableHlo.binary main_while0b_v37 main_while0b_c_32 main_while0b_v81 (addi : (⟨S_, .i32⟩ : BufTy).Contents (Elt F) → (⟨S_, .i32⟩ : BufTy).Contents (Elt F) → (⟨S_, .i32⟩ : BufTy).Contents (Elt F)),
    StableHlo.ternary main_while0b_v80 main_while0b_v81 main_while0b_v37 main_while0b_v82 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v33_4 ![main_while0b_v82] ⟨S_, .i32⟩ main_while0b_v83 ((fun x i => Host.dynamicSlice S1 x (fun k => (i k (Shape.Idx.first h_S_)).toInt) sliceFits_S512_S1) : (⟨S512, .i32⟩ : BufTy).Contents (Elt F) → (Fin 1 → (⟨S_, .i32⟩ : BufTy).Contents (Elt F)) → (⟨S1, .i32⟩ : BufTy).Contents (Elt F)),
    StableHlo.reshape main_while0b_v83 main_while0b_v84 (rfl : (.i32 : EltTy) = .i32) shapeCasts_S1_S_,
    StableHlo.nullary main_while0b_c_33 (constantI S_ 32 1#32),
    StableHlo.binary main_while0b_v84 main_while0b_c_33 main_while0b_v85 (addi : (⟨S_, .i32⟩ : BufTy).Contents (Elt F) → (⟨S_, .i32⟩ : BufTy).Contents (Elt F) → (⟨S_, .i32⟩ : BufTy).Contents (Elt F)),
    StableHlo.nullary main_while0b_c_34 (constantI S_ 32 2#32) ]
theorem body7_tc : (body7 : List (HloOp τ sig (Elt F))).Forall fun op => op.bufs ⊆ tcRefs τ sig :=
  ⟨binary_bufs_sub .., nullary_bufs_sub .., binary_bufs_sub .., nullary_bufs_sub .., binary_bufs_sub .., ternary_bufs_sub .., unaryIndexed_bufs_sub .., reshape_bufs_sub .., nullary_bufs_sub .., binary_bufs_sub .., nullary_bufs_sub .., binary_bufs_sub .., ternary_bufs_sub .., unaryIndexed_bufs_sub .., reshape_bufs_sub .., nullary_bufs_sub .., binary_bufs_sub .., nullary_bufs_sub ..⟩
theorem body7_fresh : (body7 : List (HloOp τ sig (Elt F))).Forall fun op => op.fresh = ∅ :=
  forall_fresh_of_map rfl
abbrev body7_W : List (Ref sig .tc) := [main_while0b_v74, main_while0b_c_29, main_while0b_v75, main_while0b_c_30, main_while0b_v76, main_while0b_v77, main_while0b_v78, main_while0b_v79, main_while0b_c_31, main_while0b_v80, main_while0b_c_32, main_while0b_v81, main_while0b_v82, main_while0b_v83, main_while0b_v84, main_while0b_c_33, main_while0b_v85, main_while0b_c_34]
theorem body7_writes : (body7 : List (HloOp τ sig (Elt F))).Forall fun op => op.writes ⊆ (body7_W.map (Proc.devRef (τ := τ) .tc)).toFinset :=
  forall_writes_sub_of_map rfl

abbrev body8 : List (HloOp τ sig (Elt F)) :=
  [ StableHlo.TRef.unary (.of main_while0b_c_34 : StableHlo.TRef sig ⟨S_, .i32⟩) (.of main_while0b_call9_v0 : StableHlo.TRef sig ⟨S_, .i32⟩) id,
    StableHlo.TRef.binary (.of main_while0b_v85 : StableHlo.TRef sig ⟨S_, .i32⟩) (.of main_while0b_call9_v0 : StableHlo.TRef sig ⟨S_, .i32⟩) (.of main_while0b_call9_v1 : StableHlo.TRef sig ⟨S_, .i32⟩) Host.divsi,
    StableHlo.TRef.unary (.of main_while0b_v85 : StableHlo.TRef sig ⟨S_, .i32⟩) (.of main_while0b_call9_v2 : StableHlo.TRef sig ⟨S_, .i32⟩) signi,
    StableHlo.TRef.unary (.of main_while0b_call9_v0 : StableHlo.TRef sig ⟨S_, .i32⟩) (.of main_while0b_call9_v3 : StableHlo.TRef sig ⟨S_, .i32⟩) signi,
    StableHlo.TRef.binary (.of main_while0b_call9_v2 : StableHlo.TRef sig ⟨S_, .i32⟩) (.of main_while0b_call9_v3 : StableHlo.TRef sig ⟨S_, .i32⟩) (.of main_while0b_call9_v4 : StableHlo.TRef sig ⟨S_, .i1⟩) (cmpi .ne),
    StableHlo.TRef.binary (.of main_while0b_v85 : StableHlo.TRef sig ⟨S_, .i32⟩) (.of main_while0b_call9_v0 : StableHlo.TRef sig ⟨S_, .i32⟩) (.of main_while0b_call9_v5 : StableHlo.TRef sig ⟨S_, .i32⟩) Host.remsi,
    StableHlo.TRef.nullary (.of main_while0b_call9_c : StableHlo.TRef sig ⟨S_, .i32⟩) (constantI S_ 32 0#32),
    StableHlo.TRef.binary (.of main_while0b_call9_v5 : StableHlo.TRef sig ⟨S_, .i32⟩) (.of main_while0b_call9_c : StableHlo.TRef sig ⟨S_, .i32⟩) (.of main_while0b_call9_v6 : StableHlo.TRef sig ⟨S_, .i1⟩) (cmpi .ne),
    StableHlo.TRef.binary (.of main_while0b_call9_v4 : StableHlo.TRef sig ⟨S_, .i1⟩) (.of main_while0b_call9_v6 : StableHlo.TRef sig ⟨S_, .i1⟩) (.of main_while0b_call9_v7 : StableHlo.TRef sig ⟨S_, .i1⟩) andi,
    StableHlo.TRef.nullary (.of main_while0b_call9_c_0 : StableHlo.TRef sig ⟨S_, .i32⟩) (constantI S_ 32 1#32),
    StableHlo.TRef.binary (.of main_while0b_call9_v1 : StableHlo.TRef sig ⟨S_, .i32⟩) (.of main_while0b_call9_c_0 : StableHlo.TRef sig ⟨S_, .i32⟩) (.of main_while0b_call9_v8 : StableHlo.TRef sig ⟨S_, .i32⟩) subi,
    StableHlo.TRef.ternary (.of main_while0b_call9_v7 : StableHlo.TRef sig ⟨S_, .i1⟩) (.of main_while0b_call9_v8 : StableHlo.TRef sig ⟨S_, .i32⟩) (.of main_while0b_call9_v1 : StableHlo.TRef sig ⟨S_, .i32⟩) (.of main_while0b_v86 : StableHlo.TRef sig ⟨S_, .i32⟩) select ]
theorem body8_tc : (body8 : List (HloOp τ sig (Elt F))).Forall fun op => op.bufs ⊆ tcRefs τ sig :=
  ⟨unary_bufs_sub .., binary_bufs_sub .., unary_bufs_sub .., unary_bufs_sub .., binary_bufs_sub .., binary_bufs_sub .., nullary_bufs_sub .., binary_bufs_sub .., binary_bufs_sub .., nullary_bufs_sub .., binary_bufs_sub .., ternary_bufs_sub ..⟩
theorem body8_fresh : (body8 : List (HloOp τ sig (Elt F))).Forall fun op => op.fresh = ∅ :=
  forall_fresh_of_map rfl
abbrev body8_W : List (Ref sig .tc) := [main_while0b_call9_v0, main_while0b_call9_v1, main_while0b_call9_v2, main_while0b_call9_v3, main_while0b_call9_v4, main_while0b_call9_v5, main_while0b_call9_c, main_while0b_call9_v6, main_while0b_call9_v7, main_while0b_call9_c_0, main_while0b_call9_v8, main_while0b_v86]
theorem body8_writes : (body8 : List (HloOp τ sig (Elt F))).Forall fun op => op.writes ⊆ (body8_W.map (Proc.devRef (τ := τ) .tc)).toFinset :=
  forall_writes_sub_of_map rfl

abbrev body9 : List (HloOp τ sig (Elt F)) :=
  [ StableHlo.binary main_while0b_v79 main_while0b_v86 main_while0b_v87 (addi : (⟨S_, .i32⟩ : BufTy).Contents (Elt F) → (⟨S_, .i32⟩ : BufTy).Contents (Elt F) → (⟨S_, .i32⟩ : BufTy).Contents (Elt F)),
    StableHlo.nullary main_while0b_c_35 (constantI S_ 32 0#32),
    StableHlo.binary main_while0b_v49 main_while0b_c_35 main_while0b_v88 (cmpi .sge : (⟨S_, .i32⟩ : BufTy).Contents (Elt F) → (⟨S_, .i32⟩ : BufTy).Contents (Elt F) → (⟨S_, .i1⟩ : BufTy).Contents (Elt F)),
    StableHlo.nullary main_while0b_c_36 (constantI S_ 32 0#32),
    StableHlo.binary main_while0b_v61 main_while0b_c_36 main_while0b_v89 (cmpi .sge : (⟨S_, .i32⟩ : BufTy).Contents (Elt F) → (⟨S_, .i32⟩ : BufTy).Contents (Elt F) → (⟨S_, .i1⟩ : BufTy).Contents (Elt F)),
    StableHlo.binary main_while0b_v88 main_while0b_v89 main_while0b_v90 (andi : (⟨S_, .i1⟩ : BufTy).Contents (Elt F) → (⟨S_, .i1⟩ : BufTy).Contents (Elt F) → (⟨S_, .i1⟩ : BufTy).Contents (Elt F)),
    StableHlo.nullary main_while0b_c_37 (constantI S_ 32 512#32),
    StableHlo.binary main_while0b_v74 main_while0b_c_37 main_while0b_v91 (cmpi .sle : (⟨S_, .i32⟩ : BufTy).Contents (Elt F) → (⟨S_, .i32⟩ : BufTy).Contents (Elt F) → (⟨S_, .i1⟩ : BufTy).Contents (Elt F)),
    StableHlo.binary main_while0b_v90 main_while0b_v91 main_while0b_v92 (andi : (⟨S_, .i1⟩ : BufTy).Contents (Elt F) → (⟨S_, .i1⟩ : BufTy).Contents (Elt F) → (⟨S_, .i1⟩ : BufTy).Contents (Elt F)),
    StableHlo.nullary main_while0b_c_38 (constantI S_ 32 512#32),
    StableHlo.binary main_while0b_v87 main_while0b_c_38 main_while0b_v93 (cmpi .sle : (⟨S_, .i32⟩ : BufTy).Contents (Elt F) → (⟨S_, .i32⟩ : BufTy).Contents (Elt F) → (⟨S_, .i1⟩ : BufTy).Contents (Elt F)),
    StableHlo.binary main_while0b_v92 main_while0b_v93 main_while0b_v94 (andi : (⟨S_, .i1⟩ : BufTy).Contents (Elt F) → (⟨S_, .i1⟩ : BufTy).Contents (Elt F) → (⟨S_, .i1⟩ : BufTy).Contents (Elt F)),
    StableHlo.nullary main_while0b_c_39 (constantI S_ 32 0#32),
    StableHlo.binary main_while0b_v37 main_while0b_c_39 main_while0b_v95 (cmpi .slt : (⟨S_, .i32⟩ : BufTy).Contents (Elt F) → (⟨S_, .i32⟩ : BufTy).Contents (Elt F) → (⟨S_, .i1⟩ : BufTy).Contents (Elt F)),
    StableHlo.nullary main_while0b_c_40 (constantI S_ 32 512#32),
    StableHlo.binary main_while0b_v37 main_while0b_c_40 main_while0b_v96 (addi : (⟨S_, .i32⟩ : BufTy).Contents (Elt F) → (⟨S_, .i32⟩ : BufTy).Contents (Elt F) → (⟨S_, .i32⟩ : BufTy).Contents (Elt F)),
    StableHlo.ternary main_while0b_v95 main_while0b_v96 main_while0b_v37 main_while0b_v97 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_41 (constantI S_ 32 0#32),
    StableHlo.nullary main_while0b_c_42 (constantI S_ 32 0#32),
    StableHlo.binary main_while0b_c_41 main_while0b_c_42 main_while0b_v98 (cmpi .slt : (⟨S_, .i32⟩ : BufTy).Contents (Elt F) → (⟨S_, .i32⟩ : BufTy).Contents (Elt F) → (⟨S_, .i1⟩ : BufTy).Contents (Elt F)),
    StableHlo.nullary main_while0b_c_43 (constantI S_ 32 0#32),
    StableHlo.nullary main_while0b_c_44 (constantI S_ 32 256#32),
    StableHlo.binary main_while0b_c_43 main_while0b_c_44 main_while0b_v99 (addi : (⟨S_, .i32⟩ : BufTy).Contents (Elt F) → (⟨S_, .i32⟩ : BufTy).Contents (Elt F) → (⟨S_, .i32⟩ : BufTy).Contents (Elt F)),
    StableHlo.nullary main_while0b_c_45 (constantI S_ 32 0#32),
    StableHlo.ternary main_while0b_v98 main_while0b_v99 main_while0b_c_45 main_while0b_v100 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v33_5 ![main_while0b_v97, main_while0b_v100] ⟨S_, .i32⟩ main_while0b_v101 ((fun x i => Host.dynamicSlice S1x256 x (fun k => (i k (Shape.Idx.first h_S_)).toInt) sliceFits_S512x256_S1x256) : (⟨S512x256, .f32⟩ : BufTy).Contents (Elt F) → (Fin 2 → (⟨S_, .i32⟩ : BufTy).Contents (Elt F)) → (⟨S1x256, .f32⟩ : BufTy).Contents (Elt F)),
    StableHlo.reshape main_while0b_v101 main_while0b_v102 (rfl : (.f32 : EltTy) = .f32) shapeCasts_S1x256_S256 ]
theorem body9_tc : (body9 : List (HloOp τ sig (Elt F))).Forall fun op => op.bufs ⊆ tcRefs τ sig :=
  ⟨binary_bufs_sub .., nullary_bufs_sub .., binary_bufs_sub .., nullary_bufs_sub .., binary_bufs_sub .., binary_bufs_sub .., nullary_bufs_sub .., binary_bufs_sub .., binary_bufs_sub .., nullary_bufs_sub .., binary_bufs_sub .., binary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub ..⟩
theorem body9_fresh : (body9 : List (HloOp τ sig (Elt F))).Forall fun op => op.fresh = ∅ :=
  forall_fresh_of_map rfl
abbrev body9_W : List (Ref sig .tc) := [main_while0b_v87, main_while0b_c_35, main_while0b_v88, main_while0b_c_36, main_while0b_v89, main_while0b_v90, main_while0b_c_37, main_while0b_v91, main_while0b_v92, main_while0b_c_38, main_while0b_v93, main_while0b_v94, main_while0b_c_39, main_while0b_v95, main_while0b_c_40, main_while0b_v96, main_while0b_v97, main_while0b_c_41, main_while0b_c_42, main_while0b_v98, main_while0b_c_43, main_while0b_c_44, main_while0b_v99, main_while0b_c_45, main_while0b_v100, main_while0b_v101, main_while0b_v102]
theorem body9_writes : (body9 : List (HloOp τ sig (Elt F))).Forall fun op => op.writes ⊆ (body9_W.map (Proc.devRef (τ := τ) .tc)).toFinset :=
  forall_writes_sub_of_map rfl

abbrev body10 : List (HloOp τ sig (Elt F)) :=
  [ StableHlo.TRef.nullary (.of main_while0b_call10_v0 : StableHlo.TRef sig ⟨S256, .i32⟩) (iotaInDim S256 32 0),
    StableHlo.TRef.nullary (.of main_while0b_call10_cst : StableHlo.TRef sig ⟨S_, .f32⟩) (constant S_ .f32 0xFF800000#32),
    StableHlo.TRef.nullary (.of main_while0b_call10_c : StableHlo.TRef sig ⟨S_, .i32⟩) (constantI S_ 32 0#32),
    StableHlo.TRef.quaternary (.of main_while0b_v102 : StableHlo.TRef sig ⟨S256, .f32⟩) (.of main_while0b_call10_v0 : StableHlo.TRef sig ⟨S256, .i32⟩) (.of main_while0b_call10_cst : StableHlo.TRef sig ⟨S_, .f32⟩) (.of main_while0b_call10_c : StableHlo.TRef sig ⟨S_, .i32⟩) (.of main_while0b_call10_v1_0 : StableHlo.TRef sig ⟨S_, .f32⟩) (fun x y u v j => (Host.argReduce reducer_argmax_f32_i32 x y u v reducesTo_S256_S_d0 h_S_ j).1),
    StableHlo.TRef.quaternary (.of main_while0b_v102 : StableHlo.TRef sig ⟨S256, .f32⟩) (.of main_while0b_call10_v0 : StableHlo.TRef sig ⟨S256, .i32⟩) (.of main_while0b_call10_cst : StableHlo.TRef sig ⟨S_, .f32⟩) (.of main_while0b_call10_c : StableHlo.TRef sig ⟨S_, .i32⟩) (.of main_while0b_v103 : StableHlo.TRef sig ⟨S_, .i32⟩) (fun x y u v j => (Host.argReduce reducer_argmax_f32_i32 x y u v reducesTo_S256_S_d0 h_S_ j).2) ]
theorem body10_tc : (body10 : List (HloOp τ sig (Elt F))).Forall fun op => op.bufs ⊆ tcRefs τ sig :=
  ⟨nullary_bufs_sub .., nullary_bufs_sub .., nullary_bufs_sub .., quaternary_bufs_sub .., quaternary_bufs_sub ..⟩
theorem body10_fresh : (body10 : List (HloOp τ sig (Elt F))).Forall fun op => op.fresh = ∅ :=
  forall_fresh_of_map rfl
abbrev body10_W : List (Ref sig .tc) := [main_while0b_call10_v0, main_while0b_call10_cst, main_while0b_call10_c, main_while0b_call10_v1_0, main_while0b_v103]
theorem body10_writes : (body10 : List (HloOp τ sig (Elt F))).Forall fun op => op.writes ⊆ (body10_W.map (Proc.devRef (τ := τ) .tc)).toFinset :=
  forall_writes_sub_of_map rfl

set_option maxHeartbeats 40000000 in
abbrev body11 : List (HloOp τ sig (Elt F)) :=
  ( StableHlo.nullary main_while0b_c_46 (constantI S_ 32 0#32)
  :: StableHlo.binary main_while0b_v103 main_while0b_c_46 main_while0b_v104 (cmpi .slt : (⟨S_, .i32⟩ : BufTy).Contents (Elt F) → (⟨S_, .i32⟩ : BufTy).Contents (Elt F) → (⟨S_, .i1⟩ : BufTy).Contents (Elt F))
  :: StableHlo.nullary main_while0b_c_47 (constantI S_ 32 256#32)
  :: StableHlo.binary main_while0b_v103 main_while0b_c_47 main_while0b_v105 (addi : (⟨S_, .i32⟩ : BufTy).Contents (Elt F) → (⟨S_, .i32⟩ : BufTy).Contents (Elt F) → (⟨S_, .i32⟩ : BufTy).Contents (Elt F))
  :: StableHlo.ternary main_while0b_v104 main_while0b_v105 main_while0b_v103 main_while0b_v106 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_48 (constantI S_ 32 0#32)
  :: StableHlo.nullary main_while0b_c_49 (constantI S_ 32 0#32)
  :: StableHlo.binary main_while0b_c_48 main_while0b_c_49 main_while0b_v107 (cmpi .slt : (⟨S_, .i32⟩ : BufTy).Contents (Elt F) → (⟨S_, .i32⟩ : BufTy).Contents (Elt F) → (⟨S_, .i1⟩ : BufTy).Contents (Elt F))
  :: StableHlo.nullary main_while0b_c_50 (constantI S_ 32 0#32)
  :: StableHlo.nullary main_while0b_c_51 (constantI S_ 32 4#32)
  :: StableHlo.binary main_while0b_c_50 main_while0b_c_51 main_while0b_v108 (addi : (⟨S_, .i32⟩ : BufTy).Contents (Elt F) → (⟨S_, .i32⟩ : BufTy).Contents (Elt F) → (⟨S_, .i32⟩ : BufTy).Contents (Elt F))
  :: StableHlo.nullary main_while0b_c_52 (constantI S_ 32 0#32)
  :: StableHlo.ternary main_while0b_v107 main_while0b_v108 main_while0b_c_52 main_while0b_v109 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_53 (constantI S_ 32 0#32)
  :: StableHlo.nullary main_while0b_c_54 (constantI S_ 32 0#32)
  :: StableHlo.binary main_while0b_c_53 main_while0b_c_54 main_while0b_v110 (cmpi .slt : (⟨S_, .i32⟩ : BufTy).Contents (Elt F) → (⟨S_, .i32⟩ : BufTy).Contents (Elt F) → (⟨S_, .i1⟩ : BufTy).Contents (Elt F))
  :: StableHlo.nullary main_while0b_c_55 (constantI S_ 32 0#32)
  :: StableHlo.nullary main_while0b_c_56 (constantI S_ 32 64#32)
  :: StableHlo.binary main_while0b_c_55 main_while0b_c_56 main_while0b_v111 (addi : (⟨S_, .i32⟩ : BufTy).Contents (Elt F) → (⟨S_, .i32⟩ : BufTy).Contents (Elt F) → (⟨S_, .i32⟩ : BufTy).Contents (Elt F))
  :: StableHlo.nullary main_while0b_c_57 (constantI S_ 32 0#32)
  :: StableHlo.ternary main_while0b_v110 main_while0b_v111 main_while0b_c_57 main_while0b_v112 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_58 (constantI S_ 32 0#32)
  :: StableHlo.nullary main_while0b_c_59 (constantI S_ 32 0#32)
  :: StableHlo.binary main_while0b_c_58 main_while0b_c_59 main_while0b_v113 (cmpi .slt : (⟨S_, .i32⟩ : BufTy).Contents (Elt F) → (⟨S_, .i32⟩ : BufTy).Contents (Elt F) → (⟨S_, .i1⟩ : BufTy).Contents (Elt F))
  :: StableHlo.nullary main_while0b_c_60 (constantI S_ 32 0#32)
  :: StableHlo.nullary main_while0b_c_61 (constantI S_ 32 64#32)
  :: StableHlo.binary main_while0b_c_60 main_while0b_c_61 main_while0b_v114 (addi : (⟨S_, .i32⟩ : BufTy).Contents (Elt F) → (⟨S_, .i32⟩ : BufTy).Contents (Elt F) → (⟨S_, .i32⟩ : BufTy).Contents (Elt F))
  :: StableHlo.nullary main_while0b_c_62 (constantI S_ 32 0#32)
  :: StableHlo.ternary main_while0b_v113 main_while0b_v114 main_while0b_c_62 main_while0b_v115 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v33_6 ![main_while0b_v106, main_while0b_v109, main_while0b_v112, main_while0b_v115] ⟨S_, .i32⟩ main_while0b_v116 ((fun x i => Host.dynamicSlice S1x4x64x64 x (fun k => (i k (Shape.Idx.first h_S_)).toInt) sliceFits_S256x4x64x64_S1x4x64x64) : (⟨S256x4x64x64, .f32⟩ : BufTy).Contents (Elt F) → (Fin 4 → (⟨S_, .i32⟩ : BufTy).Contents (Elt F)) → (⟨S1x4x64x64, .f32⟩ : BufTy).Contents (Elt F))
  :: StableHlo.reshape main_while0b_v116 main_while0b_v117 (rfl : (.f32 : EltTy) = .f32) shapeCasts_S1x4x64x64_S4x64x64
  :: StableHlo.unary main_while0b_v117 main_while0b_v118 ((extractStridedSlice S3x64x64 ![0, 0, 0] · slices_S4x64x64_S3x64x64_0_0_0) : (⟨S4x64x64, .f32⟩ : BufTy).Contents (Elt F) → (⟨S3x64x64, .f32⟩ : BufTy).Contents (Elt F))
  :: StableHlo.unary main_while0b_v117 main_while0b_v119 ((extractStridedSlice S1x64x64 ![3, 0, 0] · slices_S4x64x64_S1x64x64_3_0_0) : (⟨S4x64x64, .f32⟩ : BufTy).Contents (Elt F) → (⟨S1x64x64, .f32⟩ : BufTy).Contents (Elt F))
  :: StableHlo.reshape main_while0b_v119 main_while0b_v120 (rfl : (.f32 : EltTy) = .f32) shapeCasts_S1x64x64_S64x64
  :: StableHlo.unary main_while0b_v120 main_while0b_v121 (broadcastInDim S1x64x64 ![1, 2] bcast_S64x64_S1x64x64_1_2 : (⟨S64x64, .f32⟩ : BufTy).Contents (Elt F) → (⟨S1x64x64, .f32⟩ : BufTy).Contents (Elt F))
  :: StableHlo.unary main_while0b_v121 main_while0b_v122 (broadcastInDim S3x64x64 ![0, 1, 2] bcast_S1x64x64_S3x64x64_0_1_2 : (⟨S1x64x64, .f32⟩ : BufTy).Contents (Elt F) → (⟨S3x64x64, .f32⟩ : BufTy).Contents (Elt F))
  :: StableHlo.nullary main_while0b_c_63 (constantI S_ 32 0#32)
  :: StableHlo.binary main_while0b_v49 main_while0b_c_63 main_while0b_v123 (cmpi .slt : (⟨S_, .i32⟩ : BufTy).Contents (Elt F) → (⟨S_, .i32⟩ : BufTy).Contents (Elt F) → (⟨S_, .i1⟩ : BufTy).Contents (Elt F))
  :: StableHlo.nullary main_while0b_c_64 (constantI S_ 32 512#32)
  :: StableHlo.binary main_while0b_v49 main_while0b_c_64 main_while0b_v124 (addi : (⟨S_, .i32⟩ : BufTy).Contents (Elt F) → (⟨S_, .i32⟩ : BufTy).Contents (Elt F) → (⟨S_, .i32⟩ : BufTy).Contents (Elt F))
  :: StableHlo.ternary main_while0b_v123 main_while0b_v124 main_while0b_v49 main_while0b_v125 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_65 (constantI S_ 32 0#32)
  :: StableHlo.binary main_while0b_v61 main_while0b_c_65 main_while0b_v126 (cmpi .slt : (⟨S_, .i32⟩ : BufTy).Contents (Elt F) → (⟨S_, .i32⟩ : BufTy).Contents (Elt F) → (⟨S_, .i1⟩ : BufTy).Contents (Elt F))
  :: StableHlo.nullary main_while0b_c_66 (constantI S_ 32 512#32)
  :: StableHlo.binary main_while0b_v61 main_while0b_c_66 main_while0b_v127 (addi : (⟨S_, .i32⟩ : BufTy).Contents (Elt F) → (⟨S_, .i32⟩ : BufTy).Contents (Elt F) → (⟨S_, .i32⟩ : BufTy).Contents (Elt F))
  :: StableHlo.ternary main_while0b_v126 main_while0b_v127 main_while0b_v61 main_while0b_v128 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_67 (constantI S_ 32 0#32)
  :: StableHlo.unaryIndexed main_v33_8 ![main_while0b_c_67, main_while0b_v125, main_while0b_v128] ⟨S_, .i32⟩ main_while0b_v129 ((fun x i => Host.dynamicSlice S4x64x64 x (fun k => (i k (Shape.Idx.first h_S_)).toInt) sliceFits_S4x512x512_S4x64x64) : (⟨S4x512x512, .f32⟩ : BufTy).Contents (Elt F) → (Fin 3 → (⟨S_, .i32⟩ : BufTy).Contents (Elt F)) → (⟨S4x64x64, .f32⟩ : BufTy).Contents (Elt F))
  :: StableHlo.unary main_while0b_v129 main_while0b_v130 ((extractStridedSlice S3x64x64 ![0, 0, 0] · slices_S4x64x64_S3x64x64_0_0_0) : (⟨S4x64x64, .f32⟩ : BufTy).Contents (Elt F) → (⟨S3x64x64, .f32⟩ : BufTy).Contents (Elt F))
  :: StableHlo.unary main_while0b_v129 main_while0b_v131 ((extractStridedSlice S1x64x64 ![3, 0, 0] · slices_S4x64x64_S1x64x64_3_0_0) : (⟨S4x64x64, .f32⟩ : BufTy).Contents (Elt F) → (⟨S1x64x64, .f32⟩ : BufTy).Contents (Elt F))
  :: StableHlo.reshape main_while0b_v131 main_while0b_v132 (rfl : (.f32 : EltTy) = .f32) shapeCasts_S1x64x64_S64x64
  :: StableHlo.unary main_while0b_v132 main_while0b_v133 (broadcastInDim S1x64x64 ![1, 2] bcast_S64x64_S1x64x64_1_2 : (⟨S64x64, .f32⟩ : BufTy).Contents (Elt F) → (⟨S1x64x64, .f32⟩ : BufTy).Contents (Elt F))
  :: StableHlo.unary main_while0b_v133 main_while0b_v134 (broadcastInDim S3x64x64 ![0, 1, 2] bcast_S1x64x64_S3x64x64_0_1_2 : (⟨S1x64x64, .f32⟩ : BufTy).Contents (Elt F) → (⟨S3x64x64, .f32⟩ : BufTy).Contents (Elt F))
  :: StableHlo.nullary main_while0b_cst_68 (constant S_ .f32 0x3F800000#32)
  :: StableHlo.unary main_while0b_cst_68 main_while0b_v135 (broadcastInDim S3x64x64 ![] bcast_S_S3x64x64 : (⟨S_, .f32⟩ : BufTy).Contents (Elt F) → (⟨S3x64x64, .f32⟩ : BufTy).Contents (Elt F))
  :: StableHlo.binary main_while0b_v135 main_while0b_v122 main_while0b_v136 (subf : (⟨S3x64x64, .f32⟩ : BufTy).Contents (Elt F) → (⟨S3x64x64, .f32⟩ : BufTy).Contents (Elt F) → (⟨S3x64x64, .f32⟩ : BufTy).Contents (Elt F))
  :: StableHlo.binary main_while0b_v134 main_while0b_v136 main_while0b_v137 (mulf : (⟨S3x64x64, .f32⟩ : BufTy).Contents (Elt F) → (⟨S3x64x64, .f32⟩ : BufTy).Contents (Elt F) → (⟨S3x64x64, .f32⟩ : BufTy).Contents (Elt F))
  :: StableHlo.binary main_while0b_v122 main_while0b_v137 main_while0b_v138 (addf : (⟨S3x64x64, .f32⟩ : BufTy).Contents (Elt F) → (⟨S3x64x64, .f32⟩ : BufTy).Contents (Elt F) → (⟨S3x64x64, .f32⟩ : BufTy).Contents (Elt F))
  :: StableHlo.binary main_while0b_v118 main_while0b_v122 main_while0b_v139 (mulf : (⟨S3x64x64, .f32⟩ : BufTy).Contents (Elt F) → (⟨S3x64x64, .f32⟩ : BufTy).Contents (Elt F) → (⟨S3x64x64, .f32⟩ : BufTy).Contents (Elt F))
  :: StableHlo.binary main_while0b_v130 main_while0b_v134 main_while0b_v140 (mulf : (⟨S3x64x64, .f32⟩ : BufTy).Contents (Elt F) → (⟨S3x64x64, .f32⟩ : BufTy).Contents (Elt F) → (⟨S3x64x64, .f32⟩ : BufTy).Contents (Elt F))
  :: StableHlo.nullary main_while0b_cst_69 (constant S_ .f32 0x3F800000#32)
  :: StableHlo.unary main_while0b_cst_69 main_while0b_v141 (broadcastInDim S3x64x64 ![] bcast_S_S3x64x64 : (⟨S_, .f32⟩ : BufTy).Contents (Elt F) → (⟨S3x64x64, .f32⟩ : BufTy).Contents (Elt F))
  :: StableHlo.binary main_while0b_v141 main_while0b_v122 main_while0b_v142 (subf : (⟨S3x64x64, .f32⟩ : BufTy).Contents (Elt F) → (⟨S3x64x64, .f32⟩ : BufTy).Contents (Elt F) → (⟨S3x64x64, .f32⟩ : BufTy).Contents (Elt F))
  :: StableHlo.binary main_while0b_v140 main_while0b_v142 main_while0b_v143 (mulf : (⟨S3x64x64, .f32⟩ : BufTy).Contents (Elt F) → (⟨S3x64x64, .f32⟩ : BufTy).Contents (Elt F) → (⟨S3x64x64, .f32⟩ : BufTy).Contents (Elt F))
  :: StableHlo.binary main_while0b_v139 main_while0b_v143 main_while0b_v144 (addf : (⟨S3x64x64, .f32⟩ : BufTy).Contents (Elt F) → (⟨S3x64x64, .f32⟩ : BufTy).Contents (Elt F) → (⟨S3x64x64, .f32⟩ : BufTy).Contents (Elt F))
  :: StableHlo.binary main_while0b_v144 main_while0b_v138 main_while0b_v145 (Host.divf : (⟨S3x64x64, .f32⟩ : BufTy).Contents (Elt F) → (⟨S3x64x64, .f32⟩ : BufTy).Contents (Elt F) → (⟨S3x64x64, .f32⟩ : BufTy).Contents (Elt F))
  :: StableHlo.unary main_while0b_v138 main_while0b_v146 ((extractStridedSlice S1x64x64 ![0, 0, 0] · slices_S3x64x64_S1x64x64_0_0_0) : (⟨S3x64x64, .f32⟩ : BufTy).Contents (Elt F) → (⟨S1x64x64, .f32⟩ : BufTy).Contents (Elt F))
  :: StableHlo.binary main_while0b_v145 main_while0b_v146 main_while0b_v147 ((fun a b => concatenate S4x64x64 0 [⟨S3x64x64, a⟩, ⟨S1x64x64, b⟩] concatenates_S3x64x64_S1x64x64_S4x64x64_d0) : (⟨S3x64x64, .f32⟩ : BufTy).Contents (Elt F) → (⟨S1x64x64, .f32⟩ : BufTy).Contents (Elt F) → (⟨S4x64x64, .f32⟩ : BufTy).Contents (Elt F))
  :: StableHlo.nullary main_while0b_c_70 (constantI S_ 32 0#32)
  :: StableHlo.binary main_while0b_v49 main_while0b_c_70 main_while0b_v148 (cmpi .slt : (⟨S_, .i32⟩ : BufTy).Contents (Elt F) → (⟨S_, .i32⟩ : BufTy).Contents (Elt F) → (⟨S_, .i1⟩ : BufTy).Contents (Elt F))
  :: StableHlo.nullary main_while0b_c_71 (constantI S_ 32 512#32)
  :: StableHlo.binary main_while0b_v49 main_while0b_c_71 main_while0b_v149 (addi : (⟨S_, .i32⟩ : BufTy).Contents (Elt F) → (⟨S_, .i32⟩ : BufTy).Contents (Elt F) → (⟨S_, .i32⟩ : BufTy).Contents (Elt F))
  :: StableHlo.ternary main_while0b_v148 main_while0b_v149 main_while0b_v49 main_while0b_v150 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_72 (constantI S_ 32 0#32)
  :: StableHlo.binary main_while0b_v61 main_while0b_c_72 main_while0b_v151 (cmpi .slt : (⟨S_, .i32⟩ : BufTy).Contents (Elt F) → (⟨S_, .i32⟩ : BufTy).Contents (Elt F) → (⟨S_, .i1⟩ : BufTy).Contents (Elt F))
  :: StableHlo.nullary main_while0b_c_73 (constantI S_ 32 512#32)
  :: StableHlo.binary main_while0b_v61 main_while0b_c_73 main_while0b_v152 (addi : (⟨S_, .i32⟩ : BufTy).Contents (Elt F) → (⟨S_, .i32⟩ : BufTy).Contents (Elt F) → (⟨S_, .i32⟩ : BufTy).Contents (Elt F))
  :: StableHlo.ternary main_while0b_v151 main_while0b_v152 main_while0b_v61 main_while0b_v153 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_74 (constantI S_ 32 0#32)
  :: StableHlo.binaryIndexed main_v33_8 main_while0b_v147 ![main_while0b_c_74, main_while0b_v150, main_while0b_v153] ⟨S_, .i32⟩ main_while0b_v154 ((fun x u i => Host.dynamicUpdateSlice x u (fun k => (i k (Shape.Idx.first h_S_)).toInt) updateFits_S4x512x512_S4x64x64) : (⟨S4x512x512, .f32⟩ : BufTy).Contents (Elt F) → (⟨S4x64x64, .f32⟩ : BufTy).Contents (Elt F) → (Fin 3 → (⟨S_, .i32⟩ : BufTy).Contents (Elt F)) → (⟨S4x512x512, .f32⟩ : BufTy).Contents (Elt F))
  :: [] )
set_option maxHeartbeats 40000000 in
theorem body11_tc : (body11 : List (HloOp τ sig (Elt F))).Forall fun op => op.bufs ⊆ tcRefs τ sig :=
  ⟨nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub .., unary_bufs_sub .., reshape_bufs_sub .., unary_bufs_sub .., unary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., nullary_bufs_sub .., unaryIndexed_bufs_sub .., unary_bufs_sub .., unary_bufs_sub .., reshape_bufs_sub .., unary_bufs_sub .., unary_bufs_sub .., nullary_bufs_sub .., unary_bufs_sub .., binary_bufs_sub .., binary_bufs_sub .., binary_bufs_sub .., binary_bufs_sub .., binary_bufs_sub .., nullary_bufs_sub .., unary_bufs_sub .., binary_bufs_sub .., binary_bufs_sub .., binary_bufs_sub .., binary_bufs_sub .., unary_bufs_sub .., binary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., nullary_bufs_sub .., binaryIndexed_bufs_sub ..⟩
theorem body11_fresh : (body11 : List (HloOp τ sig (Elt F))).Forall fun op => op.fresh = ∅ :=
  forall_fresh_of_map rfl
abbrev body11_W : List (Ref sig .tc) := [main_while0b_c_46, main_while0b_v104, main_while0b_c_47, main_while0b_v105, main_while0b_v106, main_while0b_c_48, main_while0b_c_49, main_while0b_v107, main_while0b_c_50, main_while0b_c_51, main_while0b_v108, main_while0b_c_52, main_while0b_v109, main_while0b_c_53, main_while0b_c_54, main_while0b_v110, main_while0b_c_55, main_while0b_c_56, main_while0b_v111, main_while0b_c_57, main_while0b_v112, main_while0b_c_58, main_while0b_c_59, main_while0b_v113, main_while0b_c_60, main_while0b_c_61, main_while0b_v114, main_while0b_c_62, main_while0b_v115, main_while0b_v116, main_while0b_v117, main_while0b_v118, main_while0b_v119, main_while0b_v120, main_while0b_v121, main_while0b_v122, main_while0b_c_63, main_while0b_v123, main_while0b_c_64, main_while0b_v124, main_while0b_v125, main_while0b_c_65, main_while0b_v126, main_while0b_c_66, main_while0b_v127, main_while0b_v128, main_while0b_c_67, main_while0b_v129, main_while0b_v130, main_while0b_v131, main_while0b_v132, main_while0b_v133, main_while0b_v134, main_while0b_cst_68, main_while0b_v135, main_while0b_v136, main_while0b_v137, main_while0b_v138, main_while0b_v139, main_while0b_v140, main_while0b_cst_69, main_while0b_v141, main_while0b_v142, main_while0b_v143, main_while0b_v144, main_while0b_v145, main_while0b_v146, main_while0b_v147, main_while0b_c_70, main_while0b_v148, main_while0b_c_71, main_while0b_v149, main_while0b_v150, main_while0b_c_72, main_while0b_v151, main_while0b_c_73, main_while0b_v152, main_while0b_v153, main_while0b_c_74, main_while0b_v154]
theorem body11_writes : (body11 : List (HloOp τ sig (Elt F))).Forall fun op => op.writes ⊆ (body11_W.map (Proc.devRef (τ := τ) .tc)).toFinset :=
  forall_writes_sub_of_map rfl

abbrev body12 : List (HloOp τ sig (Elt F)) :=
  [ StableHlo.TRef.ternary (.of main_while0b_v94 : StableHlo.TRef sig ⟨S_, .i1⟩) (.of main_while0b_v154 : StableHlo.TRef sig ⟨S4x512x512, .f32⟩) (.of main_v33_8 : StableHlo.TRef sig ⟨S4x512x512, .f32⟩) (.of main_while0b_v155 : StableHlo.TRef sig ⟨S4x512x512, .f32⟩) (fun p a b => select (broadcastInDim S4x512x512 ![] bcast_S_S4x512x512 p) a b) ]
theorem body12_tc : (body12 : List (HloOp τ sig (Elt F))).Forall fun op => op.bufs ⊆ tcRefs τ sig :=
  ternary_bufs_sub ..
theorem body12_fresh : (body12 : List (HloOp τ sig (Elt F))).Forall fun op => op.fresh = ∅ :=
  forall_fresh_of_map rfl
abbrev body12_W : List (Ref sig .tc) := [main_while0b_v155]
theorem body12_writes : (body12 : List (HloOp τ sig (Elt F))).Forall fun op => op.writes ⊆ (body12_W.map (Proc.devRef (τ := τ) .tc)).toFinset :=
  forall_writes_sub_of_map rfl

abbrev body13 : List (HloOp τ sig (Elt F)) :=
  [ StableHlo.nullary main_while0b_c_75 (constantI S_ 32 1#32),
    StableHlo.binary main_v33_7 main_while0b_c_75 main_while0b_v156 (addi : (⟨S_, .i32⟩ : BufTy).Contents (Elt F) → (⟨S_, .i32⟩ : BufTy).Contents (Elt F) → (⟨S_, .i32⟩ : BufTy).Contents (Elt F)),
    StableHlo.unary main_while0b_v156 main_v33_7 id,
    StableHlo.unary main_while0b_v155 main_v33_8 id ]
theorem body13_tc : (body13 : List (HloOp τ sig (Elt F))).Forall fun op => op.bufs ⊆ tcRefs τ sig :=
  ⟨nullary_bufs_sub .., binary_bufs_sub .., unary_bufs_sub .., unary_bufs_sub ..⟩
theorem body13_fresh : (body13 : List (HloOp τ sig (Elt F))).Forall fun op => op.fresh = ∅ :=
  forall_fresh_of_map rfl
abbrev body13_W : List (Ref sig .tc) := [main_while0b_c_75, main_while0b_v156, main_v33_7, main_v33_8]
theorem body13_writes : (body13 : List (HloOp τ sig (Elt F))).Forall fun op => op.writes ⊆ (body13_W.map (Proc.devRef (τ := τ) .tc)).toFinset :=
  forall_writes_sub_of_map rfl

/-- The whole program is its stretches before the loop, the loop, and the stretch after it. -/
theorem main_chain (c : Dev nD) : main (F := F) c = (Pipeline.chain
  [ seq pre0,
    seq pre1,
    seq pre2,
    seq pre3,
    seq pre4,
    seq pre5,
    seq pre6,
    seq pre7,
    seq pre8,
    seq pre9,
    seq pre10,
    HostLoop.enter 0,
    seq post0 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl
/-- One trip of the loop is its stretches in order. -/
theorem trip_chain : main_while0_body (F := F) = (Pipeline.chain
  [ seq body0,
    seq body1,
    seq body2,
    seq body3,
    seq body4,
    seq body5,
    seq body6,
    seq body7,
    seq body8,
    seq body9,
    seq body10,
    seq body11,
    seq body12,
    seq body13 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

/-- The loop's test: the trip counter against 512. -/
abbrev test : List (HloOp τ sig (Elt F)) :=
  [ nullary main_while0c_c_13 (constantI S_ 32 512#32),
    binary main_v33_7 main_while0c_c_13 main_while0c_v37 (cmpi .slt) ]
abbrev test_W : List (Ref sig .tc) := [main_while0c_c_13, main_while0c_v37]
theorem test_writes : (test : List (HloOp τ sig (Elt F))).Forall fun op => op.writes ⊆ (test_W.map (Proc.devRef (τ := τ) .tc)).toFinset :=
  forall_writes_sub_of_map rfl

abbrev pres : List (List (HloOp τ sig (Elt F))) := [pre0, pre1, pre2, pre3, pre4, pre5, pre6, pre7, pre8, pre9, pre10]
abbrev bodies : List (List (HloOp τ sig (Elt F))) := [body0, body1, body2, body3, body4, body5, body6, body7, body8, body9, body10, body11, body12, body13]
abbrev posts : List (List (HloOp τ sig (Elt F))) := [post0]

theorem plain_pres : Plain (pres (F := F)) := .cons pre0_tc (hf := List.forall_iff_forall_mem.mp pre0_fresh) (.cons pre1_tc (hf := List.forall_iff_forall_mem.mp pre1_fresh) (.cons pre2_tc (hf := List.forall_iff_forall_mem.mp pre2_fresh) (.cons pre3_tc (hf := List.forall_iff_forall_mem.mp pre3_fresh) (.cons pre4_tc (hf := List.forall_iff_forall_mem.mp pre4_fresh) (.cons pre5_tc (hf := List.forall_iff_forall_mem.mp pre5_fresh) (.cons pre6_tc (hf := List.forall_iff_forall_mem.mp pre6_fresh) (.cons pre7_tc (hf := List.forall_iff_forall_mem.mp pre7_fresh) (.cons pre8_tc (hf := List.forall_iff_forall_mem.mp pre8_fresh) (.cons pre9_tc (hf := List.forall_iff_forall_mem.mp pre9_fresh) (.cons pre10_tc (hf := List.forall_iff_forall_mem.mp pre10_fresh) (.nil)))))))))))
theorem plain_bodies : Plain (bodies (F := F)) := .cons body0_tc (hf := List.forall_iff_forall_mem.mp body0_fresh) (.cons body1_tc (hf := List.forall_iff_forall_mem.mp body1_fresh) (.cons body2_tc (hf := List.forall_iff_forall_mem.mp body2_fresh) (.cons body3_tc (hf := List.forall_iff_forall_mem.mp body3_fresh) (.cons body4_tc (hf := List.forall_iff_forall_mem.mp body4_fresh) (.cons body5_tc (hf := List.forall_iff_forall_mem.mp body5_fresh) (.cons body6_tc (hf := List.forall_iff_forall_mem.mp body6_fresh) (.cons body7_tc (hf := List.forall_iff_forall_mem.mp body7_fresh) (.cons body8_tc (hf := List.forall_iff_forall_mem.mp body8_fresh) (.cons body9_tc (hf := List.forall_iff_forall_mem.mp body9_fresh) (.cons body10_tc (hf := List.forall_iff_forall_mem.mp body10_fresh) (.cons body11_tc (hf := List.forall_iff_forall_mem.mp body11_fresh) (.cons body12_tc (hf := List.forall_iff_forall_mem.mp body12_fresh) (.cons body13_tc (hf := List.forall_iff_forall_mem.mp body13_fresh) (.nil))))))))))))))
theorem plain_posts : Plain (posts (F := F)) := .cons post0_tc (hf := List.forall_iff_forall_mem.mp post0_fresh) (.nil)

abbrev bodies_W : List (Ref sig .tc) := body0_W ++ body1_W ++ body2_W ++ body3_W ++ body4_W ++ body5_W ++ body6_W ++ body7_W ++ body8_W ++ body9_W ++ body10_W ++ body11_W ++ body12_W

/-- The contents one trip leaves just before its last stretch, which alone rewrites what the loop carries. -/
def inner (X : Valuation τ sig (Elt F)) : Valuation τ sig (Elt F) := after body12 (after body11 (after body10 (after body9 (after body8 (after body7 (after body6 (after body5 (after body4 (after body3 (after body2 (after body1 (after body0 X))))))))))))

theorem trip_eq (X : Valuation τ sig (Elt F)) : afterL bodies X = after body13 (inner X) := by
  unfold inner
  simp only [afterL_cons, afterL_nil]

theorem inner_keep (X : Valuation τ sig (Elt F)) (b : Ref sig .tc) (h : b ∉ bodies_W) : inner X (Proc.devRef .tc b) = X (Proc.devRef .tc b) := by
  simp only [bodies_W, List.mem_append, not_or] at h
  obtain ⟨⟨⟨⟨⟨⟨⟨⟨⟨⟨⟨⟨h0, h1⟩, h2⟩, h3⟩, h4⟩, h5⟩, h6⟩, h7⟩, h8⟩, h9⟩, h10⟩, h11⟩, h12⟩ := h
  unfold inner
  rw [after_of_writes_sub _ _ body12_writes h12, after_of_writes_sub _ _ body11_writes h11, after_of_writes_sub _ _ body10_writes h10, after_of_writes_sub _ _ body9_writes h9, after_of_writes_sub _ _ body8_writes h8, after_of_writes_sub _ _ body7_writes h7, after_of_writes_sub _ _ body6_writes h6, after_of_writes_sub _ _ body5_writes h5, after_of_writes_sub _ _ body4_writes h4, after_of_writes_sub _ _ body3_writes h3, after_of_writes_sub _ _ body2_writes h2, after_of_writes_sub _ _ body1_writes h1, after_of_writes_sub _ _ body0_writes h0]

variable (m : (ℓ : Loc nD τ sig) → Buf (Elt F) ℓ) (ρ : Dev nD → PrngReg)

/-- What every buffer holds before the k-th test. -/
abbrev at_ (k : ℕ) (c : Dev nD) : Valuation τ sig (Elt F) := atTrip test bodies (entryContents pres m) k c

theorem at_succ (k : ℕ) (c : Dev nD) : at_ m (k + 1) c = after body13 (inner (after test (at_ m k c))) :=
  trip_eq _

set_option maxRecDepth 100000 in
theorem counter_step (X : Valuation τ sig (Elt F)) :
    after body13 X (Proc.devRef .tc main_v33_7) = addi (X (Proc.devRef .tc main_v33_7)) (constantI S_ 32 1#32) := by
  after_results
  rfl

theorem counter_entry (c : Dev nD) : entryContents pres m c (Proc.devRef .tc main_v33_7) = fun _ => (0#32 : BitVec 32) := by
  simp only [entryContents, afterL_cons, afterL_nil]
  after_reads_simp
  rfl

/-- Before the k-th test the counter holds k. -/
theorem counter (c : Dev nD) (k : ℕ) : at_ m k c (Proc.devRef .tc main_v33_7) = fun _ => Scf.iv 0#32 1#32 k := by
  induction k with
  | zero => rw [show at_ m 0 c = entryContents pres m c from rfl, counter_entry, Scf.iv_zero]
  | succ k ih =>
    rw [at_succ, counter_step, inner_keep _ _ (by decide +kernel), after_of_writes_sub test _ test_writes (by decide +kernel), ih, Scf.iv_succ]
    rfl

set_option backward.isDefEq.respectTransparency.types false in
/-- The test run before each trip says whether fewer than 512 trips have been made. -/
theorem test_spec : CondSpec (pcfgs (F := F)) defs₀ loops (main_while0_cond (F := F)) test bodies (entryContents pres m) 512 := by
  intro k hk c bd
  have hc := counter m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at_ m k c) main_v33_7 HostLoop.idx0)
        (HloOp.result _ (at_ m k c) main_while0c_c_13 HostLoop.idx0) = 1#1) (k < 512)
    rw [nullary_result_ne _ _ _ _ (by decide), nullary_result, hc]
    exact Scf.cmpi_slt_iv_ub_iff (lb := 0#32) (ub := 512#32) (st := 1#32) (by decide) (show k ≤ Scf.trips 0#32 512#32 1#32 from hk)
  isplitl [Hb]; · iexact Hb
  rw [after_cons, after_cons, after_nil]; iexact Hh

/-- What every buffer holds at the end. -/
abbrev last (c : Dev nD) : Valuation τ sig (Elt F) := finalContents test pres bodies posts 512 m c

set_option maxRecDepth 100000 in
/-- Every execution ends with every buffer at the fold, and with every counter at zero. -/
theorem run : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = last m c (Proc.devRef .tc b)) ∧ r.2.sem = fun _ => 0) :=
  θ_run_mono (run_loop (pcfgs (F := F)) defs₀ loops main 0 main_while0_cond main_while0_body rfl pres bodies posts test plain_pres plain_bodies plain_posts
    (fun c => by rw [main_chain]; rfl) (by rw [trip_chain]; rfl) 512 m ρ (test_spec m))
    fun r h => ⟨h, sem_eq_zero_of_no_sems (by decide) r.2⟩

end Cert.ReferenceIdeal.Fold
-- ==== Proof.RFrame.lean ====
/- The reference program leaves its arguments as they were. -/
module

public import proofs.«01_k».proof.Proof.RRun

@[expose] public section

set_option maxRecDepth 16384

noncomputable section

namespace Cert.ReferenceIdeal.Fold

open Cert.ReferenceIdeal Cert.ReferenceIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg) (c : Dev nD)

abbrev loop_W : List (Ref sig .tc) := bodies_W ++ (test_W ++ body13_W)

/-- What the loop does not write it leaves. -/
theorem at_keep (b : Ref sig .tc) (h : b ∉ loop_W) (k : ℕ) : at_ m k c (Proc.devRef .tc b) = entryContents pres m c (Proc.devRef .tc b) := by
  simp only [loop_W, List.mem_append, not_or] at h
  obtain ⟨h0, h1, h2⟩ := h
  induction k with
  | zero => rfl
  | succ k ih =>
    rw [at_succ, after_of_writes_sub _ _ body13_writes h2, inner_keep _ _ (by simp only [bodies_W, List.mem_append, not_or]; exact h0), after_of_writes_sub _ _ test_writes h1, ih]

theorem last_eq (b : Ref sig .tc) : last m c (Proc.devRef .tc b) = after post0 (after test (at_ m 512 c)) (Proc.devRef .tc b)  := by
  unfold last finalContents
  rw [afterL_cons, afterL_nil]

abbrev pres_W : List (Ref sig .tc) := pre0_W ++ (pre1_W ++ (pre2_W ++ (pre3_W ++ (pre4_W ++ (pre5_W ++ (pre6_W ++ (pre7_W ++ (pre8_W ++ (pre9_W ++ pre10_W)))))))))

theorem entry_keep (b : Ref sig .tc) (h : b ∉ pres_W) : entryContents pres m c (Proc.devRef .tc b) = m (c, Proc.devRef .tc b) := by
  simp only [pres_W, List.mem_append, not_or] at h
  obtain ⟨h0, h1, h2, h3, h4, h5, h6, h7, h8, h9, h10⟩ := h
  simp only [entryContents, afterL_cons, afterL_nil]
  rw [after_of_writes_sub _ _ pre10_writes h10, after_of_writes_sub _ _ pre9_writes h9, after_of_writes_sub _ _ pre8_writes h8,
    after_of_writes_sub _ _ pre7_writes h7, after_of_writes_sub _ _ pre6_writes h6, after_of_writes_sub _ _ pre5_writes h5,
    after_of_writes_sub _ _ pre4_writes h4, after_of_writes_sub _ _ pre3_writes h3, after_of_writes_sub _ _ pre2_writes h2,
    after_of_writes_sub _ _ pre1_writes h1, after_of_writes_sub _ _ pre0_writes h0]

theorem last_arg0 : last m c (Proc.devRef .tc main_arg0) = m ((c.tc : Thread nD τ).loc main_arg0) := by
  rw [last_eq, after_of_writes_sub _ _ post0_writes (by decide), after_of_writes_sub _ _ test_writes (by decide), at_keep m c main_arg0 (by decide +kernel), entry_keep m c main_arg0 (by decide +kernel)]

theorem last_arg1 : last m c (Proc.devRef .tc main_arg1) = m ((c.tc : Thread nD τ).loc main_arg1) := by
  rw [last_eq, after_of_writes_sub _ _ post0_writes (by decide), after_of_writes_sub _ _ test_writes (by decide), at_keep m c main_arg1 (by decide +kernel), entry_keep m c main_arg1 (by decide +kernel)]

/-- Every execution ends, the arguments unchanged, the counters at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run m ρ) fun r h =>
    ⟨fun c => ⟨(h.1 c main_arg0 rfl).trans (last_arg0 m c), (h.1 c main_arg1 rfl).trans (last_arg1 m c)⟩, h.2⟩

end Cert.ReferenceIdeal.Fold
-- ==== Proof.Sorting.lean ====
/- A stable sort by a key, and what is left of it when some elements are passed over. The elements kept, sorted by their
   own key, are the head of the list sorted by a second key that puts every dropped element last. -/
module

public import Idealize.ShloMosaic.Lib.SortFacts

@[expose] public section

namespace Cert.Spec

open Idealize.ShloMosaic

variable {ι α : Type} [LinearOrder α]

/-- One element before another, by its key. -/
def byKey (f : ι → α) : ι → ι → Bool := fun a b => decide (f a < f b)

theorem sorted_byKey (f : ι → α) (l : List ι) : (stableSort (byKey f) l).Pairwise fun b c => byKey f c b = false := by
  refine pairwise_stableSort (byKey f) (byKey f) ?_ (fun _ _ h => h) ?_ l
  · intro a b h
    simp only [byKey, decide_eq_true_eq, decide_eq_false_iff_not] at *
    exact not_lt_of_gt h
  · intro a b c h1 h2
    simp only [byKey, decide_eq_false_iff_not, not_lt] at *
    exact h2.trans h1

theorem filter_insert_drop (r : ι → ι → Bool) (p : ι → Bool) (a : ι) (S : List ι) (ha : p a = false) :
    (insertBefore r a S).filter p = S.filter p := by
  induction S with
  | nil => simp [insertBefore, ha]
  | cons b S ih =>
    unfold insertBefore
    split
    · by_cases hb : p b = true <;> simp [List.filter_cons, hb, ih]
    · simp [List.filter_cons, ha]

/-- Inserting before a list whose first element isn't to stay in front. -/
theorem insert_front (r : ι → ι → Bool) (a : ι) (S : List ι) (h : ∀ b ∈ S, r b a = false) : insertBefore r a S = a :: S := by
  cases S with
  | nil => rfl
  | cons b S => unfold insertBefore; rw [h b (List.mem_cons_self ..)]; rfl

theorem filter_insert_keep (f : ι → α) (p : ι → Bool) (a : ι) (S : List ι) (ha : p a = true)
    (hS : S.Pairwise fun b c => byKey f c b = false) :
    (insertBefore (byKey f) a S).filter p = insertBefore (byKey f) a (S.filter p) := by
  induction S with
  | nil => simp [insertBefore, ha]
  | cons b S ih =>
    rw [List.pairwise_cons] at hS
    by_cases hba : byKey f b a = true
    · rw [insertBefore, if_pos hba]
      by_cases hb : p b = true
      · rw [List.filter_cons_of_pos hb, List.filter_cons_of_pos hb, ih hS.2, insertBefore, if_pos hba]
      · rw [List.filter_cons_of_neg hb, List.filter_cons_of_neg hb, ih hS.2]
    · rw [insertBefore, if_neg hba, List.filter_cons_of_pos ha]
      refine (insert_front _ _ _ fun c hc => ?_).symm
      have hc' := (List.mem_filter.mp hc).1
      simp only [byKey, decide_eq_true_eq, decide_eq_false_iff_not, not_lt] at *
      rcases List.mem_cons.mp hc' with rfl | hc'
      · exact hba
      · exact hba.trans (hS.1 c hc')

/-- Sorting and dropping commute. -/
theorem filter_sort (f : ι → α) (p : ι → Bool) (l : List ι) :
    (stableSort (byKey f) l).filter p = stableSort (byKey f) (l.filter p) := by
  induction l with
  | nil => rfl
  | cons a l ih =>
    rw [stableSort]
    by_cases ha : p a = true
    · rw [filter_insert_keep f p a _ ha (sorted_byKey f l), ih, List.filter_cons_of_pos ha, stableSort]
    · rw [filter_insert_drop _ p a _ (by simpa using ha), ih, List.filter_cons_of_neg ha]

theorem insert_append_keep (r r' : ι → ι → Bool) (a : ι) (A B : List ι) (hA : ∀ b ∈ A, r b a = r' b a)
    (hB : ∀ b ∈ B, r b a = false) : insertBefore r a (A ++ B) = insertBefore r' a A ++ B := by
  induction A with
  | nil => rw [List.nil_append, insert_front r a B hB]; rfl
  | cons b A ih =>
    rw [List.cons_append, insertBefore, insertBefore, hA b (List.mem_cons_self ..),
      ih fun c hc => hA c (List.mem_cons_of_mem _ hc)]
    split <;> rfl

theorem insert_append_drop (r : ι → ι → Bool) (a : ι) (A B : List ι) (hA : ∀ b ∈ A, r b a = true)
    (hB : ∀ b ∈ B, r b a = false) : insertBefore r a (A ++ B) = A ++ a :: B := by
  induction A with
  | nil => rw [List.nil_append, insert_front r a B hB]; rfl
  | cons b A ih =>
    rw [List.cons_append, insertBefore, if_pos (hA b (List.mem_cons_self ..)), ih fun c hc => hA c (List.mem_cons_of_mem _ hc)]
    rfl

/-- A key that agrees with the first on what is kept, and puts what is dropped after it, all alike: the kept elements
    sorted, then the dropped ones as they stood. -/
theorem sort_split (f g : ι → α) (p : ι → Bool) (hfg : ∀ a b, p a = true → p b = true → (g a < g b ↔ f a < f b))
    (hlt : ∀ a b, p a = true → p b = false → g a < g b) (heq : ∀ a b, p a = false → p b = false → ¬ g a < g b) (l : List ι) :
    stableSort (byKey g) l = stableSort (byKey f) (l.filter p) ++ l.filter fun a => !p a := by
  induction l with
  | nil => rfl
  | cons a l ih =>
    have mA : ∀ b ∈ stableSort (byKey f) (l.filter p), p b = true := fun b hb =>
      (List.mem_filter.mp ((perm_stableSort (byKey f) _).mem_iff.mp hb)).2
    have mB : ∀ b ∈ l.filter (fun a => !p a), p b = false := fun b hb => by simpa using (List.mem_filter.mp hb).2
    rw [stableSort, ih]
    by_cases ha : p a = true
    · rw [List.filter_cons_of_pos ha, List.filter_cons_of_neg (by simp [ha]), stableSort]
      refine insert_append_keep _ _ a _ _ (fun b hb => ?_) fun b hb => ?_
      · unfold byKey; exact decide_eq_decide.mpr (hfg b a (mA b hb) ha)
      · unfold byKey; exact decide_eq_false (not_lt_of_gt (hlt a b ha (mB b hb)))
    · have ha' : p a = false := by simpa using ha
      rw [List.filter_cons_of_neg ha, List.filter_cons_of_pos (by simp [ha'])]
      refine insert_append_drop _ a _ _ (fun b hb => ?_) fun b hb => ?_
      · unfold byKey; exact decide_eq_true (hlt b a (mA b hb) ha')
      · unfold byKey; exact decide_eq_false (heq b a (mB b hb) ha')

/-- So the head of the second list is what is kept of the first. -/
theorem sort_head (f g : ι → α) (p : ι → Bool) (hfg : ∀ a b, p a = true → p b = true → (g a < g b ↔ f a < f b))
    (hlt : ∀ a b, p a = true → p b = false → g a < g b) (heq : ∀ a b, p a = false → p b = false → ¬ g a < g b) (l : List ι) :
    (stableSort (byKey g) l).take (l.filter p).length = (stableSort (byKey f) l).filter p := by
  rw [sort_split f g p hfg hlt heq, filter_sort, ← length_stableSort (byKey f) (l.filter p), List.take_left]

/-- A count of trips, the k-th taking the list's k-th element, is a fold over the list's head. -/
theorem trips_fold {σ : Type} (L : List ι) (A : ℕ → σ) (step : σ → ι → σ)
    (h : ∀ (k : ℕ) (hk : k < L.length), A (k + 1) = step (A k) L[k]) (k : ℕ) (hk : k ≤ L.length) :
    A k = (L.take k).foldl step (A 0) := by
  induction k with
  | zero => rfl
  | succ k ih =>
    rw [h k hk, ih (Nat.le_of_lt hk), List.take_succ_eq_append_getElem hk, List.foldl_append]
    rfl

theorem foldl_skip {σ : Type} (step : σ → ι → σ) (p : ι → Bool) (l : List ι) (s : σ) :
    l.foldl (fun s i => if p i = true then step s i else s) s = (l.filter p).foldl step s := by
  induction l generalizing s with
  | nil => rfl
  | cons a l ih =>
    by_cases ha : p a = true
    · rw [List.foldl_cons, if_pos ha, List.filter_cons_of_pos ha, List.foldl_cons, ih]
    · rw [List.foldl_cons, if_neg ha, List.filter_cons_of_neg ha, ih]

/-- The two ways of pasting, one over all elements passing over the dropped ones, one over the second list's head, agree. -/
theorem paste_agree {σ : Type} (f g : ι → α) (p : ι → Bool) (l : List ι)
    (hfg : ∀ a b, p a = true → p b = true → (g a < g b ↔ f a < f b))
    (hlt : ∀ a b, p a = true → p b = false → g a < g b) (heq : ∀ a b, p a = false → p b = false → ¬ g a < g b)
    (step : σ → ι → σ) (A B : ℕ → σ) (h0 : A 0 = B 0)
    (hA : ∀ (k : ℕ) (hk : k < (stableSort (byKey f) l).length),
      A (k + 1) = if p (stableSort (byKey f) l)[k] = true then step (A k) (stableSort (byKey f) l)[k] else A k)
    (hB : ∀ (k : ℕ) (hk : k < (stableSort (byKey g) l).length), k < (l.filter p).length →
      B (k + 1) = step (B k) (stableSort (byKey g) l)[k]) :
    A l.length = B (l.filter p).length := by
  have e1 := trips_fold (stableSort (byKey f) l) A (fun s i => if p i = true then step s i else s) hA l.length
    (by rw [length_stableSort])
  rw [List.take_of_length_le (by rw [length_stableSort]), foldl_skip] at e1
  have e2 := trips_fold ((stableSort (byKey g) l).take (l.filter p).length) B step (fun k hk => by
    rw [List.length_take, lt_min_iff] at hk
    rw [List.getElem_take]
    exact hB k hk.2 hk.1) (l.filter p).length (by
      rw [List.length_take, length_stableSort, min_eq_left (List.length_filter_le _ _)])
  rw [List.take_take, min_self, sort_head f g p hfg hlt heq] at e2
  rw [e1, e2, h0]

end Cert.Spec
-- ==== Proof.Order.lean ====
/- The order of pasting over the extended reals: the sort's comparison is the order of the keys; a list taken in that order;
   the number of rows pasted is the number of valid rows. -/
module

public import proofs.«01_k».proof.Proof.Ranges
public import proofs.«01_k».proof.Proof.Sorting
public import Idealize.ShloMosaic.Lib.StableHlo.Predicate
public import Idealize.ShloMosaic.PureOps.Ideal.Laws

@[expose] public section

noncomputable section

namespace Cert.Spec

open Cert.KernelIdeal Cert.KernelIdeal.Gen
open Idealize.ShloMosaic Idealize.ShloMosaic.TcCoe

/-- The place of a number in a list of 512. -/
abbrev at512 (k : Fin 512) : S512.Idx := Shape.Idx.ofFin k

/-- The sort compares keys. -/
theorem comparator_eq (l r : Ideal .f32 × BitVec 32) :
    (comparator_f32_i32_d0 (F := Ideal) l r == 1#1) = decide ((l.1 : EReal) < r.1) := by
  unfold comparator_f32_i32_d0
  simp only [Ideal.cmpf_def, Ideal.cmpfTotal_def, CmpDirection.ordered]
  have hz : ∀ z x : EReal, Scalar.select (Ideal.cmp .oeq x z) z x = x := by
    intro z x
    unfold Scalar.select Ideal.cmp
    by_cases h : x = z
    · simp [h]
    · simp [h]
  have hn : ∀ x y z : EReal, Scalar.select (Ideal.cmp .une x x) y z = z := by
    intro x y z
    unfold Scalar.select Ideal.cmp
    simp
  erw [hz, hz, hn, hn]
  unfold Ideal.cmp
  by_cases h : (l.1 : EReal) < r.1 <;> simp [h]

/-- The rows by key. -/
abbrev sortedBy (d : FVec Ideal S512 .f32) : List (Fin 512) := stableSort (byKey fun k : Fin 512 => (d (at512 k) : EReal)) (List.finRange 512)

theorem sortedBy_length (d : FVec Ideal S512 .f32) : (sortedBy d).length = 512 := by
  rw [length_stableSort, List.length_finRange]

theorem sort2_at {n : ℕ} {α β : Type} (cmp : α × β → α × β → BitVec 1) (x : (⟨1, ![n]⟩ : Shape).Idx → α) (y : (⟨1, ![n]⟩ : Shape).Idx → β) (k : Fin n) :
    (Host.sort2 ⟨1, ![n]⟩ 0 cmp x y).2 (Shape.Idx.ofFin k) = y (Shape.Idx.ofFin (sortedFrom (fun a b : Fin n =>
      cmp (x (Shape.Idx.ofFin a), y (Shape.Idx.ofFin a)) (x (Shape.Idx.ofFin b), y (Shape.Idx.ofFin b)) == 1#1) k)) := by
  unfold Host.sort2
  rw [dif_pos (show 0 < (⟨1, ![n]⟩ : Shape).rank from Nat.one_pos)]
  show y ((Shape.Idx.ofFin k).along 0 (sortedFrom (fun a b : Fin n => cmp (x ((Shape.Idx.ofFin k).along 0 a), y ((Shape.Idx.ofFin k).along 0 a))
    (x ((Shape.Idx.ofFin k).along 0 b), y ((Shape.Idx.ofFin k).along 0 b)) == 1#1) k)) = _
  simp only [Shape.Idx.along_rank1]
  exact congrArg y (Shape.Idx.along_rank1 _ _)

theorem sortedFrom_eq {n : ℕ} (r : Fin n → Fin n → Bool) (k : Fin n) :
    sortedFrom r k = (stableSort r (List.finRange n))[k.val]'(by rw [length_stableSort, List.length_finRange]; exact k.isLt) := rfl

/-- The k-th word of the order is the k-th row by key. -/
theorem order_at (d : FVec Ideal S512 .f32) (k : Fin 512) :
    order d (at512 k) = BitVec.ofNat 32 ((sortedBy d)[k.val]'(by rw [sortedBy_length]; exact k.isLt)).val := by
  have h : (fun a b : Fin 512 => comparator_f32_i32_d0 (F := Ideal) (d (at512 a), iotaInDim S512 32 0 (at512 a)) (d (at512 b), iotaInDim S512 32 0 (at512 b)) == 1#1)
      = byKey fun k : Fin 512 => (d (at512 k) : EReal) := by
    funext a b
    exact comparator_eq _ _
  unfold order
  rw [sort2_at, h, sortedFrom_eq]
  generalize (stableSort _ _)[k.val]'_ = q
  rfl

theorem toInt_small {n : ℕ} (h : n < 512) : (BitVec.ofNat 32 n).toInt = n := by
  rw [BitVec.toInt_eq_toNat_cond, BitVec.toNat_ofNat]
  have : n % 2 ^ 32 = n := Nat.mod_eq_of_lt (by omega)
  rw [this, if_pos (by omega)]

/-- A list taken in an order, at one place. -/
theorem taken_at (x o : IVec S512 32) (k n : Fin 512) (h : o (at512 k) = BitVec.ofNat 32 n.val) : taken x o (at512 k) = x (at512 n) := by
  unfold taken
  rw [StableHlo.Predicate.gather_take (N := 512) (n := 512) gather_S512_S512x1_S512_n_0_n_n_0_1_1 rfl rfl rfl rfl x _ k (by decide)]
  congr 2
  apply Fin.ext
  have e : (broadcastInDim S512x1 ![0] bcast_S512_S512x1_0 (select (cmpi .slt o (constantI S512 32 0#32)) (addi o (constantI S512 32 512#32)) o) : IVec S512x1 32)
      (StableHlo.Predicate.ixP k) = BitVec.ofNat 32 n.val := by
    have e1 : (broadcastInDim S512x1 ![0] bcast_S512_S512x1_0 (select (cmpi .slt o (constantI S512 32 0#32)) (addi o (constantI S512 32 512#32)) o) : IVec S512x1 32)
        (StableHlo.Predicate.ixP k) = Scalar.select (IntOp.cmpi .slt (o (at512 k)) 0#32) (IntOp.addi (o (at512 k)) 512#32) (o (at512 k)) := by
      exact congrArg (select (cmpi .slt o (constantI S512 32 0#32)) (addi o (constantI S512 32 512#32)) o)
        ((Shape.Idx.eq_ofFin _).trans (congrArg Shape.Idx.ofFin (Fin.ext rfl)))
    rw [e1, h]
    have hn := n.isLt
    have : IntOp.cmpi .slt (BitVec.ofNat 32 n.val) 0#32 = 0#1 := by
      have h2 := toInt_small hn
      unfold IntOp.cmpi
      have h3 : ¬ ((n.val : ℤ) < 0) := by omega
      simp [BitVec.slt_eq_decide, h2, h3]
    rw [this]; rfl
  refine (congrArg (fun w : BitVec 32 => min w.toInt.toNat (512 - 1)) e).trans ?_
  rw [toInt_small n.isLt]
  have := n.isLt
  show min ((n.val : ℤ).toNat) 511 = n.val
  rw [Int.toNat_natCast]
  omega

/-- The valid rows. -/
abbrev validRow (v : IVec S512 1) (k : Fin 512) : Bool := v (at512 k) == 1#1

theorem sum_eq {ι : Type} (b : ι → BitVec 1) (l : List ι) (a : BitVec 32) (h : a.toNat + l.length < 2 ^ 32) :
    (l.foldl (fun r n => IntOp.addi r ((b n).setWidth 32)) a).toNat = a.toNat + (l.filter fun n => b n == 1#1).length := by
  induction l generalizing a with
  | nil => rfl
  | cons n l ih =>
    simp only [List.length_cons] at h
    have hb : b n = 0#1 ∨ b n = 1#1 := by
      have : ∀ v : BitVec 1, v = 0#1 ∨ v = 1#1 := by decide
      exact this _
    have h2 : (IntOp.addi a ((b n).setWidth 32)).toNat = a.toNat + if b n = 1#1 then 1 else 0 := by
      unfold IntOp.addi
      rcases hb with hb | hb
      · rw [hb]; simp
      · rw [hb, if_pos rfl, BitVec.toNat_add]
        show (a.toNat + 1) % 2 ^ 32 = _
        omega
    rw [List.foldl_cons, ih _ (by rw [h2]; split <;> omega), h2]
    rcases hb with hb | hb
    · rw [hb]; simp [hb]
    · simp [hb]; omega

/-- The number of rows pasted is the number of valid rows. -/
theorem howMany_eq (v : IVec S512 1) (j : S_.Idx) : (howMany v j).toNat = ((List.finRange 512).filter (validRow v)).length := by
  unfold howMany Host.reduce
  have hf : ((List.finRange S512.numel).filter fun n => (reducesTo_S512_S_d0 : S512.ReducesTo _ S_).drop (S512.rowMajor.symm n) = j) = List.finRange S512.numel := by
    refine List.filter_eq_self.mpr fun n _ => decide_eq_true ?_
    funext a; exact a.elim0
  rw [hf]
  refine (sum_eq (fun n => v (S512.rowMajor.symm n)) _ _ ?_).trans ?_
  · show 0 + _ < _
    rw [List.length_finRange]; decide
  · show 0 + _ = _
    rw [Nat.zero_add]
    have hn : S512.numel = 512 := by decide
    have : ∀ (N : ℕ) (hN : N = 512) (g : Fin N → BitVec 1), (∀ n : Fin N, g n = v (at512 ⟨n.val, hN ▸ n.isLt⟩)) →
        ((List.finRange N).filter fun n => g n == 1#1).length = ((List.finRange 512).filter (validRow v)).length := by
      intro N hN g hg
      subst hN
      congr 1
      refine List.filter_congr fun n _ => ?_
      rw [hg]
    refine this _ hn _ fun n => congrArg v ((Shape.Idx.eq_ofFin _).trans (congrArg Shape.Idx.ofFin (Fin.ext ?_)))
    have := Shape.rowMajor_val_one (d := ![512]) (S512.rowMajor.symm n)
    rw [Equiv.apply_symm_apply] at this
    exact this.symm

end Cert.Spec
-- ==== Proof.RTrip.lean ====
/- What one trip of the loop computes: the row the counter stands at, its words, and the picture with the row pasted. -/
module

public import proofs.«01_k».proof.Proof.Spec
public import proofs.«01_k».proof.Proof.RFrame
public import Idealize.ShloMosaic.Lib.StableHlo.RunClose

@[expose] public section

set_option maxRecDepth 16384

noncomputable section

namespace Cert.ReferenceIdeal.Trip

open Cert.ReferenceIdeal Cert.ReferenceIdeal.Gen Cert.ReferenceIdeal.Fold
open Idealize.ShloMosaic Idealize.ShloMosaic.TcCoe Idealize.ShloMosaic.StableHlo

variable {F : FTy → Type} [FloatOps F]
variable (X : Valuation τ sig (Elt F))

abbrev part0 : List (HloOp τ sig (Elt F)) :=
  [ StableHlo.nullary main_while0b_c_46 (constantI S_ 32 0#32),
    StableHlo.binary main_while0b_v103 main_while0b_c_46 main_while0b_v104 (cmpi .slt : (⟨S_, .i32⟩ : BufTy).Contents (Elt F) → (⟨S_, .i32⟩ : BufTy).Contents (Elt F) → (⟨S_, .i1⟩ : BufTy).Contents (Elt F)),
    StableHlo.nullary main_while0b_c_47 (constantI S_ 32 256#32),
    StableHlo.binary main_while0b_v103 main_while0b_c_47 main_while0b_v105 (addi : (⟨S_, .i32⟩ : BufTy).Contents (Elt F) → (⟨S_, .i32⟩ : BufTy).Contents (Elt F) → (⟨S_, .i32⟩ : BufTy).Contents (Elt F)),
    StableHlo.ternary main_while0b_v104 main_while0b_v105 main_while0b_v103 main_while0b_v106 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_48 (constantI S_ 32 0#32),
    StableHlo.nullary main_while0b_c_49 (constantI S_ 32 0#32),
    StableHlo.binary main_while0b_c_48 main_while0b_c_49 main_while0b_v107 (cmpi .slt : (⟨S_, .i32⟩ : BufTy).Contents (Elt F) → (⟨S_, .i32⟩ : BufTy).Contents (Elt F) → (⟨S_, .i1⟩ : BufTy).Contents (Elt F)),
    StableHlo.nullary main_while0b_c_50 (constantI S_ 32 0#32),
    StableHlo.nullary main_while0b_c_51 (constantI S_ 32 4#32),
    StableHlo.binary main_while0b_c_50 main_while0b_c_51 main_while0b_v108 (addi : (⟨S_, .i32⟩ : BufTy).Contents (Elt F) → (⟨S_, .i32⟩ : BufTy).Contents (Elt F) → (⟨S_, .i32⟩ : BufTy).Contents (Elt F)),
    StableHlo.nullary main_while0b_c_52 (constantI S_ 32 0#32),
    StableHlo.ternary main_while0b_v107 main_while0b_v108 main_while0b_c_52 main_while0b_v109 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_53 (constantI S_ 32 0#32),
    StableHlo.nullary main_while0b_c_54 (constantI S_ 32 0#32),
    StableHlo.binary main_while0b_c_53 main_while0b_c_54 main_while0b_v110 (cmpi .slt : (⟨S_, .i32⟩ : BufTy).Contents (Elt F) → (⟨S_, .i32⟩ : BufTy).Contents (Elt F) → (⟨S_, .i1⟩ : BufTy).Contents (Elt F)),
    StableHlo.nullary main_while0b_c_55 (constantI S_ 32 0#32),
    StableHlo.nullary main_while0b_c_56 (constantI S_ 32 64#32),
    StableHlo.binary main_while0b_c_55 main_while0b_c_56 main_while0b_v111 (addi : (⟨S_, .i32⟩ : BufTy).Contents (Elt F) → (⟨S_, .i32⟩ : BufTy).Contents (Elt F) → (⟨S_, .i32⟩ : BufTy).Contents (Elt F)),
    StableHlo.nullary main_while0b_c_57 (constantI S_ 32 0#32),
    StableHlo.ternary main_while0b_v110 main_while0b_v111 main_while0b_c_57 main_while0b_v112 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_58 (constantI S_ 32 0#32),
    StableHlo.nullary main_while0b_c_59 (constantI S_ 32 0#32),
    StableHlo.binary main_while0b_c_58 main_while0b_c_59 main_while0b_v113 (cmpi .slt : (⟨S_, .i32⟩ : BufTy).Contents (Elt F) → (⟨S_, .i32⟩ : BufTy).Contents (Elt F) → (⟨S_, .i1⟩ : BufTy).Contents (Elt F)),
    StableHlo.nullary main_while0b_c_60 (constantI S_ 32 0#32),
    StableHlo.nullary main_while0b_c_61 (constantI S_ 32 64#32),
    StableHlo.binary main_while0b_c_60 main_while0b_c_61 main_while0b_v114 (addi : (⟨S_, .i32⟩ : BufTy).Contents (Elt F) → (⟨S_, .i32⟩ : BufTy).Contents (Elt F) → (⟨S_, .i32⟩ : BufTy).Contents (Elt F)),
    StableHlo.nullary main_while0b_c_62 (constantI S_ 32 0#32),
    StableHlo.ternary main_while0b_v113 main_while0b_v114 main_while0b_c_62 main_while0b_v115 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v33_6 ![main_while0b_v106, main_while0b_v109, main_while0b_v112, main_while0b_v115] ⟨S_, .i32⟩ main_while0b_v116 ((fun x i => Host.dynamicSlice S1x4x64x64 x (fun k => (i k (Shape.Idx.first h_S_)).toInt) sliceFits_S256x4x64x64_S1x4x64x64) : (⟨S256x4x64x64, .f32⟩ : BufTy).Contents (Elt F) → (Fin 4 → (⟨S_, .i32⟩ : BufTy).Contents (Elt F)) → (⟨S1x4x64x64, .f32⟩ : BufTy).Contents (Elt F)),
    StableHlo.reshape main_while0b_v116 main_while0b_v117 (rfl : (.f32 : EltTy) = .f32) shapeCasts_S1x4x64x64_S4x64x64 ]
abbrev part0_W : List (Ref sig .tc) := [main_while0b_c_46, main_while0b_v104, main_while0b_c_47, main_while0b_v105, main_while0b_v106, main_while0b_c_48, main_while0b_c_49, main_while0b_v107, main_while0b_c_50, main_while0b_c_51, main_while0b_v108, main_while0b_c_52, main_while0b_v109, main_while0b_c_53, main_while0b_c_54, main_while0b_v110, main_while0b_c_55, main_while0b_c_56, main_while0b_v111, main_while0b_c_57, main_while0b_v112, main_while0b_c_58, main_while0b_c_59, main_while0b_v113, main_while0b_c_60, main_while0b_c_61, main_while0b_v114, main_while0b_c_62, main_while0b_v115, main_while0b_v116, main_while0b_v117]
theorem part0_writes : (part0 : List (HloOp τ sig (Elt F))).Forall fun op => op.writes ⊆ (part0_W.map (Proc.devRef (τ := τ) .tc)).toFinset :=
  forall_writes_sub_of_map rfl
abbrev part1 : List (HloOp τ sig (Elt F)) :=
  [ StableHlo.unary main_while0b_v117 main_while0b_v118 ((extractStridedSlice S3x64x64 ![0, 0, 0] · slices_S4x64x64_S3x64x64_0_0_0) : (⟨S4x64x64, .f32⟩ : BufTy).Contents (Elt F) → (⟨S3x64x64, .f32⟩ : BufTy).Contents (Elt F)),
    StableHlo.unary main_while0b_v117 main_while0b_v119 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_while0b_v119 main_while0b_v120 (rfl : (.f32 : EltTy) = .f32) shapeCasts_S1x64x64_S64x64,
    StableHlo.unary main_while0b_v120 main_while0b_v121 (broadcastInDim S1x64x64 ![1, 2] bcast_S64x64_S1x64x64_1_2 : (⟨S64x64, .f32⟩ : BufTy).Contents (Elt F) → (⟨S1x64x64, .f32⟩ : BufTy).Contents (Elt F)),
    StableHlo.unary main_while0b_v121 main_while0b_v122 (broadcastInDim S3x64x64 ![0, 1, 2] bcast_S1x64x64_S3x64x64_0_1_2 : (⟨S1x64x64, .f32⟩ : BufTy).Contents (Elt F) → (⟨S3x64x64, .f32⟩ : BufTy).Contents (Elt F)),
    StableHlo.nullary main_while0b_c_63 (constantI S_ 32 0#32),
    StableHlo.binary main_while0b_v49 main_while0b_c_63 main_while0b_v123 (cmpi .slt : (⟨S_, .i32⟩ : BufTy).Contents (Elt F) → (⟨S_, .i32⟩ : BufTy).Contents (Elt F) → (⟨S_, .i1⟩ : BufTy).Contents (Elt F)),
    StableHlo.nullary main_while0b_c_64 (constantI S_ 32 512#32),
    StableHlo.binary main_while0b_v49 main_while0b_c_64 main_while0b_v124 (addi : (⟨S_, .i32⟩ : BufTy).Contents (Elt F) → (⟨S_, .i32⟩ : BufTy).Contents (Elt F) → (⟨S_, .i32⟩ : BufTy).Contents (Elt F)),
    StableHlo.ternary main_while0b_v123 main_while0b_v124 main_while0b_v49 main_while0b_v125 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_65 (constantI S_ 32 0#32),
    StableHlo.binary main_while0b_v61 main_while0b_c_65 main_while0b_v126 (cmpi .slt : (⟨S_, .i32⟩ : BufTy).Contents (Elt F) → (⟨S_, .i32⟩ : BufTy).Contents (Elt F) → (⟨S_, .i1⟩ : BufTy).Contents (Elt F)),
    StableHlo.nullary main_while0b_c_66 (constantI S_ 32 512#32),
    StableHlo.binary main_while0b_v61 main_while0b_c_66 main_while0b_v127 (addi : (⟨S_, .i32⟩ : BufTy).Contents (Elt F) → (⟨S_, .i32⟩ : BufTy).Contents (Elt F) → (⟨S_, .i32⟩ : BufTy).Contents (Elt F)),
    StableHlo.ternary main_while0b_v126 main_while0b_v127 main_while0b_v61 main_while0b_v128 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_67 (constantI S_ 32 0#32),
    StableHlo.unaryIndexed main_v33_8 ![main_while0b_c_67, main_while0b_v125, main_while0b_v128] ⟨S_, .i32⟩ main_while0b_v129 ((fun x i => Host.dynamicSlice S4x64x64 x (fun k => (i k (Shape.Idx.first h_S_)).toInt) sliceFits_S4x512x512_S4x64x64) : (⟨S4x512x512, .f32⟩ : BufTy).Contents (Elt F) → (Fin 3 → (⟨S_, .i32⟩ : BufTy).Contents (Elt F)) → (⟨S4x64x64, .f32⟩ : BufTy).Contents (Elt F)),
    StableHlo.unary main_while0b_v129 main_while0b_v130 ((extractStridedSlice S3x64x64 ![0, 0, 0] · slices_S4x64x64_S3x64x64_0_0_0) : (⟨S4x64x64, .f32⟩ : BufTy).Contents (Elt F) → (⟨S3x64x64, .f32⟩ : BufTy).Contents (Elt F)),
    StableHlo.unary main_while0b_v129 main_while0b_v131 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_while0b_v131 main_while0b_v132 (rfl : (.f32 : EltTy) = .f32) shapeCasts_S1x64x64_S64x64,
    StableHlo.unary main_while0b_v132 main_while0b_v133 (broadcastInDim S1x64x64 ![1, 2] bcast_S64x64_S1x64x64_1_2 : (⟨S64x64, .f32⟩ : BufTy).Contents (Elt F) → (⟨S1x64x64, .f32⟩ : BufTy).Contents (Elt F)),
    StableHlo.unary main_while0b_v133 main_while0b_v134 (broadcastInDim S3x64x64 ![0, 1, 2] bcast_S1x64x64_S3x64x64_0_1_2 : (⟨S1x64x64, .f32⟩ : BufTy).Contents (Elt F) → (⟨S3x64x64, .f32⟩ : BufTy).Contents (Elt F)) ]
abbrev part1_W : List (Ref sig .tc) := [main_while0b_v118, main_while0b_v119, main_while0b_v120, main_while0b_v121, main_while0b_v122, main_while0b_c_63, main_while0b_v123, main_while0b_c_64, main_while0b_v124, main_while0b_v125, main_while0b_c_65, main_while0b_v126, main_while0b_c_66, main_while0b_v127, main_while0b_v128, main_while0b_c_67, main_while0b_v129, main_while0b_v130, main_while0b_v131, main_while0b_v132, main_while0b_v133, main_while0b_v134]
theorem part1_writes : (part1 : List (HloOp τ sig (Elt F))).Forall fun op => op.writes ⊆ (part1_W.map (Proc.devRef (τ := τ) .tc)).toFinset :=
  forall_writes_sub_of_map rfl
abbrev part2 : List (HloOp τ sig (Elt F)) :=
  [ StableHlo.nullary main_while0b_cst_68 (constant S_ .f32 0x3F800000#32),
    StableHlo.unary main_while0b_cst_68 main_while0b_v135 (broadcastInDim S3x64x64 ![] bcast_S_S3x64x64 : (⟨S_, .f32⟩ : BufTy).Contents (Elt F) → (⟨S3x64x64, .f32⟩ : BufTy).Contents (Elt F)),
    StableHlo.binary main_while0b_v135 main_while0b_v122 main_while0b_v136 (subf : (⟨S3x64x64, .f32⟩ : BufTy).Contents (Elt F) → (⟨S3x64x64, .f32⟩ : BufTy).Contents (Elt F) → (⟨S3x64x64, .f32⟩ : BufTy).Contents (Elt F)),
    StableHlo.binary main_while0b_v134 main_while0b_v136 main_while0b_v137 (mulf : (⟨S3x64x64, .f32⟩ : BufTy).Contents (Elt F) → (⟨S3x64x64, .f32⟩ : BufTy).Contents (Elt F) → (⟨S3x64x64, .f32⟩ : BufTy).Contents (Elt F)),
    StableHlo.binary main_while0b_v122 main_while0b_v137 main_while0b_v138 (addf : (⟨S3x64x64, .f32⟩ : BufTy).Contents (Elt F) → (⟨S3x64x64, .f32⟩ : BufTy).Contents (Elt F) → (⟨S3x64x64, .f32⟩ : BufTy).Contents (Elt F)),
    StableHlo.binary main_while0b_v118 main_while0b_v122 main_while0b_v139 (mulf : (⟨S3x64x64, .f32⟩ : BufTy).Contents (Elt F) → (⟨S3x64x64, .f32⟩ : BufTy).Contents (Elt F) → (⟨S3x64x64, .f32⟩ : BufTy).Contents (Elt F)),
    StableHlo.binary main_while0b_v130 main_while0b_v134 main_while0b_v140 (mulf : (⟨S3x64x64, .f32⟩ : BufTy).Contents (Elt F) → (⟨S3x64x64, .f32⟩ : BufTy).Contents (Elt F) → (⟨S3x64x64, .f32⟩ : BufTy).Contents (Elt F)),
    StableHlo.nullary main_while0b_cst_69 (constant S_ .f32 0x3F800000#32),
    StableHlo.unary main_while0b_cst_69 main_while0b_v141 (broadcastInDim S3x64x64 ![] bcast_S_S3x64x64 : (⟨S_, .f32⟩ : BufTy).Contents (Elt F) → (⟨S3x64x64, .f32⟩ : BufTy).Contents (Elt F)),
    StableHlo.binary main_while0b_v141 main_while0b_v122 main_while0b_v142 (subf : (⟨S3x64x64, .f32⟩ : BufTy).Contents (Elt F) → (⟨S3x64x64, .f32⟩ : BufTy).Contents (Elt F) → (⟨S3x64x64, .f32⟩ : BufTy).Contents (Elt F)),
    StableHlo.binary main_while0b_v140 main_while0b_v142 main_while0b_v143 (mulf : (⟨S3x64x64, .f32⟩ : BufTy).Contents (Elt F) → (⟨S3x64x64, .f32⟩ : BufTy).Contents (Elt F) → (⟨S3x64x64, .f32⟩ : BufTy).Contents (Elt F)),
    StableHlo.binary main_while0b_v139 main_while0b_v143 main_while0b_v144 (addf : (⟨S3x64x64, .f32⟩ : BufTy).Contents (Elt F) → (⟨S3x64x64, .f32⟩ : BufTy).Contents (Elt F) → (⟨S3x64x64, .f32⟩ : BufTy).Contents (Elt F)),
    StableHlo.binary main_while0b_v144 main_while0b_v138 main_while0b_v145 (Host.divf : (⟨S3x64x64, .f32⟩ : BufTy).Contents (Elt F) → (⟨S3x64x64, .f32⟩ : BufTy).Contents (Elt F) → (⟨S3x64x64, .f32⟩ : BufTy).Contents (Elt F)),
    StableHlo.unary main_while0b_v138 main_while0b_v146 ((extractStridedSlice S1x64x64 ![0, 0, 0] · slices_S3x64x64_S1x64x64_0_0_0) : (⟨S3x64x64, .f32⟩ : BufTy).Contents (Elt F) → (⟨S1x64x64, .f32⟩ : BufTy).Contents (Elt F)) ]
abbrev part2_W : List (Ref sig .tc) := [main_while0b_cst_68, main_while0b_v135, main_while0b_v136, main_while0b_v137, main_while0b_v138, main_while0b_v139, main_while0b_v140, main_while0b_cst_69, main_while0b_v141, main_while0b_v142, main_while0b_v143, main_while0b_v144, main_while0b_v145, main_while0b_v146]
theorem part2_writes : (part2 : List (HloOp τ sig (Elt F))).Forall fun op => op.writes ⊆ (part2_W.map (Proc.devRef (τ := τ) .tc)).toFinset :=
  forall_writes_sub_of_map rfl
abbrev part3 : List (HloOp τ sig (Elt F)) :=
  [ StableHlo.binary main_while0b_v145 main_while0b_v146 main_while0b_v147 ((fun a b => concatenate S4x64x64 0 [⟨S3x64x64, a⟩, ⟨S1x64x64, b⟩] concatenates_S3x64x64_S1x64x64_S4x64x64_d0) : (⟨S3x64x64, .f32⟩ : BufTy).Contents (Elt F) → (⟨S1x64x64, .f32⟩ : BufTy).Contents (Elt F) → (⟨S4x64x64, .f32⟩ : BufTy).Contents (Elt F)) ]
abbrev part3_W : List (Ref sig .tc) := [main_while0b_v147]
theorem part3_writes : (part3 : List (HloOp τ sig (Elt F))).Forall fun op => op.writes ⊆ (part3_W.map (Proc.devRef (τ := τ) .tc)).toFinset :=
  forall_writes_sub_of_map rfl
abbrev part4 : List (HloOp τ sig (Elt F)) :=
  [ StableHlo.nullary main_while0b_c_70 (constantI S_ 32 0#32),
    StableHlo.binary main_while0b_v49 main_while0b_c_70 main_while0b_v148 (cmpi .slt : (⟨S_, .i32⟩ : BufTy).Contents (Elt F) → (⟨S_, .i32⟩ : BufTy).Contents (Elt F) → (⟨S_, .i1⟩ : BufTy).Contents (Elt F)),
    StableHlo.nullary main_while0b_c_71 (constantI S_ 32 512#32),
    StableHlo.binary main_while0b_v49 main_while0b_c_71 main_while0b_v149 (addi : (⟨S_, .i32⟩ : BufTy).Contents (Elt F) → (⟨S_, .i32⟩ : BufTy).Contents (Elt F) → (⟨S_, .i32⟩ : BufTy).Contents (Elt F)),
    StableHlo.ternary main_while0b_v148 main_while0b_v149 main_while0b_v49 main_while0b_v150 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_72 (constantI S_ 32 0#32),
    StableHlo.binary main_while0b_v61 main_while0b_c_72 main_while0b_v151 (cmpi .slt : (⟨S_, .i32⟩ : BufTy).Contents (Elt F) → (⟨S_, .i32⟩ : BufTy).Contents (Elt F) → (⟨S_, .i1⟩ : BufTy).Contents (Elt F)),
    StableHlo.nullary main_while0b_c_73 (constantI S_ 32 512#32),
    StableHlo.binary main_while0b_v61 main_while0b_c_73 main_while0b_v152 (addi : (⟨S_, .i32⟩ : BufTy).Contents (Elt F) → (⟨S_, .i32⟩ : BufTy).Contents (Elt F) → (⟨S_, .i32⟩ : BufTy).Contents (Elt F)),
    StableHlo.ternary main_while0b_v151 main_while0b_v152 main_while0b_v61 main_while0b_v153 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_74 (constantI S_ 32 0#32),
    StableHlo.binaryIndexed main_v33_8 main_while0b_v147 ![main_while0b_c_74, main_while0b_v150, main_while0b_v153] ⟨S_, .i32⟩ main_while0b_v154 ((fun x u i => Host.dynamicUpdateSlice x u (fun k => (i k (Shape.Idx.first h_S_)).toInt) updateFits_S4x512x512_S4x64x64) : (⟨S4x512x512, .f32⟩ : BufTy).Contents (Elt F) → (⟨S4x64x64, .f32⟩ : BufTy).Contents (Elt F) → (Fin 3 → (⟨S_, .i32⟩ : BufTy).Contents (Elt F)) → (⟨S4x512x512, .f32⟩ : BufTy).Contents (Elt F)) ]
abbrev part4_W : List (Ref sig .tc) := [main_while0b_c_70, main_while0b_v148, main_while0b_c_71, main_while0b_v149, main_while0b_v150, main_while0b_c_72, main_while0b_v151, main_while0b_c_73, main_while0b_v152, main_while0b_v153, main_while0b_c_74, main_while0b_v154]
theorem part4_writes : (part4 : List (HloOp τ sig (Elt F))).Forall fun op => op.writes ⊆ (part4_W.map (Proc.devRef (τ := τ) .tc)).toFinset :=
  forall_writes_sub_of_map rfl
theorem parts (V : Valuation τ sig (Elt F)) : after body11 V = after part4 (after part3 (after part2 (after part1 (after part0 V)))) := by
  rw [← after_append, ← after_append, ← after_append, ← after_append]
  rfl
def at0 : Valuation τ sig (Elt F) := X
def at1 : Valuation τ sig (Elt F) := after body0 (at0 X)
def at2 : Valuation τ sig (Elt F) := after body1 (at1 X)
def at3 : Valuation τ sig (Elt F) := after body2 (at2 X)
def at4 : Valuation τ sig (Elt F) := after body3 (at3 X)
def at5 : Valuation τ sig (Elt F) := after body4 (at4 X)
def at6 : Valuation τ sig (Elt F) := after body5 (at5 X)
def at7 : Valuation τ sig (Elt F) := after body6 (at6 X)
def at8 : Valuation τ sig (Elt F) := after body7 (at7 X)
def at9 : Valuation τ sig (Elt F) := after body8 (at8 X)
def at10 : Valuation τ sig (Elt F) := after body9 (at9 X)
def at11 : Valuation τ sig (Elt F) := after body10 (at10 X)
def at12 : Valuation τ sig (Elt F) := after part0 (at11 X)
def at13 : Valuation τ sig (Elt F) := after part1 (at12 X)
def at14 : Valuation τ sig (Elt F) := after part2 (at13 X)
def at15 : Valuation τ sig (Elt F) := after part3 (at14 X)
def at16 : Valuation τ sig (Elt F) := after part4 (at15 X)
def at17 : Valuation τ sig (Elt F) := after body12 (at16 X)
theorem end_at (b : Ref sig .tc) : inner X (Proc.devRef .tc b) = at17 X (Proc.devRef .tc b) := by
  unfold inner
  rw [parts]
  rfl
abbrev T17 : List (Ref sig .tc) := []
theorem keep17 (b : Ref sig .tc) (h : b ∉ T17) : at17 X (Proc.devRef .tc b) = inner X (Proc.devRef .tc b) := (end_at X b).symm
abbrev T16 : List (Ref sig .tc) := body12_W ++ T17
theorem keep16 (b : Ref sig .tc) (h : b ∉ T16) : at16 X (Proc.devRef .tc b) = inner X (Proc.devRef .tc b) :=
  (after_of_writes_sub _ _ body12_writes (fun hb => h (List.mem_append_left _ hb))).symm.trans (keep17 X b fun hb => h (List.mem_append_right _ hb))
abbrev T15 : List (Ref sig .tc) := part4_W ++ T16
theorem keep15 (b : Ref sig .tc) (h : b ∉ T15) : at15 X (Proc.devRef .tc b) = inner X (Proc.devRef .tc b) :=
  (after_of_writes_sub _ _ part4_writes (fun hb => h (List.mem_append_left _ hb))).symm.trans (keep16 X b fun hb => h (List.mem_append_right _ hb))
abbrev T14 : List (Ref sig .tc) := part3_W ++ T15
theorem keep14 (b : Ref sig .tc) (h : b ∉ T14) : at14 X (Proc.devRef .tc b) = inner X (Proc.devRef .tc b) :=
  (after_of_writes_sub _ _ part3_writes (fun hb => h (List.mem_append_left _ hb))).symm.trans (keep15 X b fun hb => h (List.mem_append_right _ hb))
abbrev T13 : List (Ref sig .tc) := part2_W ++ T14
theorem keep13 (b : Ref sig .tc) (h : b ∉ T13) : at13 X (Proc.devRef .tc b) = inner X (Proc.devRef .tc b) :=
  (after_of_writes_sub _ _ part2_writes (fun hb => h (List.mem_append_left _ hb))).symm.trans (keep14 X b fun hb => h (List.mem_append_right _ hb))
abbrev T12 : List (Ref sig .tc) := part1_W ++ T13
theorem keep12 (b : Ref sig .tc) (h : b ∉ T12) : at12 X (Proc.devRef .tc b) = inner X (Proc.devRef .tc b) :=
  (after_of_writes_sub _ _ part1_writes (fun hb => h (List.mem_append_left _ hb))).symm.trans (keep13 X b fun hb => h (List.mem_append_right _ hb))
abbrev T11 : List (Ref sig .tc) := part0_W ++ T12
theorem keep11 (b : Ref sig .tc) (h : b ∉ T11) : at11 X (Proc.devRef .tc b) = inner X (Proc.devRef .tc b) :=
  (after_of_writes_sub _ _ part0_writes (fun hb => h (List.mem_append_left _ hb))).symm.trans (keep12 X b fun hb => h (List.mem_append_right _ hb))
abbrev T10 : List (Ref sig .tc) := body10_W ++ T11
theorem keep10 (b : Ref sig .tc) (h : b ∉ T10) : at10 X (Proc.devRef .tc b) = inner X (Proc.devRef .tc b) :=
  (after_of_writes_sub _ _ body10_writes (fun hb => h (List.mem_append_left _ hb))).symm.trans (keep11 X b fun hb => h (List.mem_append_right _ hb))
abbrev T9 : List (Ref sig .tc) := body9_W ++ T10
theorem keep9 (b : Ref sig .tc) (h : b ∉ T9) : at9 X (Proc.devRef .tc b) = inner X (Proc.devRef .tc b) :=
  (after_of_writes_sub _ _ body9_writes (fun hb => h (List.mem_append_left _ hb))).symm.trans (keep10 X b fun hb => h (List.mem_append_right _ hb))
abbrev T8 : List (Ref sig .tc) := body8_W ++ T9
theorem keep8 (b : Ref sig .tc) (h : b ∉ T8) : at8 X (Proc.devRef .tc b) = inner X (Proc.devRef .tc b) :=
  (after_of_writes_sub _ _ body8_writes (fun hb => h (List.mem_append_left _ hb))).symm.trans (keep9 X b fun hb => h (List.mem_append_right _ hb))
abbrev T7 : List (Ref sig .tc) := body7_W ++ T8
theorem keep7 (b : Ref sig .tc) (h : b ∉ T7) : at7 X (Proc.devRef .tc b) = inner X (Proc.devRef .tc b) :=
  (after_of_writes_sub _ _ body7_writes (fun hb => h (List.mem_append_left _ hb))).symm.trans (keep8 X b fun hb => h (List.mem_append_right _ hb))
abbrev T6 : List (Ref sig .tc) := body6_W ++ T7
theorem keep6 (b : Ref sig .tc) (h : b ∉ T6) : at6 X (Proc.devRef .tc b) = inner X (Proc.devRef .tc b) :=
  (after_of_writes_sub _ _ body6_writes (fun hb => h (List.mem_append_left _ hb))).symm.trans (keep7 X b fun hb => h (List.mem_append_right _ hb))
abbrev T5 : List (Ref sig .tc) := body5_W ++ T6
theorem keep5 (b : Ref sig .tc) (h : b ∉ T5) : at5 X (Proc.devRef .tc b) = inner X (Proc.devRef .tc b) :=
  (after_of_writes_sub _ _ body5_writes (fun hb => h (List.mem_append_left _ hb))).symm.trans (keep6 X b fun hb => h (List.mem_append_right _ hb))
abbrev T4 : List (Ref sig .tc) := body4_W ++ T5
theorem keep4 (b : Ref sig .tc) (h : b ∉ T4) : at4 X (Proc.devRef .tc b) = inner X (Proc.devRef .tc b) :=
  (after_of_writes_sub _ _ body4_writes (fun hb => h (List.mem_append_left _ hb))).symm.trans (keep5 X b fun hb => h (List.mem_append_right _ hb))
abbrev T3 : List (Ref sig .tc) := body3_W ++ T4
theorem keep3 (b : Ref sig .tc) (h : b ∉ T3) : at3 X (Proc.devRef .tc b) = inner X (Proc.devRef .tc b) :=
  (after_of_writes_sub _ _ body3_writes (fun hb => h (List.mem_append_left _ hb))).symm.trans (keep4 X b fun hb => h (List.mem_append_right _ hb))
abbrev T2 : List (Ref sig .tc) := body2_W ++ T3
theorem keep2 (b : Ref sig .tc) (h : b ∉ T2) : at2 X (Proc.devRef .tc b) = inner X (Proc.devRef .tc b) :=
  (after_of_writes_sub _ _ body2_writes (fun hb => h (List.mem_append_left _ hb))).symm.trans (keep3 X b fun hb => h (List.mem_append_right _ hb))
abbrev T1 : List (Ref sig .tc) := body1_W ++ T2
theorem keep1 (b : Ref sig .tc) (h : b ∉ T1) : at1 X (Proc.devRef .tc b) = inner X (Proc.devRef .tc b) :=
  (after_of_writes_sub _ _ body1_writes (fun hb => h (List.mem_append_left _ hb))).symm.trans (keep2 X b fun hb => h (List.mem_append_right _ hb))
abbrev T0 : List (Ref sig .tc) := body0_W ++ T1
theorem keep0 (b : Ref sig .tc) (h : b ∉ T0) : at0 X (Proc.devRef .tc b) = inner X (Proc.devRef .tc b) :=
  (after_of_writes_sub _ _ body0_writes (fun hb => h (List.mem_append_left _ hb))).symm.trans (keep1 X b fun hb => h (List.mem_append_right _ hb))

open Cert.Spec (half inside)

/-- A slice started at given numbers, by shape. -/
def sl1 (x : IVec S512 32) (i : Int) : IVec S1 32 := Host.dynamicSlice S1 x ![i] sliceFits_S512_S1
def sl2 (x : FVec F S512x256 .f32) (i j : Int) : FVec F S1x256 .f32 := Host.dynamicSlice S1x256 x ![i, j] sliceFits_S512x256_S1x256
def sl3 (x : FVec F S4x512x512 .f32) (i j k : Int) : FVec F S4x64x64 .f32 := Host.dynamicSlice S4x64x64 x ![i, j, k] sliceFits_S4x512x512_S4x64x64
def sl4 (x : FVec F S256x4x64x64 .f32) (i j k l : Int) : FVec F S1x4x64x64 .f32 := Host.dynamicSlice S1x4x64x64 x ![i, j, k, l] sliceFits_S256x4x64x64_S1x4x64x64
def up3 (x : FVec F S4x512x512 .f32) (u : FVec F S4x64x64 .f32) (i j k : Int) : FVec F S4x512x512 .f32 := Host.dynamicUpdateSlice x u ![i, j, k] updateFits_S4x512x512_S4x64x64

theorem sl1_of (x : IVec S512 32) (s : Fin 1 → Int) (h) : Host.dynamicSlice S1 x s h = sl1 x (s 0) :=
  congrArg (fun t => Host.dynamicSlice S1 x t h) (funext fun k : Fin 1 => by fin_cases k; rfl)
theorem sl2_of (x : FVec F S512x256 .f32) (s : Fin 2 → Int) (h) : Host.dynamicSlice S1x256 x s h = sl2 x (s 0) (s 1) :=
  congrArg (fun t => Host.dynamicSlice S1x256 x t h) (funext fun k : Fin 2 => by fin_cases k <;> rfl)
theorem sl3_of (x : FVec F S4x512x512 .f32) (s : Fin 3 → Int) (h) : Host.dynamicSlice S4x64x64 x s h = sl3 x (s 0) (s 1) (s 2) :=
  congrArg (fun t => Host.dynamicSlice S4x64x64 x t h) (funext fun k : Fin 3 => by fin_cases k <;> rfl)
theorem sl4_of (x : FVec F S256x4x64x64 .f32) (s : Fin 4 → Int) (h) : Host.dynamicSlice S1x4x64x64 x s h = sl4 x (s 0) (s 1) (s 2) (s 3) :=
  congrArg (fun t => Host.dynamicSlice S1x4x64x64 x t h) (funext fun k : Fin 4 => by fin_cases k <;> rfl)
theorem up3_of (x : FVec F S4x512x512 .f32) (u : FVec F S4x64x64 .f32) (s : Fin 3 → Int) (h) : Host.dynamicUpdateSlice x u s h = up3 x u (s 0) (s 1) (s 2) :=
  congrArg (fun t => Host.dynamicUpdateSlice x u t h) (funext fun k : Fin 3 => by fin_cases k <;> rfl)

/-- The number a scalar holds. -/
abbrev num (i : IVec S_ 32) : Int := (i (Shape.Idx.first h_S_)).toInt
/-- A number read from the end when negative. -/
abbrev wrap (i : IVec S_ 32) (n : BitVec 32) : IVec S_ 32 := select (cmpi .slt i (constantI S_ 32 0#32)) (addi i (constantI S_ 32 n)) i
/-- The entry of a list at a place. -/
abbrev pick (x : IVec S512 32) (i : IVec S_ 32) : IVec S_ 32 :=
  shapeCast S_ (sl1 x (num i)) shapeCasts_S1_S_
/-- A number that is zero, as the program writes it. -/
abbrev none_ (n : BitVec 32) : IVec S_ 32 :=
  select (cmpi .slt (constantI S_ 32 0#32) (constantI S_ 32 0#32)) (addi (constantI S_ 32 0#32) (constantI S_ 32 n)) (constantI S_ 32 0#32)
/-- The scores of the row at a place. -/
abbrev scoreRow (x : FVec F S512x256 .f32) (i : IVec S_ 32) : FVec F S256 .f32 :=
  shapeCast S256 (sl2 x (num i) (num (none_ 256#32))) shapeCasts_S1x256_S256
/-- The sprite of the greatest score. -/
abbrev bestOf (x : FVec F S256 .f32) : IVec S_ 32 := fun j =>
  (Host.argReduce reducer_argmax_f32_i32 x (iotaInDim S256 32 0) (constant S_ .f32 0xFF800000#32) (constantI S_ 32 0#32) reducesTo_S256_S_d0 h_S_ j).2
/-- A sprite. -/
abbrev spriteOf (x : FVec F S256x4x64x64 .f32) (i : IVec S_ 32) : FVec F S4x64x64 .f32 :=
  shapeCast S4x64x64 (sl4 x (num (wrap i 256#32)) (num (none_ 4#32)) (num (none_ 64#32)) (num (none_ 64#32))) shapeCasts_S1x4x64x64_S4x64x64
/-- The part of the picture under a sprite. -/
abbrev under (img : FVec F S4x512x512 .f32) (x y : IVec S_ 32) : FVec F S4x64x64 .f32 :=
  sl3 img (num (constantI S_ 32 0#32)) (num (wrap x 512#32)) (num (wrap y 512#32))
/-- The opacity, three times. -/
abbrev alpha (p : FVec F S4x64x64 .f32) : FVec F S3x64x64 .f32 :=
  broadcastInDim S3x64x64 ![0, 1, 2] bcast_S1x64x64_S3x64x64_0_1_2 (broadcastInDim S1x64x64 ![1, 2] bcast_S64x64_S1x64x64_1_2
    (shapeCast S64x64 (extractStridedSlice S1x64x64 ![3, 0, 0] p slices_S4x64x64_S1x64x64_3_0_0) shapeCasts_S1x64x64_S64x64))
/-- Colours and opacities put over others. -/
abbrev rest (a : FVec F S3x64x64 .f32) : FVec F S3x64x64 .f32 := subf (broadcastInDim S3x64x64 ![] bcast_S_S3x64x64 (constant S_ .f32 0x3F800000#32)) a
abbrev alpha0 (a b : FVec F S3x64x64 .f32) : FVec F S3x64x64 .f32 := addf a (mulf b (rest a))
abbrev mixRgb (p a q b : FVec F S3x64x64 .f32) : FVec F S3x64x64 .f32 := Host.divf (addf (mulf p a) (mulf (mulf q b) (rest a))) (alpha0 a b)
def joined (p : FVec F S3x64x64 .f32) (a : FVec F S1x64x64 .f32) : FVec F S4x64x64 .f32 :=
  concatenate S4x64x64 0 [⟨S3x64x64, p⟩, ⟨S1x64x64, a⟩] concatenates_S3x64x64_S1x64x64_S4x64x64_d0
abbrev mixOf (p a q b : FVec F S3x64x64 .f32) : FVec F S4x64x64 .f32 :=
  joined (mixRgb p a q b) (extractStridedSlice S1x64x64 ![0, 0, 0] (alpha0 a b) slices_S3x64x64_S1x64x64_0_0_0)
/-- A sprite over what is under it. -/
abbrev mixed (p q : FVec F S4x64x64 .f32) : FVec F S4x64x64 .f32 :=
  mixOf (extractStridedSlice S3x64x64 ![0, 0, 0] p slices_S4x64x64_S3x64x64_0_0_0) (alpha p) (extractStridedSlice S3x64x64 ![0, 0, 0] q slices_S4x64x64_S3x64x64_0_0_0) (alpha q)
/-- The picture with a part replaced. -/
abbrev put (img : FVec F S4x512x512 .f32) (u : FVec F S4x64x64 .f32) (x y : IVec S_ 32) : FVec F S4x512x512 .f32 :=
  up3 img u (num (constantI S_ 32 0#32)) (num (wrap x 512#32)) (num (wrap y 512#32))

/-- Half of a number, by a named divisor. -/
abbrev halved (x d : IVec S_ 32) : IVec S_ 32 :=
  select (andi (cmpi .ne (signi x) (signi d)) (cmpi .ne (Host.remsi x d) (constantI S_ 32 0#32))) (subi (Host.divsi x d) (constantI S_ 32 1#32)) (Host.divsi x d)

theorem v37_eq : inner X main_while0b_v37 = pick (inner X main_v33_0) (inner X main_v33_7) := by
  refine (keep1 X main_while0b_v37 (by decide)).symm.trans ?_
  unfold at1
  after_results_simp
  all_goals try simp only [TRef.ofBuf, TRef.toBuf, cast_cast, cast_eq, id]
  all_goals simp only [sl1_of, sl2_of, sl3_of, sl4_of, up3_of]
  all_goals simp only [Matrix.cons_val]
  all_goals try after_results_simp
  all_goals try simp only [TRef.ofBuf, TRef.toBuf, cast_cast, cast_eq, id]
  all_goals simp only [keep0 X main_v33_0 (by decide), keep0 X main_v33_7 (by decide)]
  all_goals generalize inner X (Proc.devRef .tc main_v33_0) = a0
  all_goals generalize inner X (Proc.devRef .tc main_v33_7) = a1
  all_goals rfl
theorem v42_eq : inner X main_while0b_v42 = pick (inner X main_v33_1) (wrap (inner X main_while0b_v37) 512#32) := by
  refine (keep2 X main_while0b_v42 (by decide)).symm.trans ?_
  unfold at2
  after_results_simp
  all_goals try simp only [TRef.ofBuf, TRef.toBuf, cast_cast, cast_eq, id]
  all_goals simp only [sl1_of, sl2_of, sl3_of, sl4_of, up3_of]
  all_goals simp only [Matrix.cons_val]
  all_goals try after_results_simp
  all_goals try simp only [TRef.ofBuf, TRef.toBuf, cast_cast, cast_eq, id]
  all_goals simp only [keep1 X main_v33_1 (by decide), keep1 X main_while0b_v37 (by decide)]
  all_goals generalize inner X (Proc.devRef .tc main_v33_1) = a0
  all_goals generalize inner X (Proc.devRef .tc main_while0b_v37) = a1
  all_goals rfl
theorem v47_eq : inner X main_while0b_v47 = pick (inner X main_v33_2) (wrap (inner X main_while0b_v37) 512#32) := by
  refine (keep2 X main_while0b_v47 (by decide)).symm.trans ?_
  unfold at2
  after_results_simp
  all_goals try simp only [TRef.ofBuf, TRef.toBuf, cast_cast, cast_eq, id]
  all_goals simp only [sl1_of, sl2_of, sl3_of, sl4_of, up3_of]
  all_goals simp only [Matrix.cons_val]
  all_goals try after_results_simp
  all_goals try simp only [TRef.ofBuf, TRef.toBuf, cast_cast, cast_eq, id]
  all_goals simp only [keep1 X main_v33_2 (by decide), keep1 X main_while0b_v37 (by decide)]
  all_goals generalize inner X (Proc.devRef .tc main_v33_2) = a0
  all_goals generalize inner X (Proc.devRef .tc main_while0b_v37) = a1
  all_goals rfl
theorem c_17_eq : inner X main_while0b_c_17 = constantI S_ 32 2#32 := by
  refine (keep2 X main_while0b_c_17 (by decide)).symm.trans ?_
  unfold at2
  after_results_simp
  all_goals try simp only [TRef.ofBuf, TRef.toBuf, cast_cast, cast_eq, id]
  all_goals rfl
theorem v48_eq : inner X main_while0b_v48 = halved (inner X main_while0b_v47) (inner X main_while0b_c_17) := by
  refine (keep3 X main_while0b_v48 (by decide)).symm.trans ?_
  unfold at3
  after_results_simp
  all_goals try simp only [TRef.ofBuf, TRef.toBuf, cast_cast, cast_eq, id]
  all_goals simp only [keep2 X main_while0b_v47 (by decide), keep2 X main_while0b_c_17 (by decide)]
  all_goals generalize inner X (Proc.devRef .tc main_while0b_v47) = a0
  all_goals generalize inner X (Proc.devRef .tc main_while0b_c_17) = a1
  all_goals rfl
theorem v49_eq : inner X main_while0b_v49 = subi (inner X main_while0b_v42) (inner X main_while0b_v48) := by
  refine (keep4 X main_while0b_v49 (by decide)).symm.trans ?_
  unfold at4
  after_results_simp
  all_goals try simp only [TRef.ofBuf, TRef.toBuf, cast_cast, cast_eq, id]
  all_goals simp only [keep3 X main_while0b_v42 (by decide), keep3 X main_while0b_v48 (by decide)]
  all_goals generalize inner X (Proc.devRef .tc main_while0b_v42) = a0
  all_goals generalize inner X (Proc.devRef .tc main_while0b_v48) = a1
  all_goals rfl
theorem v54_eq : inner X main_while0b_v54 = pick (inner X main_v33_3) (wrap (inner X main_while0b_v37) 512#32) := by
  refine (keep4 X main_while0b_v54 (by decide)).symm.trans ?_
  unfold at4
  after_results_simp
  all_goals try simp only [TRef.ofBuf, TRef.toBuf, cast_cast, cast_eq, id]
  all_goals simp only [sl1_of, sl2_of, sl3_of, sl4_of, up3_of]
  all_goals simp only [Matrix.cons_val]
  all_goals try after_results_simp
  all_goals try simp only [TRef.ofBuf, TRef.toBuf, cast_cast, cast_eq, id]
  all_goals simp only [keep3 X main_v33_3 (by decide), keep3 X main_while0b_v37 (by decide)]
  all_goals generalize inner X (Proc.devRef .tc main_v33_3) = a0
  all_goals generalize inner X (Proc.devRef .tc main_while0b_v37) = a1
  all_goals rfl
theorem v59_eq : inner X main_while0b_v59 = pick (inner X main_v33_4) (wrap (inner X main_while0b_v37) 512#32) := by
  refine (keep4 X main_while0b_v59 (by decide)).symm.trans ?_
  unfold at4
  after_results_simp
  all_goals try simp only [TRef.ofBuf, TRef.toBuf, cast_cast, cast_eq, id]
  all_goals simp only [sl1_of, sl2_of, sl3_of, sl4_of, up3_of]
  all_goals simp only [Matrix.cons_val]
  all_goals try after_results_simp
  all_goals try simp only [TRef.ofBuf, TRef.toBuf, cast_cast, cast_eq, id]
  all_goals simp only [keep3 X main_v33_4 (by decide), keep3 X main_while0b_v37 (by decide)]
  all_goals generalize inner X (Proc.devRef .tc main_v33_4) = a0
  all_goals generalize inner X (Proc.devRef .tc main_while0b_v37) = a1
  all_goals rfl
theorem c_22_eq : inner X main_while0b_c_22 = constantI S_ 32 2#32 := by
  refine (keep4 X main_while0b_c_22 (by decide)).symm.trans ?_
  unfold at4
  after_results_simp
  all_goals try simp only [TRef.ofBuf, TRef.toBuf, cast_cast, cast_eq, id]
  all_goals rfl
theorem v60_eq : inner X main_while0b_v60 = halved (inner X main_while0b_v59) (inner X main_while0b_c_22) := by
  refine (keep5 X main_while0b_v60 (by decide)).symm.trans ?_
  unfold at5
  after_results_simp
  all_goals try simp only [TRef.ofBuf, TRef.toBuf, cast_cast, cast_eq, id]
  all_goals simp only [keep4 X main_while0b_v59 (by decide), keep4 X main_while0b_c_22 (by decide)]
  all_goals generalize inner X (Proc.devRef .tc main_while0b_v59) = a0
  all_goals generalize inner X (Proc.devRef .tc main_while0b_c_22) = a1
  all_goals rfl
theorem v61_eq : inner X main_while0b_v61 = subi (inner X main_while0b_v54) (inner X main_while0b_v60) := by
  refine (keep6 X main_while0b_v61 (by decide)).symm.trans ?_
  unfold at6
  after_results_simp
  all_goals try simp only [TRef.ofBuf, TRef.toBuf, cast_cast, cast_eq, id]
  all_goals simp only [keep5 X main_while0b_v54 (by decide), keep5 X main_while0b_v60 (by decide)]
  all_goals generalize inner X (Proc.devRef .tc main_while0b_v54) = a0
  all_goals generalize inner X (Proc.devRef .tc main_while0b_v60) = a1
  all_goals rfl
theorem v66_eq : inner X main_while0b_v66 = pick (inner X main_v33_1) (wrap (inner X main_while0b_v37) 512#32) := by
  refine (keep6 X main_while0b_v66 (by decide)).symm.trans ?_
  unfold at6
  after_results_simp
  all_goals try simp only [TRef.ofBuf, TRef.toBuf, cast_cast, cast_eq, id]
  all_goals simp only [sl1_of, sl2_of, sl3_of, sl4_of, up3_of]
  all_goals simp only [Matrix.cons_val]
  all_goals try after_results_simp
  all_goals try simp only [TRef.ofBuf, TRef.toBuf, cast_cast, cast_eq, id]
  all_goals simp only [keep5 X main_v33_1 (by decide), keep5 X main_while0b_v37 (by decide)]
  all_goals generalize inner X (Proc.devRef .tc main_v33_1) = a0
  all_goals generalize inner X (Proc.devRef .tc main_while0b_v37) = a1
  all_goals rfl
theorem v72_eq : inner X main_while0b_v72 = addi (pick (inner X main_v33_2) (wrap (inner X main_while0b_v37) 512#32)) (constantI S_ 32 1#32) := by
  refine (keep6 X main_while0b_v72 (by decide)).symm.trans ?_
  unfold at6
  after_results_simp
  all_goals try simp only [TRef.ofBuf, TRef.toBuf, cast_cast, cast_eq, id]
  all_goals simp only [sl1_of, sl2_of, sl3_of, sl4_of, up3_of]
  all_goals simp only [Matrix.cons_val]
  all_goals try after_results_simp
  all_goals try simp only [TRef.ofBuf, TRef.toBuf, cast_cast, cast_eq, id]
  all_goals simp only [keep5 X main_v33_2 (by decide), keep5 X main_while0b_v37 (by decide)]
  all_goals generalize inner X (Proc.devRef .tc main_v33_2) = a0
  all_goals generalize inner X (Proc.devRef .tc main_while0b_v37) = a1
  all_goals rfl
theorem c_28_eq : inner X main_while0b_c_28 = constantI S_ 32 2#32 := by
  refine (keep6 X main_while0b_c_28 (by decide)).symm.trans ?_
  unfold at6
  after_results_simp
  all_goals try simp only [TRef.ofBuf, TRef.toBuf, cast_cast, cast_eq, id]
  all_goals rfl
theorem v73_eq : inner X main_while0b_v73 = halved (inner X main_while0b_v72) (inner X main_while0b_c_28) := by
  refine (keep7 X main_while0b_v73 (by decide)).symm.trans ?_
  unfold at7
  after_results_simp
  all_goals try simp only [TRef.ofBuf, TRef.toBuf, cast_cast, cast_eq, id]
  all_goals simp only [keep6 X main_while0b_v72 (by decide), keep6 X main_while0b_c_28 (by decide)]
  all_goals generalize inner X (Proc.devRef .tc main_while0b_v72) = a0
  all_goals generalize inner X (Proc.devRef .tc main_while0b_c_28) = a1
  all_goals rfl
theorem v74_eq : inner X main_while0b_v74 = addi (inner X main_while0b_v66) (inner X main_while0b_v73) := by
  refine (keep8 X main_while0b_v74 (by decide)).symm.trans ?_
  unfold at8
  after_results_simp
  all_goals try simp only [TRef.ofBuf, TRef.toBuf, cast_cast, cast_eq, id]
  all_goals simp only [keep7 X main_while0b_v66 (by decide), keep7 X main_while0b_v73 (by decide)]
  all_goals generalize inner X (Proc.devRef .tc main_while0b_v66) = a0
  all_goals generalize inner X (Proc.devRef .tc main_while0b_v73) = a1
  all_goals rfl
theorem v79_eq : inner X main_while0b_v79 = pick (inner X main_v33_3) (wrap (inner X main_while0b_v37) 512#32) := by
  refine (keep8 X main_while0b_v79 (by decide)).symm.trans ?_
  unfold at8
  after_results_simp
  all_goals try simp only [TRef.ofBuf, TRef.toBuf, cast_cast, cast_eq, id]
  all_goals simp only [sl1_of, sl2_of, sl3_of, sl4_of, up3_of]
  all_goals simp only [Matrix.cons_val]
  all_goals try after_results_simp
  all_goals try simp only [TRef.ofBuf, TRef.toBuf, cast_cast, cast_eq, id]
  all_goals simp only [keep7 X main_v33_3 (by decide), keep7 X main_while0b_v37 (by decide)]
  all_goals generalize inner X (Proc.devRef .tc main_v33_3) = a0
  all_goals generalize inner X (Proc.devRef .tc main_while0b_v37) = a1
  all_goals rfl
theorem v85_eq : inner X main_while0b_v85 = addi (pick (inner X main_v33_4) (wrap (inner X main_while0b_v37) 512#32)) (constantI S_ 32 1#32) := by
  refine (keep8 X main_while0b_v85 (by decide)).symm.trans ?_
  unfold at8
  after_results_simp
  all_goals try simp only [TRef.ofBuf, TRef.toBuf, cast_cast, cast_eq, id]
  all_goals simp only [sl1_of, sl2_of, sl3_of, sl4_of, up3_of]
  all_goals simp only [Matrix.cons_val]
  all_goals try after_results_simp
  all_goals try simp only [TRef.ofBuf, TRef.toBuf, cast_cast, cast_eq, id]
  all_goals simp only [keep7 X main_v33_4 (by decide), keep7 X main_while0b_v37 (by decide)]
  all_goals generalize inner X (Proc.devRef .tc main_v33_4) = a0
  all_goals generalize inner X (Proc.devRef .tc main_while0b_v37) = a1
  all_goals rfl
theorem c_34_eq : inner X main_while0b_c_34 = constantI S_ 32 2#32 := by
  refine (keep8 X main_while0b_c_34 (by decide)).symm.trans ?_
  unfold at8
  after_results_simp
  all_goals try simp only [TRef.ofBuf, TRef.toBuf, cast_cast, cast_eq, id]
  all_goals rfl
theorem v86_eq : inner X main_while0b_v86 = halved (inner X main_while0b_v85) (inner X main_while0b_c_34) := by
  refine (keep9 X main_while0b_v86 (by decide)).symm.trans ?_
  unfold at9
  after_results_simp
  all_goals try simp only [TRef.ofBuf, TRef.toBuf, cast_cast, cast_eq, id]
  all_goals simp only [keep8 X main_while0b_v85 (by decide), keep8 X main_while0b_c_34 (by decide)]
  all_goals generalize inner X (Proc.devRef .tc main_while0b_v85) = a0
  all_goals generalize inner X (Proc.devRef .tc main_while0b_c_34) = a1
  all_goals rfl
theorem v94_eq : inner X main_while0b_v94 = inside (inner X main_while0b_v49) (inner X main_while0b_v61) (inner X main_while0b_v74) (addi (inner X main_while0b_v79) (inner X main_while0b_v86)) := by
  refine (keep10 X main_while0b_v94 (by decide)).symm.trans ?_
  unfold at10
  after_results_simp
  all_goals try simp only [TRef.ofBuf, TRef.toBuf, cast_cast, cast_eq, id]
  all_goals simp only [keep9 X main_while0b_v49 (by decide), keep9 X main_while0b_v61 (by decide), keep9 X main_while0b_v74 (by decide), keep9 X main_while0b_v79 (by decide), keep9 X main_while0b_v86 (by decide)]
  all_goals generalize inner X (Proc.devRef .tc main_while0b_v49) = a0
  all_goals generalize inner X (Proc.devRef .tc main_while0b_v61) = a1
  all_goals generalize inner X (Proc.devRef .tc main_while0b_v74) = a2
  all_goals generalize inner X (Proc.devRef .tc main_while0b_v79) = a3
  all_goals generalize inner X (Proc.devRef .tc main_while0b_v86) = a4
  all_goals rfl
theorem v102_eq : inner X main_while0b_v102 = scoreRow (inner X main_v33_5) (wrap (inner X main_while0b_v37) 512#32) := by
  refine (keep10 X main_while0b_v102 (by decide)).symm.trans ?_
  unfold at10
  after_results_simp
  all_goals try simp only [TRef.ofBuf, TRef.toBuf, cast_cast, cast_eq, id]
  all_goals simp only [sl1_of, sl2_of, sl3_of, sl4_of, up3_of]
  all_goals simp only [Matrix.cons_val]
  all_goals try after_results_simp
  all_goals try simp only [TRef.ofBuf, TRef.toBuf, cast_cast, cast_eq, id]
  all_goals simp only [keep9 X main_v33_5 (by decide), keep9 X main_while0b_v37 (by decide)]
  all_goals generalize inner X (Proc.devRef .tc main_v33_5) = a0
  all_goals generalize inner X (Proc.devRef .tc main_while0b_v37) = a1
  all_goals rfl
theorem v103_eq : inner X main_while0b_v103 = bestOf (inner X main_while0b_v102) := by
  refine (keep11 X main_while0b_v103 (by decide)).symm.trans ?_
  unfold at11
  after_results_simp
  all_goals try simp only [TRef.ofBuf, TRef.toBuf, cast_cast, cast_eq, id]
  all_goals simp only [keep10 X main_while0b_v102 (by decide)]
  all_goals generalize inner X (Proc.devRef .tc main_while0b_v102) = a0
  all_goals rfl
theorem v117_eq : inner X main_while0b_v117 = spriteOf (inner X main_v33_6) (inner X main_while0b_v103) := by
  refine (keep12 X main_while0b_v117 (by decide)).symm.trans ?_
  unfold at12
  after_results_simp
  all_goals try simp only [TRef.ofBuf, TRef.toBuf, cast_cast, cast_eq, id]
  all_goals simp only [sl1_of, sl2_of, sl3_of, sl4_of, up3_of]
  all_goals simp only [Matrix.cons_val]
  all_goals try after_results_simp
  all_goals try simp only [TRef.ofBuf, TRef.toBuf, cast_cast, cast_eq, id]
  all_goals simp only [keep11 X main_v33_6 (by decide), keep11 X main_while0b_v103 (by decide)]
  all_goals generalize inner X (Proc.devRef .tc main_v33_6) = a0
  all_goals generalize inner X (Proc.devRef .tc main_while0b_v103) = a1
  all_goals rfl
theorem v118_eq : inner X main_while0b_v118 = extractStridedSlice S3x64x64 ![0, 0, 0] (inner X main_while0b_v117) slices_S4x64x64_S3x64x64_0_0_0 := by
  refine (keep13 X main_while0b_v118 (by decide)).symm.trans ?_
  unfold at13
  after_results_simp
  all_goals try simp only [TRef.ofBuf, TRef.toBuf, cast_cast, cast_eq, id]
  all_goals simp only [keep12 X main_while0b_v117 (by decide)]
  all_goals generalize inner X (Proc.devRef .tc main_while0b_v117) = a0
  all_goals rfl
theorem v122_eq : inner X main_while0b_v122 = alpha (inner X main_while0b_v117) := by
  refine (keep13 X main_while0b_v122 (by decide)).symm.trans ?_
  unfold at13
  after_results_simp
  all_goals try simp only [TRef.ofBuf, TRef.toBuf, cast_cast, cast_eq, id]
  all_goals simp only [keep12 X main_while0b_v117 (by decide)]
  all_goals generalize inner X (Proc.devRef .tc main_while0b_v117) = a0
  all_goals rfl
theorem v129_eq : inner X main_while0b_v129 = under (inner X main_v33_8) (inner X main_while0b_v49) (inner X main_while0b_v61) := by
  refine (keep13 X main_while0b_v129 (by decide)).symm.trans ?_
  unfold at13
  after_results_simp
  all_goals try simp only [TRef.ofBuf, TRef.toBuf, cast_cast, cast_eq, id]
  all_goals simp only [sl1_of, sl2_of, sl3_of, sl4_of, up3_of]
  all_goals simp only [Matrix.cons_val]
  all_goals try after_results_simp
  all_goals try simp only [TRef.ofBuf, TRef.toBuf, cast_cast, cast_eq, id]
  all_goals simp only [keep12 X main_v33_8 (by decide), keep12 X main_while0b_v49 (by decide), keep12 X main_while0b_v61 (by decide)]
  all_goals generalize inner X (Proc.devRef .tc main_v33_8) = a0
  all_goals generalize inner X (Proc.devRef .tc main_while0b_v49) = a1
  all_goals generalize inner X (Proc.devRef .tc main_while0b_v61) = a2
  all_goals rfl
theorem v130_eq : inner X main_while0b_v130 = extractStridedSlice S3x64x64 ![0, 0, 0] (under (inner X main_v33_8) (inner X main_while0b_v49) (inner X main_while0b_v61)) slices_S4x64x64_S3x64x64_0_0_0 := by
  refine (keep13 X main_while0b_v130 (by decide)).symm.trans ?_
  unfold at13
  after_results_simp
  all_goals try simp only [TRef.ofBuf, TRef.toBuf, cast_cast, cast_eq, id]
  all_goals simp only [sl1_of, sl2_of, sl3_of, sl4_of, up3_of]
  all_goals simp only [Matrix.cons_val]
  all_goals try after_results_simp
  all_goals try simp only [TRef.ofBuf, TRef.toBuf, cast_cast, cast_eq, id]
  all_goals simp only [keep12 X main_v33_8 (by decide), keep12 X main_while0b_v49 (by decide), keep12 X main_while0b_v61 (by decide)]
  all_goals generalize inner X (Proc.devRef .tc main_v33_8) = a0
  all_goals generalize inner X (Proc.devRef .tc main_while0b_v49) = a1
  all_goals generalize inner X (Proc.devRef .tc main_while0b_v61) = a2
  all_goals rfl
theorem v134_eq : inner X main_while0b_v134 = alpha (under (inner X main_v33_8) (inner X main_while0b_v49) (inner X main_while0b_v61)) := by
  refine (keep13 X main_while0b_v134 (by decide)).symm.trans ?_
  unfold at13
  after_results_simp
  all_goals try simp only [TRef.ofBuf, TRef.toBuf, cast_cast, cast_eq, id]
  all_goals simp only [sl1_of, sl2_of, sl3_of, sl4_of, up3_of]
  all_goals simp only [Matrix.cons_val]
  all_goals try after_results_simp
  all_goals try simp only [TRef.ofBuf, TRef.toBuf, cast_cast, cast_eq, id]
  all_goals simp only [keep12 X main_v33_8 (by decide), keep12 X main_while0b_v49 (by decide), keep12 X main_while0b_v61 (by decide)]
  all_goals generalize inner X (Proc.devRef .tc main_v33_8) = a0
  all_goals generalize inner X (Proc.devRef .tc main_while0b_v49) = a1
  all_goals generalize inner X (Proc.devRef .tc main_while0b_v61) = a2
  all_goals rfl
theorem v145_eq : inner X main_while0b_v145 = mixRgb (inner X main_while0b_v118) (inner X main_while0b_v122) (inner X main_while0b_v130) (inner X main_while0b_v134) := by
  refine (keep14 X main_while0b_v145 (by decide)).symm.trans ?_
  unfold at14
  after_results_simp
  all_goals try simp only [TRef.ofBuf, TRef.toBuf, cast_cast, cast_eq, id]
  all_goals simp only [keep13 X main_while0b_v118 (by decide), keep13 X main_while0b_v122 (by decide), keep13 X main_while0b_v130 (by decide), keep13 X main_while0b_v134 (by decide)]
  all_goals generalize inner X (Proc.devRef .tc main_while0b_v118) = a0
  all_goals generalize inner X (Proc.devRef .tc main_while0b_v122) = a1
  all_goals generalize inner X (Proc.devRef .tc main_while0b_v130) = a2
  all_goals generalize inner X (Proc.devRef .tc main_while0b_v134) = a3
  all_goals rfl
theorem v146_eq : inner X main_while0b_v146 = extractStridedSlice S1x64x64 ![0, 0, 0] (alpha0 (inner X main_while0b_v122) (inner X main_while0b_v134)) slices_S3x64x64_S1x64x64_0_0_0 := by
  refine (keep14 X main_while0b_v146 (by decide)).symm.trans ?_
  unfold at14
  after_results_simp
  all_goals try simp only [TRef.ofBuf, TRef.toBuf, cast_cast, cast_eq, id]
  all_goals simp only [keep13 X main_while0b_v122 (by decide), keep13 X main_while0b_v134 (by decide)]
  all_goals generalize inner X (Proc.devRef .tc main_while0b_v122) = a0
  all_goals generalize inner X (Proc.devRef .tc main_while0b_v134) = a1
  all_goals rfl
theorem v147_eq : inner X main_while0b_v147 = joined (inner X main_while0b_v145) (inner X main_while0b_v146) := by
  refine (keep15 X main_while0b_v147 (by decide)).symm.trans ?_
  refine Eq.trans (b := joined (at14 X main_while0b_v145) (at14 X main_while0b_v146)) ?_ (congrArg₂ joined (keep14 X main_while0b_v145 (by decide)) (keep14 X main_while0b_v146 (by decide)))
  unfold at15
  after_results_simp
  all_goals rfl
theorem v154_eq : inner X main_while0b_v154 = put (inner X main_v33_8) (inner X main_while0b_v147) (inner X main_while0b_v49) (inner X main_while0b_v61) := by
  refine (keep16 X main_while0b_v154 (by decide)).symm.trans ?_
  unfold at16
  after_results_simp
  all_goals try simp only [TRef.ofBuf, TRef.toBuf, cast_cast, cast_eq, id]
  all_goals simp only [sl1_of, sl2_of, sl3_of, sl4_of, up3_of]
  all_goals simp only [Matrix.cons_val]
  all_goals try after_results_simp
  all_goals try simp only [TRef.ofBuf, TRef.toBuf, cast_cast, cast_eq, id]
  all_goals simp only [keep15 X main_v33_8 (by decide), keep15 X main_while0b_v147 (by decide), keep15 X main_while0b_v49 (by decide), keep15 X main_while0b_v61 (by decide)]
  all_goals generalize inner X (Proc.devRef .tc main_v33_8) = a0
  all_goals generalize inner X (Proc.devRef .tc main_while0b_v147) = a1
  all_goals generalize inner X (Proc.devRef .tc main_while0b_v49) = a2
  all_goals generalize inner X (Proc.devRef .tc main_while0b_v61) = a3
  all_goals rfl
theorem v155_eq : inner X main_while0b_v155 = select (broadcastInDim S4x512x512 ![] bcast_S_S4x512x512 (inner X main_while0b_v94)) (inner X main_while0b_v154) (inner X main_v33_8) := by
  refine (keep17 X main_while0b_v155 (by decide)).symm.trans ?_
  unfold at17
  after_results_simp
  all_goals try simp only [TRef.ofBuf, TRef.toBuf, cast_cast, cast_eq, id]
  all_goals simp only [keep16 X main_while0b_v94 (by decide), keep16 X main_while0b_v154 (by decide), keep16 X main_v33_8 (by decide)]
  all_goals generalize inner X (Proc.devRef .tc main_while0b_v94) = a0
  all_goals generalize inner X (Proc.devRef .tc main_while0b_v154) = a1
  all_goals generalize inner X (Proc.devRef .tc main_v33_8) = a2
  all_goals rfl

end Cert.ReferenceIdeal.Trip
-- ==== Proof.Blend.lean ====
/- A sprite pasted on a picture, element by element, and the reference's way of writing it. -/
module

public import proofs.«01_k».proof.Proof.Order
public import proofs.«01_k».proof.Proof.RTrip
public import Idealize.ShloMosaic.Lib.Pointwise

@[expose] public section

set_option maxRecDepth 16384

noncomputable section

namespace Cert.Spec

open Idealize.ShloMosaic
open Cert.ReferenceIdeal Cert.ReferenceIdeal.Gen

/-- The opacity of a layer over another. -/
def opacity (a b : EReal) : EReal := a + b * (1 - a)
/-- The colour of a layer over another. -/
def colour (p a q b : EReal) : EReal := Ideal.div (p * a + q * b * (1 - a)) (opacity a b)

/-- The sprite's element at a distance from its corner. -/
abbrev spot (ch : Fin 4) (r c : ℕ) : S4x64x64.Idx := ix3 ch (Fin.ofNat 64 r) (Fin.ofNat 64 c)

/-- The picture with a sprite pasted at a corner. -/
def blend (img : FVec Ideal S4x512x512 .f32) (p : FVec Ideal S4x64x64 .f32) (x y : ℕ) : FVec Ideal S4x512x512 .f32 := fun i =>
  if x ≤ (i 1).val ∧ (i 1).val < x + 64 ∧ y ≤ (i 2).val ∧ (i 2).val < y + 64 then
    if (i 0).val < 3 then
      colour (p (spot (i 0) ((i 1).val - x) ((i 2).val - y))) (p (spot 3 ((i 1).val - x) ((i 2).val - y))) (img i) (img (ix3 3 (i 1) (i 2)))
    else opacity (p (spot 3 ((i 1).val - x) ((i 2).val - y))) (img (ix3 3 (i 1) (i 2)))
  else img i

open Cert.ReferenceIdeal.Trip

theorem rgb_at (p q : FVec Ideal S4x64x64 .f32) (a : Fin 3) (r c : Fin 64) :
    mixRgb (extractStridedSlice S3x64x64 ![0, 0, 0] p slices_S4x64x64_S3x64x64_0_0_0) (alpha p)
      (extractStridedSlice S3x64x64 ![0, 0, 0] q slices_S4x64x64_S3x64x64_0_0_0) (alpha q) (ix3 a r c)
    = colour (p (ix3 a.castSucc r c)) (p (ix3 3 r c)) (q (ix3 a.castSucc r c)) (q (ix3 3 r c)) := by
  unfold colour opacity
  pointwise [mixRgb, alpha, alpha0, rest]
  rfl

theorem top_at (p q : FVec Ideal S4x64x64 .f32) (r c : Fin 64) :
    extractStridedSlice S1x64x64 ![0, 0, 0] (alpha0 (alpha p) (alpha q)) slices_S3x64x64_S1x64x64_0_0_0 (ix3 0 r c) = opacity (p (ix3 3 r c)) (q (ix3 3 r c)) := by
  unfold opacity
  pointwise [alpha, alpha0, rest]

theorem joined_low (p : FVec Ideal S3x64x64 .f32) (t : FVec Ideal S1x64x64 .f32) (a : Fin 3) (r c : Fin 64) :
    joined p t (ix3 a.castSucc r c) = p (ix3 a r c) := by
  have ha := a.isLt
  pointwise [joined]
  simp only [Fin.val_castSucc, ha, dite_true]

theorem joined_top (p : FVec Ideal S3x64x64 .f32) (t : FVec Ideal S1x64x64 .f32) (r c : Fin 64) :
    joined p t (ix3 3 r c) = t (ix3 0 r c) := by
  pointwise [joined]

theorem clamp0 (h) (x y : Int) : Host.clampedStart S4x512x512 S4x64x64 h ![0, x, y] (0 : Fin 3) = 0 := by
  show (min (max (0 : Int) 0) (((4 : ℕ) - (4 : ℕ) : ℕ) : Int)).toNat = 0
  omega
theorem clamp1 (h) (x y : Int) (hx : 0 ≤ x) : Host.clampedStart S4x512x512 S4x64x64 h ![0, x, y] (1 : Fin 3) = min x.toNat 448 := by
  show (min (max x 0) (((512 : ℕ) - (64 : ℕ) : ℕ) : Int)).toNat = _
  omega
theorem clamp2 (h) (x y : Int) (hy : 0 ≤ y) : Host.clampedStart S4x512x512 S4x64x64 h ![0, x, y] (2 : Fin 3) = min y.toNat 448 := by
  show (min (max y 0) (((512 : ℕ) - (64 : ℕ) : ℕ) : Int)).toNat = _
  omega

theorem up3_at (img : FVec Ideal S4x512x512 .f32) (u : FVec Ideal S4x64x64 .f32) (x y : Int) (hx : 0 ≤ x) (hy : 0 ≤ y) (i : S4x512x512.Idx) :
    up3 img u 0 x y i = if min x.toNat 448 ≤ (i 1).val ∧ (i 1).val < min x.toNat 448 + 64 ∧ min y.toNat 448 ≤ (i 2).val ∧ (i 2).val < min y.toNat 448 + 64
      then u (spot (i 0) ((i 1).val - min x.toNat 448) ((i 2).val - min y.toNat 448)) else img i := by
  unfold up3
  rw [Host.dynamicUpdateSlice_apply]
  have e0 := clamp0 updateFits_S4x512x512_S4x64x64.1 x y
  have e1 := clamp1 updateFits_S4x512x512_S4x64x64.1 x y hx
  have e2 := clamp2 updateFits_S4x512x512_S4x64x64.1 x y hy
  by_cases h : min x.toNat 448 ≤ (i 1).val ∧ (i 1).val < min x.toNat 448 + 64 ∧ min y.toNat 448 ≤ (i 2).val ∧ (i 2).val < min y.toNat 448 + 64
  · have hin : ∀ a : Fin 3, Host.clampedStart S4x512x512 S4x64x64 updateFits_S4x512x512_S4x64x64.1 ![0, x, y] a ≤ (i a).val
        ∧ (i a).val < Host.clampedStart S4x512x512 S4x64x64 updateFits_S4x512x512_S4x64x64.1 ![0, x, y] a + S4x64x64.size (a.cast updateFits_S4x512x512_S4x64x64.1.symm) := fun a => by
      match a with
      | ⟨0, _⟩ => exact ⟨e0.le.trans (Nat.zero_le _), lt_of_lt_of_le (i 0).isLt (Nat.le_add_left 4 _)⟩
      | ⟨1, _⟩ => exact ⟨e1.le.trans h.1, lt_of_lt_of_eq h.2.1 (congrArg (· + 64) e1.symm)⟩
      | ⟨2, _⟩ => exact ⟨e2.le.trans h.2.2.1, lt_of_lt_of_eq h.2.2.2 (congrArg (· + 64) e2.symm)⟩
    rw [dif_pos hin, if_pos h]
    refine congrArg u (funext fun b => Fin.ext ?_)
    match b with
    | ⟨0, _⟩ => exact (congrArg ((i 0).val - ·) e0).trans (Nat.sub_zero _)
    | ⟨1, _⟩ => exact (congrArg ((i 1).val - ·) e1).trans (Nat.mod_eq_of_lt (by omega)).symm
    | ⟨2, _⟩ => exact (congrArg ((i 2).val - ·) e2).trans (Nat.mod_eq_of_lt (by omega)).symm
  · rw [if_neg h, dif_neg]
    intro hin
    have h1 := hin (1 : Fin 3)
    have h2 := hin (2 : Fin 3)
    rw [e1] at h1
    rw [e2] at h2
    exact h ⟨h1.1, h1.2, h2.1, h2.2⟩

theorem sl3_at (img : FVec Ideal S4x512x512 .f32) (x y : Int) (hx : 0 ≤ x) (hy : 0 ≤ y) (a : Fin 4) (r c : Fin 64) :
    sl3 img 0 x y (ix3 a r c) = img (ix3 a ⟨min x.toNat 448 + r.val, by omega⟩ ⟨min y.toNat 448 + c.val, by omega⟩) := by
  unfold sl3
  rw [Host.dynamicSlice_apply]
  have e0 := clamp0 sliceFits_S4x512x512_S4x64x64.1 x y
  have e1 := clamp1 sliceFits_S4x512x512_S4x64x64.1 x y hx
  have e2 := clamp2 sliceFits_S4x512x512_S4x64x64.1 x y hy
  refine congrArg img (funext fun b => Fin.ext ?_)
  match b with
  | ⟨0, _⟩ => exact (congrArg (· + a.val) e0).trans (Nat.zero_add _)
  | ⟨1, _⟩ => exact congrArg (· + r.val) e1
  | ⟨2, _⟩ => exact congrArg (· + c.val) e2

theorem mixed_low (p q : FVec Ideal S4x64x64 .f32) (a : Fin 3) (r c : Fin 64) :
    mixed p q (ix3 a.castSucc r c) = colour (p (ix3 a.castSucc r c)) (p (ix3 3 r c)) (q (ix3 a.castSucc r c)) (q (ix3 3 r c)) :=
  (joined_low _ _ a r c).trans (rgb_at p q a r c)
theorem mixed_top (p q : FVec Ideal S4x64x64 .f32) (r c : Fin 64) : mixed p q (ix3 3 r c) = opacity (p (ix3 3 r c)) (q (ix3 3 r c)) :=
  (joined_top _ _ r c).trans (top_at p q r c)

/-- The sprite over what is under it, written back, is the picture with the sprite pasted. -/
theorem up3_blend (img : FVec Ideal S4x512x512 .f32) (p : FVec Ideal S4x64x64 .f32) (x y : Int) (hx : 0 ≤ x) (hy : 0 ≤ y) :
    up3 img (mixed p (sl3 img 0 x y)) 0 x y = blend img p (min x.toNat 448) (min y.toNat 448) := by
  funext i
  rw [up3_at _ _ _ _ hx hy]
  unfold blend
  refine if_ctx_congr Iff.rfl (fun h => ?_) fun _ => rfl
  have r1 : min x.toNat 448 + (Fin.ofNat 64 ((i 1).val - min x.toNat 448)).val = (i 1).val := by
    rw [Fin.val_ofNat, Nat.mod_eq_of_lt (by omega)]; omega
  have r2 : min y.toNat 448 + (Fin.ofNat 64 ((i 2).val - min y.toNat 448)).val = (i 2).val := by
    rw [Fin.val_ofNat, Nat.mod_eq_of_lt (by omega)]; omega
  have under_at (a : Fin 4) : sl3 img 0 x y (spot a ((i 1).val - min x.toNat 448) ((i 2).val - min y.toNat 448)) = img (ix3 a (i 1) (i 2)) := by
    rw [sl3_at _ _ _ hx hy]
    exact congrArg img (congrArg₂ (ix3 a) (Fin.ext r1) (Fin.ext r2))
  by_cases h3 : (i 0).val < 3
  · rw [if_pos h3]
    refine (mixed_low p _ ⟨(i 0).val, h3⟩ _ _).trans ?_
    exact congrArg₂ (fun a b => colour _ _ a b) ((under_at (i 0)).trans (congrArg img (ix3_eta i))) (under_at 3)
  · rw [if_neg h3]
    have e : (i 0) = (⟨3, by decide⟩ : Fin 4) := Fin.ext (by have h4 : (i 0).val < 4 := (i 0).isLt; show (i 0).val = 3; omega)
    refine (congrArg (fun a : Fin 4 => mixed p (sl3 img 0 x y) (spot a _ _)) e).trans ((mixed_top p _ _ _).trans ?_)
    exact congrArg (opacity _) (under_at 3)

theorem wrap_num (x : IVec S_ 32) (n : BitVec 32) (h : 0 ≤ num x) : num (wrap x n) = num x := by
  have : IntOp.cmpi .slt (x (Shape.Idx.first h_S_)) 0#32 = 0#1 := by
    unfold IntOp.cmpi
    have h3 : ¬ (x (Shape.Idx.first h_S_)).toInt < 0 := not_lt.mpr h
    simp [BitVec.slt_eq_decide, h3]
  show (Scalar.select (IntOp.cmpi .slt (x (Shape.Idx.first h_S_)) 0#32) (IntOp.addi (x (Shape.Idx.first h_S_)) n) (x (Shape.Idx.first h_S_))).toInt = _
  rw [this]; rfl

/-- What the reference writes for a row inside the picture. -/
theorem put_blend (img : FVec Ideal S4x512x512 .f32) (p : FVec Ideal S4x64x64 .f32) (x y : IVec S_ 32) (hx : 0 ≤ num x) (hy : 0 ≤ num y) :
    put img (mixed p (under img x y)) x y = blend img p (min (num x).toNat 448) (min (num y).toNat 448) := by
  have h := up3_blend img p (num x) (num y) hx hy
  unfold put under
  rw [wrap_num x _ hx, wrap_num y _ hy]
  exact h

/-- A sprite of the sheet. -/
def sheet (imgs : FVec Ideal S256x4x64x64 .f32) (b : ℕ) : FVec Ideal S4x64x64 .f32 := fun j => imgs (ix4 (Fin.ofNat 256 b) (j 0) (j 1) (j 2))

theorem sprite_at (imgs : FVec Ideal S256x4x64x64 .f32) (i : IVec S_ 32) (b : ℕ) (hb : b < 256) (h : num i = b) : spriteOf imgs i = sheet imgs b := by
  have hw : num (wrap i 256#32) = b := (wrap_num i _ (by omega)).trans h
  have hz (n : BitVec 32) : num (none_ n) = 0 := by rfl
  unfold spriteOf
  rw [hw, hz 4#32, hz 64#32]
  funext j
  rw [eq_ix3 j]
  unfold sl4 sheet
  pointwise
  refine congrArg imgs (funext fun a => Fin.ext ?_)
  have hj0 : (j 0).val < 4 := (j 0).isLt
  match a with
  | ⟨0, _⟩ =>
    show (min (max (b : Int) 0) (((256 : ℕ) - (1 : ℕ) : ℕ) : Int)).toNat = b % 256
    omega
  | ⟨1, _⟩ =>
    show (min (max (0 : Int) 0) (((4 : ℕ) - (4 : ℕ) : ℕ) : Int)).toNat + (j 0).val = (j 0).val
    omega
  | ⟨2, _⟩ =>
    show (min (max (0 : Int) 0) (((64 : ℕ) - (64 : ℕ) : ℕ) : Int)).toNat + (j 1).val = (j 1).val
    omega
  | ⟨3, _⟩ =>
    show (min (max (0 : Int) 0) (((64 : ℕ) - (64 : ℕ) : ℕ) : Int)).toNat + (j 2).val = (j 2).val
    omega

end Cert.Spec
-- ==== Proof.IBlend.lean ====
/- One trip of the kernel's paste loop at the reals: a sprite pasted on the canvas. -/
module

public import proofs.«01_k».proof.Proof.IBody
public import proofs.«01_k».proof.Proof.Blend
public import Idealize.ShloMosaic.Lib.WritesUnit
public import Idealize.ShloMosaic.Lib.Pipeline.Value

@[expose] public section

set_option maxRecDepth 16384

noncomputable section

namespace Cert.KernelIdeal.Value

open Cert.KernelIdeal Cert.KernelIdeal.Gen Cert.KernelIdeal.Paste
open Idealize.ShloMosaic Idealize.ShloMosaic.TcCoe

/-- The sprite at its place in the rows a trip touches. -/
def placed (ox y : BitVec 32) (p : FVec Ideal S4x64x64 .f32) : FVec Ideal S4x72x512 .f32 :=
  dynamicRotate 2 y none (dynamicRotate 1 ox none
    (concatenate S4x72x512 1
      [⟨S4x64x512, concatenate S4x64x512 2 [⟨S4x64x64, p⟩, ⟨S4x64x448, broadcast S4x64x448 (Ideal.ofBits .f32 0x00000000#32)⟩]
          concatenates_S4x64x64_S4x64x448_S4x64x512_d2⟩,
        ⟨S4x8x512, broadcast S4x8x512 (Ideal.ofBits .f32 0x00000000#32)⟩]
      concatenates_S4x64x512_S4x8x512_S4x72x512_d1) rotates_S4x72x512_d1) rotates_S4x72x512_d2

/-- Where among those rows the sprite lies. -/
def inWindow (x y a : BitVec 32) : IVec S72x512 1 :=
  let row : IVec S72x512 32 := addi (broadcast S72x512 a) (iota .tc S72x512 32 [0] iota_S72x512_d0_w32)
  let col : IVec S72x512 32 := iota .tc S72x512 32 [1] iota_S72x512_d1_w32
  andi (andi (andi (cmpi .sge row (broadcast S72x512 x)) (cmpi .slt row (broadcast S72x512 (Scalar.addi x 64#32))))
    (cmpi .sge col (broadcast S72x512 y))) (cmpi .slt col (broadcast S72x512 (Scalar.addi y 64#32)))

/-- The rows with what lies at its place pasted where a mask says. -/
def laid (w : IVec S72x512 1) (q old : FVec Ideal S4x72x512 .f32) : FVec Ideal S4x72x512 .f32 :=
  let an : FVec Ideal S72x512 .f32 := select w
    (shapeCast S72x512 (extractStridedSlice S1x72x512 ![3, 0, 0] q slices_S4x72x512_o3_0_0_S1x72x512) shapeCasts_S1x72x512_S72x512)
    (broadcast S72x512 (Ideal.ofBits .f32 0x00000000#32))
  let ao : FVec Ideal S72x512 .f32 :=
    shapeCast S72x512 (extractStridedSlice S1x72x512 ![3, 0, 0] old slices_S4x72x512_o3_0_0_S1x72x512) shapeCasts_S1x72x512_S72x512
  let left : FVec Ideal S72x512 .f32 := mulf ao (subf (broadcast S72x512 (Ideal.ofBits .f32 0x3F800000#32)) an)
  let a0 : FVec Ideal S1x72x512 .f32 := shapeCast S1x72x512 (addf an left) shapeCasts_S72x512_S1x72x512
  let over (v : FVec Ideal S72x512 .f32) : FVec Ideal S3x72x512 .f32 :=
    broadcastTo S3x72x512 (shapeCast S1x72x512 v shapeCasts_S72x512_S1x72x512) broadcasts_S1x72x512_S3x72x512
  let rgb : FVec Ideal S3x72x512 .f32 := divf
    (addf (mulf (extractStridedSlice S3x72x512 ![0, 0, 0] q slices_S4x72x512_o0_0_0_S3x72x512) (over an))
      (mulf (extractStridedSlice S3x72x512 ![0, 0, 0] old slices_S4x72x512_o0_0_0_S3x72x512) (over left)))
    (broadcastTo S3x72x512 a0 broadcasts_S1x72x512_S3x72x512)
  select (broadcastTo S4x72x512 (shapeCast S1x72x512 (shapeCast S1x72x512 w shapeCasts_S72x512_S1x72x512) shapeCasts_S1x72x512_S1x72x512)
      broadcasts_S1x72x512_S4x72x512)
    (concatenate S4x72x512 0 [⟨S3x72x512, rgb⟩, ⟨S1x72x512, a0⟩] concatenates_S3x72x512_S1x72x512_S4x72x512_d0) old

theorem new_eq (x y : BitVec 32) (old : FVec Ideal S4x72x512 .f32) (p : FVec Ideal S4x64x64 .f32) :
    stripNew (F := Ideal) x y old p = laid (inWindow x y (k0_mult1 x)) (placed (Scalar.subi x (k0_mult1 x)) y p) old := by
  unfold stripNew k0_pay3
  rw [shapeCast_self]
  rfl

theorem sel_on {α : Type} {b : BitVec 1} (h : b = 1#1) (x y : α) : Scalar.select b x y = x := if_pos h
theorem sel_off {α : Type} {b : BitVec 1} (h : b ≠ 1#1) (x y : α) : Scalar.select b x y = y := if_neg h

theorem and_iff (a b : BitVec 1) : IntOp.andi a b = 1#1 ↔ a = 1#1 ∧ b = 1#1 := by
  revert a b; decide

theorem sge_iff (a b : BitVec 32) : IntOp.cmpi .sge a b = 1#1 ↔ b.toInt ≤ a.toInt := by
  show BitVec.ofBool (b.sle a) = 1#1 ↔ _
  rw [BitVec.sle_eq_decide]
  by_cases h : b.toInt ≤ a.toInt <;> simp [h]

theorem slt_iff (a b : BitVec 32) : IntOp.cmpi .slt a b = 1#1 ↔ a.toInt < b.toInt := by
  show BitVec.ofBool (a.slt b) = 1#1 ↔ _
  rw [BitVec.slt_eq_decide]
  by_cases h : a.toInt < b.toInt <;> simp [h]

theorem small_toInt {a : BitVec 32} (h : a.toNat < 1024) : a.toInt = (a.toNat : Int) :=
  BitVec.toInt_eq_toNat_of_lt (by omega)

theorem add_small {a b : BitVec 32} (ha : a.toNat < 512) (hb : b.toNat < 512) : (IntOp.addi a b).toNat = a.toNat + b.toNat := by
  show (a + b).toNat = _
  rw [BitVec.toNat_add, Nat.mod_eq_of_lt (by omega)]

theorem placed_at (ox y : BitVec 32) (p : FVec Ideal S4x64x64 .f32) (a : Fin 4) (r : Fin 72) (c : Fin 512)
    (hox : ox.toNat ≤ 8) (hy : y.toNat ≤ 448) (hr : ox.toNat ≤ r.val ∧ r.val < ox.toNat + 64) (hc : y.toNat ≤ c.val ∧ c.val < y.toNat + 64) :
    placed ox y p (ix3 a r c) = p (Spec.spot a (r.val - ox.toNat) (c.val - y.toNat)) := by
  have e1 : (r.val + 72 - ox.toNat % 72) % 72 = r.val - ox.toNat := by have := r.isLt; omega
  have e2 : (c.val + 512 - y.toNat % 512) % 512 = c.val - y.toNat := by have := c.isLt; omega
  pointwise [placed]
  simp only [e1, e2]
  rw [dif_pos (by omega), dif_pos (by omega)]
  refine congrArg p (congrArg₂ (ix3 a) (Fin.ext ?_) (Fin.ext ?_))
  · exact (Nat.mod_eq_of_lt (by omega)).symm
  · exact (Nat.mod_eq_of_lt (by omega)).symm

theorem window_at (x y a : BitVec 32) (r : Fin 72) (c : Fin 512) (hx : x.toNat ≤ 448) (hy : y.toNat ≤ 448) (ha : a.toNat ≤ 440) :
    inWindow x y a (ix2 r c) = 1#1 ↔ (x.toNat ≤ a.toNat + r.val ∧ a.toNat + r.val < x.toNat + 64 ∧ y.toNat ≤ c.val ∧ c.val < y.toNat + 64) := by
  have hr := r.isLt
  have hc := c.isLt
  have nr : (BitVec.ofNat 32 r.val).toNat = r.val := by rw [BitVec.toNat_ofNat, Nat.mod_eq_of_lt (by omega)]
  have nc : (BitVec.ofNat 32 c.val).toNat = c.val := by rw [BitVec.toNat_ofNat, Nat.mod_eq_of_lt (by omega)]
  have nar := add_small (a := a) (b := BitVec.ofNat 32 r.val) (by omega) (by omega)
  have nx : (Scalar.addi x 64#32).toNat = x.toNat + 64 := add_small (a := x) (b := 64#32) (by omega) (by decide)
  have ny : (Scalar.addi y 64#32).toNat = y.toNat + 64 := add_small (a := y) (b := 64#32) (by omega) (by decide)
  pointwise [inWindow]
  rw [and_iff, and_iff, and_iff, sge_iff, slt_iff, sge_iff, slt_iff, small_toInt (a := IntOp.addi _ _) (by omega), small_toInt (a := x) (by omega),
    small_toInt (a := Scalar.addi x _) (by omega), small_toInt (a := Scalar.addi y _) (by omega), small_toInt (a := y) (by omega),
    small_toInt (a := BitVec.ofNat 32 c.val) (by omega)]
  omega

theorem laid_low (w : IVec S72x512 1) (q old : FVec Ideal S4x72x512 .f32) (a : Fin 3) (r : Fin 72) (c : Fin 512) (h : w (ix2 r c) = 1#1) :
    laid w q old (ix3 a.castSucc r c) = Spec.colour (q (ix3 a.castSucc r c)) (q (ix3 3 r c)) (old (ix3 a.castSucc r c)) (old (ix3 3 r c)) := by
  have ha := a.isLt
  unfold Spec.colour Spec.opacity
  pointwise [laid]
  rw [dif_pos (show a.castSucc.val < 3 from ha)]
  simp only [sel_on h, mul_assoc]

theorem laid_top (w : IVec S72x512 1) (q old : FVec Ideal S4x72x512 .f32) (r : Fin 72) (c : Fin 512) (h : w (ix2 r c) = 1#1) :
    laid w q old (ix3 3 r c) = Spec.opacity (q (ix3 3 r c)) (old (ix3 3 r c)) := by
  unfold Spec.opacity
  pointwise [laid]
  simp only [sel_on h]

theorem laid_off (w : IVec S72x512 1) (q old : FVec Ideal S4x72x512 .f32) (a : Fin 4) (r : Fin 72) (c : Fin 512) (h : w (ix2 r c) ≠ 1#1) :
    laid w q old (ix3 a r c) = old (ix3 a r c) := by
  pointwise [laid]
  rw [sel_off h]

theorem flat_at (x : FVec Ideal S1x4x64x64 .f32) (h : Shape.ShapeCasts S1x4x64x64 S4x64x64) (a : Fin 4) (r c : Fin 64) :
    shapeCast S4x64x64 x h (ix3 a r c) = x (ix4 0 a r c) := by
  pointwise

/-- The picture a trip fetches. -/
theorem picture_eq (i : grid0.Coords) (h2 : k0_cond2 i = 1#1) (w : BitVec 32) (hs : k0_chk2 i w) (hw : w.toNat < 256) (fi : ImgsC Ideal) :
    picture (F := Ideal) i h2 w hs fi = Spec.sheet fi w.toNat := by
  unfold picture
  rw [Memref.read_squeeze_slice _ _ _ _ squeezes_S1x4x64x64_S4x64x64.numel_eq]
  funext j
  rw [eq_ix3 j]
  refine (flat_at _ _ _ _ _).trans ?_
  unfold Spec.sheet
  show fi _ = fi _
  refine congrArg fi (funext fun a => Fin.ext ?_)
  match a with
  | ⟨0, _⟩ => show w.toNat + 1 * 0 = w.toNat % 256; omega
  | ⟨1, _⟩ => show 0 + 1 * (j 0).val = (j 0).val; omega
  | ⟨2, _⟩ => show 0 + 1 * (j 1).val = (j 1).val; omega
  | ⟨3, _⟩ => show 0 + 1 * (j 2).val = (j 2).val; omega

/-- The rows a trip touches, as they were. -/
theorem old_at (i : grid0.Coords) (h2 : k0_cond2 i = 1#1) (wx : BitVec 32) (hx : k0_chk3 i wx) (fc : CanvasC Ideal) (a : Fin 4) (r : Fin 72) (c : Fin 512)
    (hr : (k0_mult1 wx).toNat + r.val < 512) :
    canvas.view.readAt (Elt Ideal) (stripRect i h2 wx hx).toLoadRect fc (ix3 a r c) = fc (ix3 a ⟨(k0_mult1 wx).toNat + r.val, hr⟩ c) := by
  show fc _ = fc _
  refine congrArg fc (funext fun b => Fin.ext ?_)
  match b with
  | ⟨0, _⟩ => show 0 + 1 * a.val = a.val; omega
  | ⟨1, _⟩ => show (k0_mult1 wx).toNat + 1 * r.val = (k0_mult1 wx).toNat + r.val; omega
  | ⟨2, _⟩ => show 0 + 1 * c.val = c.val; omega

/-- The rows a trip leaves. -/
theorem new_at (x y : BitVec 32) (old : FVec Ideal S4x72x512 .f32) (p : FVec Ideal S4x64x64 .f32) (hx : x.toNat ≤ 448) (hy : y.toNat ≤ 448)
    (img : FVec Ideal S4x512x512 .f32) (a : Fin 4) (r : Fin 72) (c : Fin 512) (hr : (k0_mult1 x).toNat + r.val < 512)
    (ho : ∀ b : Fin 4, old (ix3 b r c) = img (ix3 b ⟨(k0_mult1 x).toNat + r.val, hr⟩ c)) :
    stripNew (F := Ideal) x y old p (ix3 a r c) = Spec.blend img p x.toNat y.toNat (ix3 a ⟨(k0_mult1 x).toNat + r.val, hr⟩ c) := by
  have hm := mult1_toNat hx
  have hox : (Scalar.subi x (k0_mult1 x)).toNat = x.toNat - (k0_mult1 x).toNat := by
    show (x - k0_mult1 x).toNat = _
    rw [BitVec.toNat_sub]; omega
  rw [new_eq]
  unfold Spec.blend
  by_cases h : x.toNat ≤ (k0_mult1 x).toNat + r.val ∧ (k0_mult1 x).toNat + r.val < x.toNat + 64 ∧ y.toNat ≤ c.val ∧ c.val < y.toNat + 64
  · have hw := (window_at x y (k0_mult1 x) r c hx hy (by omega)).mpr h
    have hp (b : Fin 4) := placed_at (Scalar.subi x (k0_mult1 x)) y p b r c (by omega) hy (by omega) ⟨h.2.2.1, h.2.2.2⟩
    have hd : r.val - (Scalar.subi x (k0_mult1 x)).toNat = (k0_mult1 x).toNat + r.val - x.toNat := by omega
    rw [hd] at hp
    refine Eq.trans ?_ (if_pos h).symm
    by_cases h3 : a.val < 3
    · refine Eq.trans ?_ (if_pos h3).symm
      refine (laid_low _ _ old ⟨a.val, h3⟩ r c hw).trans ?_
      rw [hp 3, ho 3]
      exact congrArg₂ (fun u v => Spec.colour u _ v _) (hp a) (ho a)
    · refine Eq.trans ?_ (if_neg h3).symm
      have e : a = (⟨3, by decide⟩ : Fin 4) := Fin.ext (by have := a.isLt; show a.val = 3; omega)
      refine (congrArg (fun b : Fin 4 => laid _ _ old (ix3 b r c)) e).trans ((laid_top _ _ old r c hw).trans ?_)
      exact congrArg₂ Spec.opacity (hp 3) (ho 3)
  · refine Eq.trans ?_ (if_neg h).symm
    exact (laid_off _ _ old a r c fun hw => h ((window_at x y (k0_mult1 x) r c hx hy (by omega)).mp hw)).trans (ho a)

theorem read_self (f : CanvasC Ideal) : canvas.view.read (Elt Ideal) f = f := rfl

/-- A trip pastes its sprite on the canvas. -/
theorem next_eq (i : grid0.Coords) (h2 : k0_cond2 i = 1#1) (wx wy ws : BitVec 32) (fi : ImgsC Ideal) (fc : CanvasC Ideal)
    (hx : wx.toNat ≤ 448) (hy : wy.toNat ≤ 448) (hs : ws.toNat < 256) :
    nextCanvas (F := Ideal) i h2 wx wy ws fi fc = Spec.blend fc (Spec.sheet fi ws.toNat) wx.toNat wy.toNat := by
  have hm := mult1_toNat hx
  unfold nextCanvas
  rw [dif_pos ⟨chk3_of hx i, chk2_of hs i⟩]
  unfold stripPiece
  rw [picture_eq i h2 ws _ hs fi]
  funext j
  refine (congrFun (read_self _).symm j).trans ?_
  have j0 : (j 0).val < 4 := (j 0).isLt
  have j1 : (j 1).val < 512 := (j 1).isLt
  have j2 : (j 2).val < 512 := (j 2).isLt
  by_cases h : (k0_mult1 wx).toNat ≤ (j 1).val ∧ (j 1).val < (k0_mult1 wx).toNat + 72
  · refine (View.read_writes_cons_unit_of_mem canvas.view fc _ _ _ j (ix3 (⟨(j 0).val, j0⟩ : Fin 4) (⟨(j 1).val - (k0_mult1 wx).toNat, by omega⟩ : Fin 72) (⟨(j 2).val, j2⟩ : Fin 512))
      (off3_eq wx) ?_).trans ?_
    · intro a
      match a with
      | ⟨0, _⟩ => exact (Nat.zero_add _).symm
      | ⟨1, _⟩ => show (j 1).val = (k0_mult1 wx).toNat + ((j 1).val - (k0_mult1 wx).toNat); omega
      | ⟨2, _⟩ => exact (Nat.zero_add _).symm
    · have hr : (k0_mult1 wx).toNat + ((j 1).val - (k0_mult1 wx).toNat) < 512 := by omega
      refine (new_at wx wy _ _ hx hy fc _ _ _ hr fun b => old_at i h2 wx _ fc b _ _ hr).trans ?_
      refine congrArg (Spec.blend fc _ _ _) (funext fun a => Fin.ext ?_)
      match a with
      | ⟨0, _⟩ => rfl
      | ⟨1, _⟩ => show (k0_mult1 wx).toNat + ((j 1).val - (k0_mult1 wx).toNat) = (j 1).val; omega
      | ⟨2, _⟩ => rfl
  · refine (View.read_writes_cons_unit_of_not_mem canvas.view fc _ _ [] j (off3_eq wx) (1 : Fin 3) ?_).trans ?_
    · show (j 1).val < (k0_mult1 wx).toNat ∨ (k0_mult1 wx).toNat + 72 ≤ (j 1).val
      omega
    · unfold Spec.blend
      rw [if_neg (by omega)]
      rfl

end Cert.KernelIdeal.Value
-- ==== Proof.ArgRow.lean ====
/- The greatest score of a row, found row by row or in the row alone. -/
module

public import proofs.«01_k».proof.Proof.Blend
public import Idealize.ShloMosaic.PureOps.Reduce

@[expose] public section

set_option maxRecDepth 16384

noncomputable section

namespace Cert.Spec

open Idealize.ShloMosaic
open Cert.ReferenceIdeal Cert.ReferenceIdeal.Gen
open Cert.KernelIdeal.Facts₀ (reducesTo_S512x256_S512_d1)

theorem eq_of_members {n : ℕ} {l l' : List (Fin n)} (h : l.Pairwise (· < ·)) (h' : l'.Pairwise (· < ·)) (hm : ∀ a, a ∈ l ↔ a ∈ l') : l = l' :=
  List.Perm.eq_of_pairwise (fun a b _ _ hab hba => absurd hab (lt_asymm hba)) h h'
    ((List.perm_ext_iff_of_nodup (h.imp fun h => ne_of_lt h) (h'.imp fun h => ne_of_lt h)).mpr hm)

/-- A row's places among all, in order. -/
theorem places_row (n : Fin 512) :
    ((List.finRange S512x256.numel).filter fun p => reducesTo_S512x256_S512_d1.drop (S512x256.rowMajor.symm p) = at512 n)
      = (List.finRange 256).map fun k => S512x256.rowMajor (ix2 n k) := by
  have hv (k : Fin 256) : (S512x256.rowMajor (ix2 n k)).val = n.val * 256 + k.val := Shape.rowMajor_val_two _
  refine eq_of_members ((List.pairwise_lt_finRange _).filter _) (List.pairwise_map.mpr ((List.pairwise_lt_finRange 256).imp fun {a b} hab => ?_)) fun p => ?_
  · show (S512x256.rowMajor (ix2 n a)).val < (S512x256.rowMajor (ix2 n b)).val
    rw [hv, hv]
    have : a.val < b.val := hab
    omega
  · rw [List.mem_filter, List.mem_map]
    have hd : (reducesTo_S512x256_S512_d1.drop (S512x256.rowMajor.symm p) = at512 n) ↔ (S512x256.rowMajor.symm p 0).val = n.val := by
      have h0 := Shape.ReducesTo.drop_apply_val_of_eq reducesTo_S512x256_S512_d1 (S512x256.rowMajor.symm p) (0 : Fin 1) (0 : Fin 2)
      constructor
      · intro h
        rw [← h0, h]; rfl
      · intro h
        rw [Shape.Idx.eq_ofFin (reducesTo_S512x256_S512_d1.drop (S512x256.rowMajor.symm p))]
        exact congrArg Shape.Idx.ofFin (Fin.ext (h0.trans h))
    constructor
    · rintro ⟨-, h⟩
      have h := hd.mp (of_decide_eq_true h)
      refine ⟨(S512x256.rowMajor.symm p) 1, List.mem_finRange _, ?_⟩
      rw [Equiv.apply_eq_iff_eq_symm_apply]
      refine Eq.trans ?_ (ix2_eta (S512x256.rowMajor.symm p))
      exact congrArg (fun a => ix2 a _) (Fin.ext h.symm)
    · rintro ⟨k, -, rfl⟩
      refine ⟨List.mem_finRange _, decide_eq_true (hd.mpr ?_)⟩
      rw [Equiv.symm_apply_apply]; rfl

theorem places_all (j : S_.Idx) :
    ((List.finRange S256.numel).filter fun p => reducesTo_S256_S_d0.drop (S256.rowMajor.symm p) = j)
      = (List.finRange 256).map fun k => S256.rowMajor (ix1 k) := by
  have hv (k : Fin 256) : (S256.rowMajor (ix1 k)).val = k.val := Shape.rowMajor_val_one _
  refine eq_of_members ((List.pairwise_lt_finRange _).filter _) (List.pairwise_map.mpr ((List.pairwise_lt_finRange 256).imp fun {a b} hab => ?_)) fun p => ?_
  · show (S256.rowMajor (ix1 a)).val < (S256.rowMajor (ix1 b)).val
    rw [hv, hv]
    exact hab
  · rw [List.mem_filter, List.mem_map]
    constructor
    · rintro ⟨-, h⟩
      refine ⟨(S256.rowMajor.symm p) 0, List.mem_finRange _, ?_⟩
      rw [Equiv.apply_eq_iff_eq_symm_apply]
      exact ix1_eta (S256.rowMajor.symm p)
    · rintro ⟨k, -, rfl⟩
      exact ⟨List.mem_finRange _, decide_eq_true (funext fun a : Fin 0 => a.elim0)⟩

theorem fiber_row (s : FVec Ideal S512x256 .f32) (n : Fin 512) :
    Host.argReduceFiber s (iotaInDim S512x256 32 1) reducesTo_S512x256_S512_d1 (at512 n)
      = (List.finRange 256).map fun k => (s (ix2 n k), BitVec.ofNat 32 k.val) := by
  unfold Host.argReduceFiber
  rw [places_row, List.map_map]
  refine List.map_congr_left fun k _ => ?_
  show (s (S512x256.rowMajor.symm (S512x256.rowMajor (ix2 n k))), BitVec.ofNat 32 ((S512x256.rowMajor.symm (S512x256.rowMajor (ix2 n k))) 1).val) = _
  rw [Equiv.symm_apply_apply]; rfl

theorem fiber_all (s : FVec Ideal S256 .f32) (j : S_.Idx) :
    Host.argReduceFiber s (iotaInDim S256 32 0) reducesTo_S256_S_d0 j = (List.finRange 256).map fun k => (s (ix1 k), BitVec.ofNat 32 k.val) := by
  unfold Host.argReduceFiber
  rw [places_all, List.map_map]
  refine List.map_congr_left fun k _ => ?_
  show (s (S256.rowMajor.symm (S256.rowMajor (ix1 k))), BitVec.ofNat 32 ((S256.rowMajor.symm (S256.rowMajor (ix1 k))) 0).val) = _
  rw [Equiv.symm_apply_apply]; rfl

open Cert.ReferenceIdeal.Trip

theorem scoreRow_at (s : FVec Ideal S512x256 .f32) (i : IVec S_ 32) (n : Fin 512) (h : num i = n.val) (k : Fin 256) : scoreRow s i (ix1 k) = s (ix2 n k) := by
  unfold scoreRow sl2
  pointwise
  refine congrArg s (funext fun a => Fin.ext ?_)
  have hn := n.isLt
  match a with
  | ⟨0, _⟩ =>
    show (min (max (num i) 0) (((512 : ℕ) - (1 : ℕ) : ℕ) : Int)).toNat = n.val
    omega
  | ⟨1, _⟩ =>
    show (min (max (0 : Int) 0) (((256 : ℕ) - (256 : ℕ) : ℕ) : Int)).toNat + k.val = k.val
    omega

/-- The reference's choice of a sprite is the row's. -/
theorem bestOf_row (s : FVec Ideal S512x256 .f32) (i : IVec S_ 32) (n : Fin 512) (h : num i = n.val) : bestOf (scoreRow s i) = fun _ => best s (at512 n) := by
  funext j
  unfold bestOf best
  rw [Ideal.argReduce_eq_reduce2, Ideal.argReduce_eq_reduce2, Host.reduce2_eq_foldl_fiber, Host.reduce2_eq_foldl_fiber, fiber_row, fiber_all]
  simp only [scoreRow_at s i n h]
  rfl

theorem pick_at (x : IVec S512 32) (i : IVec S_ 32) (n : Fin 512) (h : num i = n.val) : pick x i = fun _ => x (at512 n) := by
  funext j
  unfold pick sl1
  pointwise
  refine congrArg x (funext fun a => Fin.ext ?_)
  have hn := n.isLt
  match a with
  | ⟨0, _⟩ =>
    show (min (max (num i) 0) (((512 : ℕ) - (1 : ℕ) : ℕ) : Int)).toNat = n.val
    omega

theorem bit_and {a b : BitVec 1} (h : IntOp.andi a b = 1#1) : a = 1#1 ∧ b = 1#1 := by
  revert a b; decide

theorem of_sge {a : BitVec 32} (h : IntOp.cmpi .sge a 0#32 = 1#1) : 0 ≤ a.toInt := by
  by_contra hn
  have : IntOp.cmpi .sge a 0#32 = 0#1 := by
    unfold IntOp.cmpi
    have h3 : ¬ 0 ≤ a.toInt := hn
    simp [BitVec.sle_eq_decide, h3]
  rw [this] at h
  exact absurd h (by decide)

/-- A row inside the picture starts inside it. -/
theorem low_of_valid {F : FTy → Type} [FloatOps F] (A : FVec F S32x512x261 .f32) (n : Fin 512) (h : valid A (at512 n) = 1#1) :
    0 ≤ (x1 A (at512 n)).toInt ∧ 0 ≤ (y1 A (at512 n)).toInt :=
  ⟨of_sge (bit_and (bit_and (bit_and h).1).1).1, of_sge (bit_and (bit_and (bit_and h).1).1).2⟩

end Cert.Spec
-- ==== Proof.REntry.lean ====
/- What the reference holds when its loop is entered: the words of the arguments, and a picture of ones. -/
module

public import proofs.«01_k».proof.Proof.Spec
public import proofs.«01_k».proof.Proof.RFrame
public import Idealize.ShloMosaic.Lib.StableHlo.RunClose

@[expose] public section

set_option maxRecDepth 16384

noncomputable section

namespace Cert.ReferenceIdeal.Entry

open Cert.ReferenceIdeal Cert.ReferenceIdeal.Gen Cert.ReferenceIdeal.Fold
open Idealize.ShloMosaic Idealize.ShloMosaic.TcCoe Idealize.ShloMosaic.StableHlo

variable {F : FTy → Type} [FloatOps F]
variable (m : (ℓ : Loc nD τ sig) → Buf (Elt F) ℓ) (c : Dev nD)

abbrev E : Valuation τ sig (Elt F) := entryContents pres m c

def at0 : Valuation τ sig (Elt F) := fun b => m (c, b)
def at1 : Valuation τ sig (Elt F) := after pre0 (at0 m c)
def at2 : Valuation τ sig (Elt F) := after pre1 (at1 m c)
def at3 : Valuation τ sig (Elt F) := after pre2 (at2 m c)
def at4 : Valuation τ sig (Elt F) := after pre3 (at3 m c)
def at5 : Valuation τ sig (Elt F) := after pre4 (at4 m c)
def at6 : Valuation τ sig (Elt F) := after pre5 (at5 m c)
def at7 : Valuation τ sig (Elt F) := after pre6 (at6 m c)
def at8 : Valuation τ sig (Elt F) := after pre7 (at7 m c)
def at9 : Valuation τ sig (Elt F) := after pre8 (at8 m c)
def at10 : Valuation τ sig (Elt F) := after pre9 (at9 m c)
def at11 : Valuation τ sig (Elt F) := after pre10 (at10 m c)
theorem end_at (b : Ref sig .tc) : E m c (Proc.devRef .tc b) = at11 m c (Proc.devRef .tc b) := by
  unfold E entryContents
  simp only [afterL_cons, afterL_nil]
  rfl
abbrev T11 : List (Ref sig .tc) := []
theorem keep11 (b : Ref sig .tc) (h : b ∉ T11) : at11 m c (Proc.devRef .tc b) = E m c (Proc.devRef .tc b) := (end_at m c b).symm
abbrev T10 : List (Ref sig .tc) := pre10_W ++ T11
theorem keep10 (b : Ref sig .tc) (h : b ∉ T10) : at10 m c (Proc.devRef .tc b) = E m c (Proc.devRef .tc b) :=
  (after_of_writes_sub _ _ pre10_writes (fun hb => h (List.mem_append_left _ hb))).symm.trans (keep11 m c b fun hb => h (List.mem_append_right _ hb))
abbrev T9 : List (Ref sig .tc) := pre9_W ++ T10
theorem keep9 (b : Ref sig .tc) (h : b ∉ T9) : at9 m c (Proc.devRef .tc b) = E m c (Proc.devRef .tc b) :=
  (after_of_writes_sub _ _ pre9_writes (fun hb => h (List.mem_append_left _ hb))).symm.trans (keep10 m c b fun hb => h (List.mem_append_right _ hb))
abbrev T8 : List (Ref sig .tc) := pre8_W ++ T9
theorem keep8 (b : Ref sig .tc) (h : b ∉ T8) : at8 m c (Proc.devRef .tc b) = E m c (Proc.devRef .tc b) :=
  (after_of_writes_sub _ _ pre8_writes (fun hb => h (List.mem_append_left _ hb))).symm.trans (keep9 m c b fun hb => h (List.mem_append_right _ hb))
abbrev T7 : List (Ref sig .tc) := pre7_W ++ T8
theorem keep7 (b : Ref sig .tc) (h : b ∉ T7) : at7 m c (Proc.devRef .tc b) = E m c (Proc.devRef .tc b) :=
  (after_of_writes_sub _ _ pre7_writes (fun hb => h (List.mem_append_left _ hb))).symm.trans (keep8 m c b fun hb => h (List.mem_append_right _ hb))
abbrev T6 : List (Ref sig .tc) := pre6_W ++ T7
theorem keep6 (b : Ref sig .tc) (h : b ∉ T6) : at6 m c (Proc.devRef .tc b) = E m c (Proc.devRef .tc b) :=
  (after_of_writes_sub _ _ pre6_writes (fun hb => h (List.mem_append_left _ hb))).symm.trans (keep7 m c b fun hb => h (List.mem_append_right _ hb))
abbrev T5 : List (Ref sig .tc) := pre5_W ++ T6
theorem keep5 (b : Ref sig .tc) (h : b ∉ T5) : at5 m c (Proc.devRef .tc b) = E m c (Proc.devRef .tc b) :=
  (after_of_writes_sub _ _ pre5_writes (fun hb => h (List.mem_append_left _ hb))).symm.trans (keep6 m c b fun hb => h (List.mem_append_right _ hb))
abbrev T4 : List (Ref sig .tc) := pre4_W ++ T5
theorem keep4 (b : Ref sig .tc) (h : b ∉ T4) : at4 m c (Proc.devRef .tc b) = E m c (Proc.devRef .tc b) :=
  (after_of_writes_sub _ _ pre4_writes (fun hb => h (List.mem_append_left _ hb))).symm.trans (keep5 m c b fun hb => h (List.mem_append_right _ hb))
abbrev T3 : List (Ref sig .tc) := pre3_W ++ T4
theorem keep3 (b : Ref sig .tc) (h : b ∉ T3) : at3 m c (Proc.devRef .tc b) = E m c (Proc.devRef .tc b) :=
  (after_of_writes_sub _ _ pre3_writes (fun hb => h (List.mem_append_left _ hb))).symm.trans (keep4 m c b fun hb => h (List.mem_append_right _ hb))
abbrev T2 : List (Ref sig .tc) := pre2_W ++ T3
theorem keep2 (b : Ref sig .tc) (h : b ∉ T2) : at2 m c (Proc.devRef .tc b) = E m c (Proc.devRef .tc b) :=
  (after_of_writes_sub _ _ pre2_writes (fun hb => h (List.mem_append_left _ hb))).symm.trans (keep3 m c b fun hb => h (List.mem_append_right _ hb))
abbrev T1 : List (Ref sig .tc) := pre1_W ++ T2
theorem keep1 (b : Ref sig .tc) (h : b ∉ T1) : at1 m c (Proc.devRef .tc b) = E m c (Proc.devRef .tc b) :=
  (after_of_writes_sub _ _ pre1_writes (fun hb => h (List.mem_append_left _ hb))).symm.trans (keep2 m c b fun hb => h (List.mem_append_right _ hb))
abbrev T0 : List (Ref sig .tc) := pre0_W ++ T1
theorem keep0 (b : Ref sig .tc) (h : b ∉ T0) : at0 m c (Proc.devRef .tc b) = E m c (Proc.devRef .tc b) :=
  (after_of_writes_sub _ _ pre0_writes (fun hb => h (List.mem_append_left _ hb))).symm.trans (keep1 m c b fun hb => h (List.mem_append_right _ hb))
theorem v0_eq : E m c main_v0 = broadcastInDim S32x4x512x512 ![] bcast_S_S32x4x512x512 (constant S_ .f32 0x3F800000#32) := by
  refine (keep1 m c main_v0 (by decide)).symm.trans ?_
  unfold at1
  after_results_simp
  all_goals try simp only [TRef.ofBuf, TRef.toBuf, cast_cast, cast_eq, id]
  all_goals rfl
theorem v2_eq : E m c main_v2 = Spec.rows (E m c main_arg0) := by
  refine (keep1 m c main_v2 (by decide)).symm.trans ?_
  unfold at1
  after_results_simp
  all_goals try simp only [TRef.ofBuf, TRef.toBuf, cast_cast, cast_eq, id]
  all_goals simp only [keep0 m c main_arg0 (by decide)]
  all_goals rfl
theorem v6_eq : E m c main_v6 = mulf (shapeCast S512 (extractStridedSlice S512x1 ![0, 0] (Spec.rows (E m c main_arg0)) slices_S512x261_S512x1_0_0) shapeCasts_S512x1_S512) (broadcastInDim S512 ![] bcast_S_S512 (constant S_ .f32 0x44000000#32)) := by
  refine (keep1 m c main_v6 (by decide)).symm.trans ?_
  unfold at1
  after_results_simp
  all_goals try simp only [TRef.ofBuf, TRef.toBuf, cast_cast, cast_eq, id]
  all_goals simp only [keep0 m c main_arg0 (by decide)]
  all_goals rfl
theorem v7_eq : E m c main_v7 = Host.roundeven (E m c main_v6) := by
  refine (keep2 m c main_v7 (by decide)).symm.trans ?_
  unfold at2
  after_results_simp
  all_goals try simp only [TRef.ofBuf, TRef.toBuf, cast_cast, cast_eq, id]
  all_goals simp only [keep1 m c main_v6 (by decide)]
  all_goals rfl
theorem v8_eq : E m c main_v8 = fptosi 32 (E m c main_v7) := by
  refine (keep3 m c main_v8 (by decide)).symm.trans ?_
  unfold at3
  after_results_simp
  all_goals try simp only [TRef.ofBuf, TRef.toBuf, cast_cast, cast_eq, id]
  all_goals simp only [keep2 m c main_v7 (by decide)]
  all_goals rfl
theorem v12_eq : E m c main_v12 = mulf (shapeCast S512 (extractStridedSlice S512x1 ![0, 1] (E m c main_v2) slices_S512x261_S512x1_0_1) shapeCasts_S512x1_S512) (broadcastInDim S512 ![] bcast_S_S512 (constant S_ .f32 0x44000000#32)) := by
  refine (keep3 m c main_v12 (by decide)).symm.trans ?_
  unfold at3
  after_results_simp
  all_goals try simp only [TRef.ofBuf, TRef.toBuf, cast_cast, cast_eq, id]
  all_goals simp only [keep2 m c main_v2 (by decide)]
  all_goals rfl
theorem v13_eq : E m c main_v13 = Host.roundeven (E m c main_v12) := by
  refine (keep4 m c main_v13 (by decide)).symm.trans ?_
  unfold at4
  after_results_simp
  all_goals try simp only [TRef.ofBuf, TRef.toBuf, cast_cast, cast_eq, id]
  all_goals simp only [keep3 m c main_v12 (by decide)]
  all_goals rfl
theorem v14_eq : E m c main_v14 = fptosi 32 (E m c main_v13) := by
  refine (keep5 m c main_v14 (by decide)).symm.trans ?_
  unfold at5
  after_results_simp
  all_goals try simp only [TRef.ofBuf, TRef.toBuf, cast_cast, cast_eq, id]
  all_goals simp only [keep4 m c main_v13 (by decide)]
  all_goals rfl
theorem v18_eq : E m c main_v18 = mulf (shapeCast S512 (extractStridedSlice S512x1 ![0, 2] (E m c main_v2) slices_S512x261_S512x1_0_2) shapeCasts_S512x1_S512) (broadcastInDim S512 ![] bcast_S_S512 (constant S_ .f32 0x44000000#32)) := by
  refine (keep5 m c main_v18 (by decide)).symm.trans ?_
  unfold at5
  after_results_simp
  all_goals try simp only [TRef.ofBuf, TRef.toBuf, cast_cast, cast_eq, id]
  all_goals simp only [keep4 m c main_v2 (by decide)]
  all_goals rfl
theorem v19_eq : E m c main_v19 = Host.roundeven (E m c main_v18) := by
  refine (keep6 m c main_v19 (by decide)).symm.trans ?_
  unfold at6
  after_results_simp
  all_goals try simp only [TRef.ofBuf, TRef.toBuf, cast_cast, cast_eq, id]
  all_goals simp only [keep5 m c main_v18 (by decide)]
  all_goals rfl
theorem v20_eq : E m c main_v20 = fptosi 32 (E m c main_v19) := by
  refine (keep7 m c main_v20 (by decide)).symm.trans ?_
  unfold at7
  after_results_simp
  all_goals try simp only [TRef.ofBuf, TRef.toBuf, cast_cast, cast_eq, id]
  all_goals simp only [keep6 m c main_v19 (by decide)]
  all_goals rfl
theorem v24_eq : E m c main_v24 = mulf (shapeCast S512 (extractStridedSlice S512x1 ![0, 3] (E m c main_v2) slices_S512x261_S512x1_0_3) shapeCasts_S512x1_S512) (broadcastInDim S512 ![] bcast_S_S512 (constant S_ .f32 0x44000000#32)) := by
  refine (keep7 m c main_v24 (by decide)).symm.trans ?_
  unfold at7
  after_results_simp
  all_goals try simp only [TRef.ofBuf, TRef.toBuf, cast_cast, cast_eq, id]
  all_goals simp only [keep6 m c main_v2 (by decide)]
  all_goals rfl
theorem v25_eq : E m c main_v25 = Host.roundeven (E m c main_v24) := by
  refine (keep8 m c main_v25 (by decide)).symm.trans ?_
  unfold at8
  after_results_simp
  all_goals try simp only [TRef.ofBuf, TRef.toBuf, cast_cast, cast_eq, id]
  all_goals simp only [keep7 m c main_v24 (by decide)]
  all_goals rfl
theorem v26_eq : E m c main_v26 = fptosi 32 (E m c main_v25) := by
  refine (keep9 m c main_v26 (by decide)).symm.trans ?_
  unfold at9
  after_results_simp
  all_goals try simp only [TRef.ofBuf, TRef.toBuf, cast_cast, cast_eq, id]
  all_goals simp only [keep8 m c main_v25 (by decide)]
  all_goals rfl
theorem v28_eq : E m c main_v28 = shapeCast S512 (extractStridedSlice S512x1 ![0, 4] (E m c main_v2) slices_S512x261_S512x1_0_4) shapeCasts_S512x1_S512 := by
  refine (keep9 m c main_v28 (by decide)).symm.trans ?_
  unfold at9
  after_results_simp
  all_goals try simp only [TRef.ofBuf, TRef.toBuf, cast_cast, cast_eq, id]
  all_goals simp only [keep8 m c main_v2 (by decide)]
  all_goals rfl
theorem v29_eq : E m c main_v29 = extractStridedSlice S512x256 ![0, 5] (E m c main_v2) slices_S512x261_S512x256_0_5 := by
  refine (keep9 m c main_v29 (by decide)).symm.trans ?_
  unfold at9
  after_results_simp
  all_goals try simp only [TRef.ofBuf, TRef.toBuf, cast_cast, cast_eq, id]
  all_goals simp only [keep8 m c main_v2 (by decide)]
  all_goals rfl
theorem v30_eq : E m c main_v30 = Spec.order (E m c main_v28) := by
  refine (keep10 m c main_v30 (by decide)).symm.trans ?_
  unfold at10
  after_results_simp
  all_goals try simp only [TRef.ofBuf, TRef.toBuf, cast_cast, cast_eq, id]
  all_goals simp only [keep9 m c main_v28 (by decide)]
  all_goals rfl
theorem v33_0_eq : E m c main_v33_0 = (E m c main_v30) := by
  refine (keep11 m c main_v33_0 (by decide)).symm.trans ?_
  unfold at11
  after_results_simp
  all_goals try simp only [TRef.ofBuf, TRef.toBuf, cast_cast, cast_eq, id]
  all_goals simp only [keep10 m c main_v30 (by decide)]
  all_goals rfl
theorem v33_1_eq : E m c main_v33_1 = (E m c main_v8) := by
  refine (keep11 m c main_v33_1 (by decide)).symm.trans ?_
  unfold at11
  after_results_simp
  all_goals try simp only [TRef.ofBuf, TRef.toBuf, cast_cast, cast_eq, id]
  all_goals simp only [keep10 m c main_v8 (by decide)]
  all_goals rfl
theorem v33_2_eq : E m c main_v33_2 = (E m c main_v20) := by
  refine (keep11 m c main_v33_2 (by decide)).symm.trans ?_
  unfold at11
  after_results_simp
  all_goals try simp only [TRef.ofBuf, TRef.toBuf, cast_cast, cast_eq, id]
  all_goals simp only [keep10 m c main_v20 (by decide)]
  all_goals rfl
theorem v33_3_eq : E m c main_v33_3 = (E m c main_v14) := by
  refine (keep11 m c main_v33_3 (by decide)).symm.trans ?_
  unfold at11
  after_results_simp
  all_goals try simp only [TRef.ofBuf, TRef.toBuf, cast_cast, cast_eq, id]
  all_goals simp only [keep10 m c main_v14 (by decide)]
  all_goals rfl
theorem v33_4_eq : E m c main_v33_4 = (E m c main_v26) := by
  refine (keep11 m c main_v33_4 (by decide)).symm.trans ?_
  unfold at11
  after_results_simp
  all_goals try simp only [TRef.ofBuf, TRef.toBuf, cast_cast, cast_eq, id]
  all_goals simp only [keep10 m c main_v26 (by decide)]
  all_goals rfl
theorem v33_5_eq : E m c main_v33_5 = (E m c main_v29) := by
  refine (keep11 m c main_v33_5 (by decide)).symm.trans ?_
  unfold at11
  after_results_simp
  all_goals try simp only [TRef.ofBuf, TRef.toBuf, cast_cast, cast_eq, id]
  all_goals simp only [keep10 m c main_v29 (by decide)]
  all_goals rfl
theorem v33_6_eq : E m c main_v33_6 = (E m c main_arg1) := by
  refine (keep11 m c main_v33_6 (by decide)).symm.trans ?_
  unfold at11
  after_results_simp
  all_goals try simp only [TRef.ofBuf, TRef.toBuf, cast_cast, cast_eq, id]
  all_goals simp only [keep10 m c main_arg1 (by decide)]
  all_goals rfl
theorem v33_8_eq : E m c main_v33_8 = shapeCast S4x512x512 (extractStridedSlice S1x4x512x512 ![31, 0, 0, 0] (E m c main_v0) slices_S32x4x512x512_S1x4x512x512_31_0_0_0) shapeCasts_S1x4x512x512_S4x512x512 := by
  refine (keep11 m c main_v33_8 (by decide)).symm.trans ?_
  unfold at11
  after_results_simp
  all_goals try simp only [TRef.ofBuf, TRef.toBuf, cast_cast, cast_eq, id]
  all_goals simp only [keep10 m c main_v0 (by decide)]
  all_goals rfl

theorem arg0_eq : E m c main_arg0 = m (c, Proc.devRef .tc main_arg0) := entry_keep m c main_arg0 (by decide +kernel)
theorem arg1_eq : E m c main_arg1 = m (c, Proc.devRef .tc main_arg1) := entry_keep m c main_arg1 (by decide +kernel)
theorem order_eq : E m c main_v33_0 = Spec.order (Spec.depth (m (c, Proc.devRef .tc main_arg0))) := by rw [v33_0_eq, v30_eq, v28_eq, v2_eq, arg0_eq]; rfl
theorem cx_eq : E m c main_v33_1 = Spec.cx (m (c, Proc.devRef .tc main_arg0)) := by rw [v33_1_eq, v8_eq, v7_eq, v6_eq, arg0_eq]; rfl
theorem ch_eq : E m c main_v33_2 = Spec.ch (m (c, Proc.devRef .tc main_arg0)) := by rw [v33_2_eq, v20_eq, v19_eq, v18_eq, v2_eq, arg0_eq]; rfl
theorem cy_eq : E m c main_v33_3 = Spec.cy (m (c, Proc.devRef .tc main_arg0)) := by rw [v33_3_eq, v14_eq, v13_eq, v12_eq, v2_eq, arg0_eq]; rfl
theorem cw_eq : E m c main_v33_4 = Spec.cw (m (c, Proc.devRef .tc main_arg0)) := by rw [v33_4_eq, v26_eq, v25_eq, v24_eq, v2_eq, arg0_eq]; rfl
theorem scores_eq : E m c main_v33_5 = Spec.scores (m (c, Proc.devRef .tc main_arg0)) := by rw [v33_5_eq, v29_eq, v2_eq, arg0_eq]; rfl
theorem images_eq : E m c main_v33_6 = m (c, Proc.devRef .tc main_arg1) := by rw [v33_6_eq, arg1_eq]

end Cert.ReferenceIdeal.Entry
-- ==== Proof.RStep.lean ====
/- One trip of the reference's loop: the row's sprite is pasted when the row is inside the picture. -/
module

public import proofs.«01_k».proof.Proof.ArgRow
public import proofs.«01_k».proof.Proof.REntry

@[expose] public section

set_option maxRecDepth 16384

noncomputable section

namespace Cert.ReferenceIdeal.Step

open Cert.ReferenceIdeal Cert.ReferenceIdeal.Gen Cert.ReferenceIdeal.Fold Cert.ReferenceIdeal.Trip
open Idealize.ShloMosaic Idealize.ShloMosaic.TcCoe Idealize.ShloMosaic.StableHlo
open Cert.Spec (at512 validRow blend sheet)

abbrev Xs := FVec Ideal S32x512x261 .f32
abbrev Picture := FVec Ideal S4x512x512 .f32
abbrev Sheets := FVec Ideal S256x4x64x64 .f32

/-- What a row does to the picture. -/
def pasteRow (A : Xs) (imgs : Sheets) (img : Picture) (n : Fin 512) : Picture :=
  blend img (sheet imgs (Spec.best (Spec.scores A) (at512 n)).toNat) (min (Spec.x1 A (at512 n)).toInt.toNat 448) (min (Spec.y1 A (at512 n)).toInt.toNat 448)

section One

variable (X : Valuation τ sig (Elt Ideal)) (A : Xs) (imgs : Sheets) (n : Fin 512)
  (h0 : num (pick (inner X main_v33_0) (inner X main_v33_7)) = n.val)
  (h1 : inner X main_v33_1 = Spec.cx A) (h2 : inner X main_v33_2 = Spec.ch A) (h3 : inner X main_v33_3 = Spec.cy A)
  (h4 : inner X main_v33_4 = Spec.cw A) (h5 : inner X main_v33_5 = Spec.scores A) (h6 : inner X main_v33_6 = imgs)

include h0
theorem row_num : num (wrap (inner X main_while0b_v37) 512#32) = n.val := by
  rw [v37_eq, Spec.wrap_num _ _ (by rw [h0]; omega), h0]

theorem row_pick (x : IVec S512 32) : pick x (wrap (inner X main_while0b_v37) 512#32) = fun _ => x (at512 n) :=
  Spec.pick_at x _ n (row_num X n h0)

include h1 h2 in
theorem low_x : inner X main_while0b_v49 = fun _ => Spec.x1 A (at512 n) := by
  rw [v49_eq, v48_eq, v42_eq, v47_eq, c_17_eq, row_pick X n h0, row_pick X n h0, h1, h2]; rfl

include h3 h4 in
theorem low_y : inner X main_while0b_v61 = fun _ => Spec.y1 A (at512 n) := by
  rw [v61_eq, v60_eq, v54_eq, v59_eq, c_22_eq, row_pick X n h0, row_pick X n h0, h3, h4]; rfl

include h1 h2 in
theorem high_x : inner X main_while0b_v74 = fun _ => Spec.x2 A (at512 n) := by
  rw [v74_eq, v73_eq, v66_eq, v72_eq, c_28_eq, row_pick X n h0, row_pick X n h0, h1, h2]; rfl

include h1 h2 h3 h4 in
theorem inside_row : inner X main_while0b_v94 = fun _ => Spec.valid A (at512 n) := by
  rw [v94_eq, low_x X A n h0 h1 h2, low_y X A n h0 h3 h4, high_x X A n h0 h1 h2, v86_eq, v79_eq, v85_eq, c_34_eq, row_pick X n h0, row_pick X n h0, h3, h4]; rfl

include h5 in
theorem best_row : inner X main_while0b_v103 = fun _ => Spec.best (Spec.scores A) (at512 n) := by
  rw [v103_eq, v102_eq, h5]
  exact Spec.bestOf_row _ _ n (row_num X n h0)

include h1 h2 h3 h4 h5 h6 in
theorem picture_row : inner X main_while0b_v155 =
    if validRow (Spec.valid A) n = true then pasteRow A imgs (inner X main_v33_8) n else inner X main_v33_8 := by
  have hb : num (inner X main_while0b_v103) = (Spec.best (Spec.scores A) (at512 n)).toNat := by
    rw [best_row X A n h0 h5]
    have := Spec.best_lt (Spec.scores A) (at512 n)
    show (Spec.best (Spec.scores A) (at512 n)).toInt = _
    rw [BitVec.toInt_eq_toNat_cond, if_pos (by omega)]
  rw [v155_eq, inside_row X A n h0 h1 h2 h3 h4]
  by_cases hv : Spec.valid A (at512 n) = 1#1
  · rw [if_pos (by rw [validRow, hv]; rfl)]
    have hlow : 0 ≤ (Spec.x1 A (at512 n)).toInt ∧ 0 ≤ (Spec.y1 A (at512 n)).toInt := Spec.low_of_valid A n hv
    have e : inner X main_while0b_v154 = pasteRow A imgs (inner X main_v33_8) n := by
      rw [v154_eq, v147_eq, v145_eq, v146_eq, v118_eq, v122_eq, v130_eq, v134_eq, v117_eq, h6, Spec.sprite_at imgs _ _ (Spec.best_lt _ _) hb,
        low_x X A n h0 h1 h2, low_y X A n h0 h3 h4]
      exact Spec.put_blend _ _ _ _ hlow.1 hlow.2
    rw [e]
    funext j
    show Scalar.select (Spec.valid A (at512 n)) _ _ = _
    rw [hv]; rfl
  · rw [if_neg (by rw [validRow]; simpa using hv)]
    funext j
    show Scalar.select (Spec.valid A (at512 n)) _ _ = _
    exact if_neg hv

end One

theorem picture_kept (X : Valuation τ sig (Elt Ideal)) : after body13 X main_v33_8 = X main_while0b_v155 := by
  after_results_simp
  all_goals rfl

theorem iv_num {k : ℕ} (hk : k < 512) : (Scf.iv 0#32 1#32 k).toInt = k := by
  have e : Scf.iv 0#32 1#32 k = BitVec.ofNat 32 k := by
    unfold Scf.iv
    rw [BitVec.mul_one, BitVec.zero_add]
  rw [e, Spec.toInt_small hk]

variable (m : (ℓ : Loc nD τ sig) → Buf (Elt Ideal) ℓ) (c : Dev nD)

/-- The rows and the sprites the reference is given. -/
abbrev X0 : Xs := m (c, Proc.devRef .tc main_arg0)
abbrev I0 : Sheets := m (c, Proc.devRef .tc main_arg1)
/-- The picture before a trip. -/
abbrev imageAt (k : ℕ) : Picture := at_ m k c (Proc.devRef .tc main_v33_8)

theorem held (k : ℕ) (b : Ref sig .tc) (h1 : b ∉ bodies_W) (h2 : b ∉ test_W) (h3 : b ∉ loop_W) :
    inner (after test (at_ m k c)) (Proc.devRef .tc b) = entryContents pres m c (Proc.devRef .tc b) := by
  rw [inner_keep _ b h1, after_of_writes_sub test _ test_writes h2, at_keep m c b h3 k]

/-- One trip of the loop. -/
theorem step {k : ℕ} (hk : k < 512) (n : Fin 512)
    (hn : Spec.order (Spec.depth (X0 m c)) (at512 ⟨k, hk⟩) = BitVec.ofNat 32 n.val) :
    imageAt m c (k + 1) =
      if validRow (Spec.valid (X0 m c)) n = true
        then pasteRow (X0 m c) (I0 m c) (imageAt m c k) n
        else imageAt m c k := by
  have hi : inner (after test (at_ m k c)) (Proc.devRef .tc main_v33_8) = at_ m k c (Proc.devRef .tc main_v33_8) := by
    rw [inner_keep _ main_v33_8 (by decide +kernel), after_of_writes_sub test _ test_writes (by decide +kernel)]
  have h7 : inner (after test (at_ m k c)) (Proc.devRef .tc main_v33_7) = fun _ => Scf.iv 0#32 1#32 k := by
    rw [inner_keep _ main_v33_7 (by decide +kernel), after_of_writes_sub test _ test_writes (by decide +kernel), counter]
  have ho : inner (after test (at_ m k c)) (Proc.devRef .tc main_v33_0) = Spec.order (Spec.depth (X0 m c)) :=
    (held m c k main_v33_0 (by decide +kernel) (by decide +kernel) (by decide +kernel)).trans (Entry.order_eq m c)
  have h0 : num (pick (inner (after test (at_ m k c)) (Proc.devRef .tc main_v33_0)) (inner (after test (at_ m k c)) (Proc.devRef .tc main_v33_7))) = n.val := by
    rw [h7, ho, Spec.pick_at _ _ ⟨k, hk⟩ (iv_num hk)]
    show (Spec.order (Spec.depth (X0 m c)) (at512 ⟨k, hk⟩)).toInt = _
    rw [hn, Spec.toInt_small n.isLt]
  show at_ m (k + 1) c (Proc.devRef .tc main_v33_8) = _
  rw [at_succ, picture_kept]
  refine (picture_row _ _ _ n h0
    ((held m c k main_v33_1 (by decide +kernel) (by decide +kernel) (by decide +kernel)).trans (Entry.cx_eq m c))
    ((held m c k main_v33_2 (by decide +kernel) (by decide +kernel) (by decide +kernel)).trans (Entry.ch_eq m c))
    ((held m c k main_v33_3 (by decide +kernel) (by decide +kernel) (by decide +kernel)).trans (Entry.cy_eq m c))
    ((held m c k main_v33_4 (by decide +kernel) (by decide +kernel) (by decide +kernel)).trans (Entry.cw_eq m c))
    ((held m c k main_v33_5 (by decide +kernel) (by decide +kernel) (by decide +kernel)).trans (Entry.scores_eq m c))
    ((held m c k main_v33_6 (by decide +kernel) (by decide +kernel) (by decide +kernel)).trans (Entry.images_eq m c))).trans ?_
  rw [hi]

/-- The picture before the first trip: ones. -/
theorem start : imageAt m c 0 = fun _ => Ideal.ofBits .f32 0x3F800000#32 := by
  show Entry.E m c main_v33_8 = _
  rw [Entry.v33_8_eq, Entry.v0_eq]
  rfl

end Cert.ReferenceIdeal.Step
-- ==== Proof.RValue.lean ====
/- The reference's result: pictures of ones, the last with the rows pasted. -/
module

public import proofs.«01_k».proof.Proof.RStep
public import Idealize.ShloMosaic.Lib.Routing.OpsSet

@[expose] public section

set_option maxRecDepth 16384

noncomputable section

namespace Cert.ReferenceIdeal.Step

open Cert.ReferenceIdeal Cert.ReferenceIdeal.Gen Cert.ReferenceIdeal.Fold Cert.ReferenceIdeal.Trip
open Idealize.ShloMosaic Idealize.ShloMosaic.TcCoe Idealize.ShloMosaic.StableHlo

abbrev one : EReal := Ideal.ofBits .f32 0x3F800000#32

/-- The colours of pictures of ones, the last one's those given. -/
def lastPicture (p : Picture) : FVec Ideal S32x3x512x512 .f32 := fun i =>
  if (i 0).val = 31 then p (ix3 ⟨(i 1).val, lt_of_lt_of_le (i 1).isLt (Nat.le_succ 3)⟩ (i 2) (i 3)) else one

abbrev lastWord : IVec S1 32 := broadcastInDim S1 ![] bcast_S_S1 (constantI S_ 32 31#32)

theorem lands (j : S4x512x512.Idx) (i : S32x4x512x512.Idx) :
    scatter_S32x4x512x512_S1_S4x512x512_012_0_0_0.resultIdx? j lastWord = some i
      ↔ 31 = (i 0).val ∧ (j 0).val = (i 1).val ∧ (j 1).val = (i 2).val ∧ (j 2).val = (i 3).val := by
  have s0 : scatter_S32x4x512x512_S1_S4x512x512_012_0_0_0.start j lastWord (0 : Fin 4) = 31 := rfl
  have s1 : scatter_S32x4x512x512_S1_S4x512x512_012_0_0_0.start j lastWord (1 : Fin 4) = 0 := rfl
  have s2 : scatter_S32x4x512x512_S1_S4x512x512_012_0_0_0.start j lastWord (2 : Fin 4) = 0 := rfl
  have s3 : scatter_S32x4x512x512_S1_S4x512x512_012_0_0_0.start j lastWord (3 : Fin 4) = 0 := rfl
  have w0 : scatter_S32x4x512x512_S1_S4x512x512_012_0_0_0.window j (0 : Fin 4) = 0 := rfl
  have w1 : scatter_S32x4x512x512_S1_S4x512x512_012_0_0_0.window j (1 : Fin 4) = (j 0).val := rfl
  have w2 : scatter_S32x4x512x512_S1_S4x512x512_012_0_0_0.window j (2 : Fin 4) = (j 1).val := rfl
  have w3 : scatter_S32x4x512x512_S1_S4x512x512_012_0_0_0.window j (3 : Fin 4) = (j 2).val := rfl
  rw [Routing.resultIdx?_eq_some]
  constructor
  · intro h
    have h0 := h (0 : Fin 4); have h1 := h (1 : Fin 4); have h2 := h (2 : Fin 4); have h3 := h (3 : Fin 4)
    rw [s0, w0] at h0; rw [s1, w1] at h1; rw [s2, w2] at h2; rw [s3, w3] at h3
    exact ⟨by omega, by omega, by omega, by omega⟩
  · rintro ⟨h0, h1, h2, h3⟩ (a : Fin 4)
    have r0 : (31 : Int) + ((0 : ℕ) : Int) = ((i 0).val : Int) := by omega
    have r1 : (0 : Int) + ((j 0).val : Int) = ((i 1).val : Int) := by omega
    have r2 : (0 : Int) + ((j 1).val : Int) = ((i 2).val : Int) := by omega
    have r3 : (0 : Int) + ((j 2).val : Int) = ((i 3).val : Int) := by omega
    match a with
    | ⟨0, _⟩ => exact (congrArg₂ (fun (a : Int) (b : Nat) => a + (b : Int)) s0 w0).trans r0
    | ⟨1, _⟩ => exact (congrArg₂ (fun (a : Int) (b : Nat) => a + (b : Int)) s1 w1).trans r1
    | ⟨2, _⟩ => exact (congrArg₂ (fun (a : Int) (b : Nat) => a + (b : Int)) s2 w2).trans r2
    | ⟨3, _⟩ => exact (congrArg₂ (fun (a : Int) (b : Nat) => a + (b : Int)) s3 w3).trans r3

theorem result_at (p : Picture) :
    extractStridedSlice S32x3x512x512 ![0, 0, 0, 0] (Host.scatter scatter_S32x4x512x512_S1_S4x512x512_012_0_0_0 (fun _ b => b) (fun _ => one) lastWord p)
      slices_S32x4x512x512_S32x3x512x512_0_0_0_0 = lastPicture p := by
  funext i
  rw [Pointwise.extractStridedSlice_apply]
  generalize hq : Shape.Idx.norm _ = q
  have q0 : (q 0).val = (i 0).val := by rw [← hq]; exact Nat.zero_add _
  have q1 : (q 1).val = (i 1).val := by rw [← hq]; exact Nat.zero_add _
  have q2 : (q 2).val = (i 2).val := by rw [← hq]; exact Nat.zero_add _
  have q3 : (q 3).val = (i 3).val := by rw [← hq]; exact Nat.zero_add _
  unfold lastPicture
  by_cases h : (i 0).val = 31
  · rw [if_pos h]
    refine Routing.scatter_set_hit _ _ _ _ _ _ (fun k hk => congrArg p ?_) (ix3 ⟨(i 1).val, lt_of_lt_of_le (i 1).isLt (Nat.le_succ 3)⟩ (i 2) (i 3)) ?_
    · obtain ⟨-, h1, h2, h3⟩ := (lands k q).mp hk
      funext a
      apply Fin.ext
      match a with
      | ⟨0, _⟩ => exact h1.trans q1
      | ⟨1, _⟩ => exact h2.trans q2
      | ⟨2, _⟩ => exact h3.trans q3
    · exact (lands _ q).mpr ⟨(q0.trans h).symm, q1.symm, q2.symm, q3.symm⟩
  · rw [if_neg h]
    refine Routing.scatter_set_miss _ _ _ _ _ fun k hk => h ?_
    rw [← q0]; exact ((lands k q).mp hk).1.symm

/-- The colours of a stack of pictures with its last replaced. -/
def stacked (x : FVec Ideal S32x4x512x512 .f32) (p : Picture) : FVec Ideal S32x3x512x512 .f32 :=
  extractStridedSlice S32x3x512x512 ![0, 0, 0, 0] (Host.scatter scatter_S32x4x512x512_S1_S4x512x512_012_0_0_0 (fun _ b => b) x lastWord p)
    slices_S32x4x512x512_S32x3x512x512_0_0_0_0

variable (m : (ℓ : Loc nD τ sig) → Buf (Elt Ideal) ℓ) (c : Dev nD)

/-- What the reference leaves. -/
theorem last_result : last m c (Proc.devRef .tc main_v36) = lastPicture (imageAt m c 512) := by
  rw [last_eq]
  have h0 : after test (at_ m 512 c) (Proc.devRef .tc main_v0) = fun _ => one := by
    rw [after_of_writes_sub test _ test_writes (by decide +kernel), at_keep m c main_v0 (by decide +kernel)]
    exact Entry.v0_eq m c
  have h8 : after test (at_ m 512 c) (Proc.devRef .tc main_v33_8) = imageAt m c 512 :=
    after_of_writes_sub test _ test_writes (by decide +kernel)
  refine Eq.trans ?_ ((congrArg₂ stacked h0 h8).trans (result_at (imageAt m c 512)))
  generalize at_ m 512 c = Y
  unfold stacked
  after_results_simp
  all_goals rfl

end Cert.ReferenceIdeal.Step
-- ==== Proof.IValue.lean ====
/- The kernel's result at the reals: pictures of ones, the last with the rows inside the picture pasted in the order of
   their keys. -/
module

public import proofs.«01_k».proof.Proof.IWords
public import proofs.«01_k».proof.Proof.IBlend
public import proofs.«01_k».proof.Proof.RValue
public import Idealize.ShloMosaic.Lib.Pipeline.ValueKit

@[expose] public section

set_option maxRecDepth 16384

noncomputable section

namespace Cert.KernelIdeal.Value

open Cert.KernelIdeal Cert.KernelIdeal.Gen Cert.KernelIdeal.Paste
open Idealize.ShloMosaic Idealize.ShloMosaic.TcCoe Idealize.SL.Sem
open Cert.Spec (at512 validRow)
open Cert.ReferenceIdeal.Step (Xs Picture Sheets pasteRow lastPicture one)

variable (m : (ℓ : Loc nD τ sig) → Buf (Elt Ideal) ℓ) (ρ : Dev nD → PrngReg) (c : Dev nD)

/-- The rows and the sprites the kernel is given. -/
abbrev A0 : Xs := V m c main_arg0
abbrev I1 : Sheets := V m c main_arg1

/-- The last point. -/
def lastPoint : Fin grid0.N := ⟨31, by decide⟩
theorem last_on : k0_cond2 (grid0.coords lastPoint) = 1#1 := (cond2_iff lastPoint).mpr rfl

/-- The canvas before a trip. -/
def canvasOf (k : ℕ) : Picture :=
  canvasAt (F := Ideal) (grid0.coords lastPoint) last_on (V m c main_v66) (V m c main_v73) (V m c main_v80) (V m c main_arg1) k

theorem place_eq {k : ℕ} (hk : k < 512) : place k = at512 ⟨k, hk⟩ := by
  funext a
  match a with
  | ⟨0, _⟩ => exact Fin.ext (Nat.mod_eq_of_lt hk)

theorem clip_toNat (w : BitVec 32) (h : 0 ≤ w.toInt) : (IntOp.minsi 448#32 (IntOp.maxsi 0#32 w)).toNat = min w.toInt.toNat 448 := by
  unfold IntOp.minsi IntOp.maxsi
  simp only [BitVec.slt_eq_decide, decide_eq_true_eq]
  have h448 : (448#32).toInt = 448 := by decide
  have h0 : (0#32).toInt = 0 := by decide
  rw [h0, if_neg (show ¬ w.toInt < 0 by omega), h448]
  have hw := BitVec.toInt_eq_toNat_cond w
  have := w.isLt
  by_cases h1 : 448 < w.toInt
  · rw [if_pos h1]
    show 448 = _
    omega
  · rw [if_neg h1]
    split at hw <;> omega

/-- A word of a list at a trip. -/
theorem word_at (A : Xs) (x : IVec S512 32) {k : ℕ} (hk : k < 512) (n : Fin 512)
    (hn : Spec.order (Spec.key A) (at512 ⟨k, hk⟩) = BitVec.ofNat 32 n.val) :
    listAt (F := Ideal) (Spec.taken x (Spec.order (Spec.key A))) k = x (at512 n) := by
  unfold listAt
  rw [place_eq hk]
  exact Spec.taken_at x _ ⟨k, hk⟩ n hn

/-- A trip whose words are a row's pastes that row. -/
theorem canvas_succ (i : grid0.Coords) (h2 : k0_cond2 i = 1#1) (x1 x2 x3 : Vec Ideal S512 .i32) (fi : ImgsC Ideal) (k : ℕ) (A : Xs) (n : Fin 512)
    (l1 : listAt (F := Ideal) x1 k = Spec.clip (Spec.x1 A) (at512 n)) (l2 : listAt (F := Ideal) x2 k = Spec.clip (Spec.y1 A) (at512 n))
    (l3 : listAt (F := Ideal) x3 k = Spec.best (Spec.scores A) (at512 n)) (hv : Spec.valid A (at512 n) = 1#1) :
    canvasAt (F := Ideal) i h2 x1 x2 x3 fi (k + 1) = pasteRow A fi (canvasAt (F := Ideal) i h2 x1 x2 x3 fi k) n := by
  obtain ⟨px, py⟩ := Spec.low_of_valid A n hv
  have c1 : (Spec.clip (Spec.x1 A) (at512 n)).toNat = min (Spec.x1 A (at512 n)).toInt.toNat 448 := clip_toNat _ px
  have c2 : (Spec.clip (Spec.y1 A) (at512 n)).toNat = min (Spec.y1 A (at512 n)).toInt.toNat 448 := clip_toNat _ py
  show nextCanvas (F := Ideal) i h2 (listAt x1 k) (listAt x2 k) (listAt x3 k) fi (canvasAt (F := Ideal) i h2 x1 x2 x3 fi k) = _
  generalize canvasAt (F := Ideal) i h2 x1 x2 x3 fi k = img
  rw [l1, l2, l3, next_eq _ _ _ _ _ _ _ (Spec.clip_le _ _) (Spec.clip_le _ _) (Spec.best_lt _ _), c1, c2]
  rfl

/-- A trip pastes its row. -/
theorem paste_step {k : ℕ} (hk : k < 512) (n : Fin 512)
    (hn : Spec.order (Spec.key (A0 m c)) (at512 ⟨k, hk⟩) = BitVec.ofNat 32 n.val) (hv : Spec.valid (A0 m c) (at512 n) = 1#1) :
    canvasOf m c (k + 1) = pasteRow (A0 m c) (I1 m c) (canvasOf m c k) n :=
  canvas_succ _ _ _ _ _ _ k (A0 m c) n
    ((congrArg (fun x => listAt (F := Ideal) x k) (Host.list1_eq m c)).trans (word_at (A0 m c) _ hk n hn))
    ((congrArg (fun x => listAt (F := Ideal) x k) (Host.list2_eq m c)).trans (word_at (A0 m c) _ hk n hn))
    ((congrArg (fun x => listAt (F := Ideal) x k) (Host.list3_eq m c)).trans (word_at (A0 m c) _ hk n hn)) hv

theorem canvas_start : canvasOf m c 0 = fun _ => one := by
  show shapeCast S4x512x512 (broadcast S4x512x512 one) shapeCasts_S4x512x512_S4x512x512 = _
  rw [shapeCast_self]
  rfl

/-- How many trips there are. -/
def trips : ℕ := (countOf (F := Ideal) (V m c main_v59)).toNat

theorem count_rows (v : IVec S512 1) :
    (countOf (F := Ideal) (shapeCast S1 (Spec.howMany v) shapeCasts_S_S1)).toNat = ((List.finRange 512).filter (validRow v)).length := by
  unfold countOf shapeCast
  exact Spec.howMany_eq v _

theorem trips_eq_rows : trips m c = ((List.finRange 512).filter (validRow (Spec.valid (A0 m c)))).length := by
  exact (congrArg (fun x => (countOf (F := Ideal) x).toNat) (Host.count_eq m c)).trans (count_rows _)

theorem block_at (x : FVec Ideal S3x512x512 .f32) (h : Shape.ShapeCasts S3x512x512 S1x3x512x512) (o : Fin 1) (a : Fin 3) (r k : Fin 512) :
    shapeCast S1x3x512x512 x h (ix4 o a r k) = x (ix3 a r k) := by
  pointwise

/-- The last block. -/
theorem last_block (y : S1x3x512x512.Idx) :
    outAt (F := Ideal) m c lastPoint y = canvasOf m c (trips m c) (ix3 ⟨(y 1).val, lt_of_lt_of_le (y 1).isLt (Nat.le_succ 3)⟩ (y 2) (y 3)) := by
  unfold outAt
  rw [dif_pos last_on, blk_0, blk_1, blk_2, blk_3]
  unfold outLast k0_pay5
  rw [eq_ix4 y]
  refine (block_at _ _ _ _ _ _).trans ?_
  show canvasOf m c (trips m c) _ = canvasOf m c (trips m c) _
  refine congrArg (canvasOf m c (trips m c)) (funext fun a => Fin.ext ?_)
  match a with
  | ⟨0, _⟩ => show 0 + 1 * (y 1).val = (y 1).val; omega
  | ⟨1, _⟩ => show 0 + 1 * (y 2).val = (y 2).val; omega
  | ⟨2, _⟩ => show 0 + 1 * (y 3).val = (y 3).val; omega

theorem other_block (t : Fin cfg0.N) (ht : t.val ≠ 31) (y : S1x3x512x512.Idx) : outAt (F := Ideal) m c t y = one := by
  unfold outAt
  rw [dif_neg fun h => ht ((cond2_iff t).mp h)]
  rfl

theorem index_eq : ∀ t : Fin cfg0.N, (cfg0.win 4).index t = ![t.val, 0, 0, 0] := by decide +kernel

/-- What the result's array ends at. -/
theorem result_eq : (dats (F := Ideal) m 0 c).arrAt 4 cfg0.N = lastPicture (canvasOf m c (trips m c)) := by
  refine (dats (F := Ideal) m 0 c).arrAt_eq_of_covers 4 (lastPicture (canvasOf m c (trips m c))) (by decide +kernel) fun t hf y => ?_
  rw [after_4]
  have e (a : Fin 4) : (((cfg0.win 4).rect t).emb y a).val = (cfg0.win 4).index t a * S1x3x512x512.size a + (y a).val :=
    Pipeline.Window.rect_emb_val win0_4 t y a
  rw [index_eq t] at e
  have e0 : (((cfg0.win 4).rect t).emb y 0).val = t.val := (e 0).trans (by
    have h : (y 0).val < 1 := (y 0).isLt
    show t.val * 1 + (y 0).val = t.val; omega)
  have e1 : (((cfg0.win 4).rect t).emb y 1).val = (y 1).val := (e 1).trans (by show 0 * 3 + (y 1).val = _; omega)
  have e2 : (((cfg0.win 4).rect t).emb y 2).val = (y 2).val := (e 2).trans (by show 0 * 512 + (y 2).val = _; omega)
  have e3 : (((cfg0.win 4).rect t).emb y 3).val = (y 3).val := (e 3).trans (by show 0 * 512 + (y 3).val = _; omega)
  show outAt (F := Ideal) m c t y = lastPicture (canvasOf m c (trips m c)) (((cfg0.win 4).rect t).emb y)
  unfold lastPicture
  by_cases h : t.val = 31
  · rw [if_pos (e0.trans h)]
    have ht : t = lastPoint := Fin.ext h
    refine (congrArg (fun u => outAt (F := Ideal) m c u y) ht).trans ((last_block m c y).trans ?_)
    refine congrArg (canvasOf m c (trips m c)) (funext fun a => Fin.ext ?_)
    match a with
    | ⟨0, _⟩ => exact e1.symm
    | ⟨1, _⟩ => exact e2.symm
    | ⟨2, _⟩ => exact e3.symm
  · rw [if_neg fun h' => h (e0.symm.trans h')]
    exact other_block m c t h y

end Cert.KernelIdeal.Value
-- ==== Proof.Agree.lean ====
/- The two programs agree: the reference pastes the rows inside the picture in the order of their depths, skipping the
   others; the kernel pastes the first rows of an order in which the others come last. -/
module

public import proofs.«01_k».proof.Proof.IValue
public import proofs.«01_k».proof.Proof.Sorting
public import proofs.«01_k».proof.Pre_depths_below_infinity

@[expose] public section

set_option maxRecDepth 16384

noncomputable section

namespace Cert.Agree

open Cert.KernelIdeal Cert.KernelIdeal.Gen Cert.KernelIdeal.Value
open Idealize.ShloMosaic Idealize.ShloMosaic.TcCoe Idealize.SL.Sem
open Cert.Spec (at512 validRow sortedBy)
open Cert.Spec (paste_agree byKey sort_head)
open Cert.ReferenceIdeal.Step (Xs Picture Sheets pasteRow lastPicture one X0 I0 imageAt)

theorem infinity : Ideal.ofBits .f32 0x7F800000#32 = (⊤ : EReal) := by
  show Ideal.ieee 8 23 0x7F800000#32 = ⊤
  unfold Ideal.ieee
  rw [if_pos (by decide)]
  decide

theorem key_in (A : Xs) (n : Fin 512) (h : validRow (Spec.valid A) n = true) : Spec.key A (at512 n) = Spec.depth A (at512 n) := by
  unfold Spec.key
  exact sel_on (eq_of_beq h) _ _

theorem key_out (A : Xs) (n : Fin 512) (h : validRow (Spec.valid A) n = false) : Spec.key A (at512 n) = (⊤ : EReal) := by
  unfold Spec.key
  refine (sel_off (fun h' => ?_) _ _).trans infinity
  have : validRow (Spec.valid A) n = true := beq_iff_eq.mpr h'
  rw [h] at this
  exact absurd this (by decide)

theorem depth_at (A : Xs) (n : Fin 512) : Spec.depth A (at512 n) = A (ix3 31 n 4) := by
  show Spec.depth A (ix1 n) = _
  pointwise [Spec.depth, Spec.rows]

instance pre_facts : Cert.Pre_depths_below_infinity.Facts where
  slices_S32x512x261_S1x512x1_31_0_4 := by decide
  shapeCasts_S1x512x1_S512 := by decide
  bcast_S_S512 := by decide

theorem pre_at (A : Xs) (I : Sheets) (h : Cert.Pre_depths_below_infinity.fn (F := Ideal) A I = fun _ => 1#1) (n : Fin 512) :
    (A (ix3 31 n 4) : EReal) < ⊤ := by
  have hn := congrFun h (ix1 n)
  revert hn
  pointwise [Cert.Pre_depths_below_infinity.fn]
  rw [infinity]
  intro hn
  by_contra hc
  rw [decide_eq_false hc] at hn
  exact absurd hn (by decide)

/-- The first elements of a sort in which those of a kind come first are of the kind. -/
theorem head_kind {ι α : Type} [LinearOrder α] (f g : ι → α) (p : ι → Bool) (l : List ι)
    (hfg : ∀ a b, p a = true → p b = true → (g a < g b ↔ f a < f b))
    (hlt : ∀ a b, p a = true → p b = false → g a < g b) (heq : ∀ a b, p a = false → p b = false → ¬ g a < g b)
    (k : ℕ) (hk : k < (stableSort (byKey g) l).length) (hc : k < (l.filter p).length) : p (stableSort (byKey g) l)[k] = true := by
  have hm := List.getElem_mem (l := (stableSort (byKey g) l).take (l.filter p).length) (n := k) (by rw [List.length_take, lt_min_iff]; exact ⟨hc, hk⟩)
  rw [List.getElem_take] at hm
  have hm' : (stableSort (byKey g) l)[k] ∈ (stableSort (byKey f) l).filter p := Eq.mp (congrArg (_ ∈ ·) (sort_head f g p hfg hlt heq l)) hm
  exact (List.mem_filter.mp hm').2

section Keys

variable (A : Xs)

theorem keys_inside (a b : Fin 512) (ha : validRow (Spec.valid A) a = true) (hb : validRow (Spec.valid A) b = true) :
    ((Spec.key A (at512 a) : EReal) < Spec.key A (at512 b) ↔ (Spec.depth A (at512 a) : EReal) < Spec.depth A (at512 b)) := by
  rw [key_in A a ha, key_in A b hb]

theorem keys_across (hd : ∀ n : Fin 512, (Spec.depth A (at512 n) : EReal) < ⊤) (a b : Fin 512) (ha : validRow (Spec.valid A) a = true)
    (hb : validRow (Spec.valid A) b = false) : (Spec.key A (at512 a) : EReal) < Spec.key A (at512 b) := by
  rw [key_in A a ha, key_out A b hb]
  exact hd a

theorem keys_outside (a b : Fin 512) (ha : validRow (Spec.valid A) a = false) (hb : validRow (Spec.valid A) b = false) :
    ¬ (Spec.key A (at512 a) : EReal) < Spec.key A (at512 b) := by
  rw [key_out A a ha, key_out A b hb]
  exact lt_irrefl _

end Keys

/-- The two pictures are the same. -/
theorem pictures_agree (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hA : X0 m' c = A0 m c) (hI : I0 m' c = I1 m c) (hd : ∀ n : Fin 512, (Spec.depth (A0 m c) (at512 n) : EReal) < ⊤) :
    imageAt m' c 512 = canvasOf m c (trips m c) := by
  have hs := @Cert.ReferenceIdeal.Step.step m' c
  have hp := @paste_step m c
  rw [hA, hI] at hs
  rw [trips_eq_rows]
  generalize A0 m c = A at hs hp hd ⊢
  generalize I1 m c = I at hs hp
  refine (congrArg (imageAt m' c) (List.length_finRange (n := 512)).symm).trans ?_
  refine paste_agree (fun k : Fin 512 => (Spec.depth A (at512 k) : EReal)) (fun k : Fin 512 => (Spec.key A (at512 k) : EReal)) (validRow (Spec.valid A))
    (List.finRange 512) (keys_inside A) (keys_across A hd) (keys_outside A) (fun s n => pasteRow A I s n) (imageAt m' c) (canvasOf m c) ?_ ?_ ?_
  · rw [Cert.ReferenceIdeal.Step.start, canvas_start]
  · intro k hk
    have h512 : k < 512 := by rw [length_stableSort, List.length_finRange] at hk; exact hk
    exact hs h512 _ (Spec.order_at (Spec.depth A) ⟨k, h512⟩)
  · intro k hk hc
    have h512 : k < 512 := by rw [length_stableSort, List.length_finRange] at hk; exact hk
    exact hp h512 _ (Spec.order_at (Spec.key A) ⟨k, h512⟩) (eq_of_beq (head_kind _ _ _ _ (keys_inside A) (keys_across A hd) (keys_outside A) k hk hc))

end Cert.Agree
-- ==== Proof.Algebra.lean ====
/- The kernel and the reference leave the same pictures. -/
module

public import proofs.«01_k».proof.Defs
public import proofs.«01_k».proof.Proof.Agree
public import proofs.«01_k».proof.Proof.RFrame

@[expose] public section

set_option maxRecDepth 16384

noncomputable section

namespace Cert.Agree

open Cert.KernelIdeal.Gen Cert.KernelIdeal.Value Cert.KernelIdeal.Paste
open Idealize.ShloMosaic Idealize.ShloMosaic.TcCoe Idealize.SL.Sem
open Cert.ReferenceIdeal.Step (Xs Picture Sheets pasteRow lastPicture one X0 I0 imageAt)

section Kernel

open Cert.KernelIdeal

variable (m : (ℓ : Loc nD τ sig) → Buf (Elt Ideal) ℓ) (ρ : Dev nD → PrngReg)

/-- What the kernel's runs end at. -/
theorem kernel_ends : θ_run (defs (F := Ideal)) (onTc (τ := τ) (main (F := Ideal))) ⟨m, fun _ => 0, ρ⟩ (fun r => ∀ c : Dev nD,
    r.2.mem ((c.tc : Thread nD τ).loc main_v81) = lastPicture (canvasOf m c (trips m c))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h.1 c).1 4).trans (result_eq m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩)
    (run_main m ρ fun c => words m c)

end Kernel

section Reference

open Cert.ReferenceIdeal Cert.ReferenceIdeal.Fold

variable (m : (ℓ : Loc nD τ sig) → Buf (Elt Ideal) ℓ) (ρ : Dev nD → PrngReg)

/-- What the reference's runs end at. -/
theorem reference_ends : θ_run (defs (F := Ideal)) (onTc (τ := τ) (main (F := Ideal))) ⟨m, fun _ => 0, ρ⟩ (fun r => ∀ c : Dev nD,
    r.2.mem ((c.tc : Thread nD τ).loc main_v36) = lastPicture (imageAt m c 512)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨(h.1 c main_v36 rfl).trans (Step.last_result m c), (h.1 c main_arg0 rfl).trans (last_arg0 m c),
      (h.1 c main_arg1 rfl).trans (last_arg1 m c)⟩)
    (run m ρ)

end Reference

theorem algebraic : Cert.algebraic_KernelIdeal_ReferenceIdeal_pre_depths_below_infinity := fun m g m' g' hpre hargs => by
  have same (c : Dev Cert.KernelIdeal.nD) : lastPicture (imageAt m' c 512) = lastPicture (canvasOf m c (trips m c)) := by
    have hA : X0 m' c = A0 m c := (hargs c).1.trans (V_main_arg0 m c).symm
    have hI : I0 m' c = I1 m c := (hargs c).2.trans (V_main_arg1 m c).symm
    have hP : Cert.Pre_depths_below_infinity.fn (F := Ideal) (A0 m c) (I1 m c) = fun _ => 1#1 :=
      (congrArg₂ (Cert.Pre_depths_below_infinity.fn (F := Ideal)) (V_main_arg0 m c) (V_main_arg1 m c)).trans (hpre c)
    exact congrArg lastPicture (pictures_agree m m' c hA hI fun n => (depth_at (A0 m c) n) ▸ pre_at (A0 m c) (I1 m c) hP n)
  refine ⟨fun c => lastPicture (canvasOf m c (trips m c)), kernel_ends m g, ?_⟩
  exact (θ_run _ _ _).mono (fun r h c => ⟨(h c).1.trans (same c), (h c).2⟩) (reference_ends m' g')

end Cert.Agree
-- ==== Proof.lean ====
/- The claims, put together. -/
module

public import proofs.«01_k».proof.Defs
public import proofs.«01_k».proof.Proof.KWords
public import proofs.«01_k».proof.Proof.IWords
public import proofs.«01_k».proof.Proof.RFrame
public import proofs.«01_k».proof.Proof.Algebra

@[expose] public section

noncomputable section

namespace Cert.Proof

open Idealize.ShloMosaic Idealize.ShloMosaic.TcCoe
open Idealize.SL.Sem

theorem claim : Cert.Claim := ⟨Cert.Kernel.Gen.facts, Cert.KernelIdeal.Gen.facts, Cert.ReferenceIdeal.Gen.facts, Cert.Agree.pre_facts,
  fun m g _ => Cert.Kernel.Paste.frame m g, fun m g _ => Cert.KernelIdeal.Paste.frame m g, fun m g _ => Cert.KernelIdeal.Paste.frame m g,
  fun m g _ => Cert.ReferenceIdeal.Fold.frame m g, fun m g _ => Cert.ReferenceIdeal.Fold.frame m g, trivial, Cert.Agree.algebraic⟩

end Cert.Proof

end
